-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojIdeal_tame_gates [hPre_tame_gates : Cert.Pre_tame_gates.Facts] (m : (ℓ : Loc Cert.OutprojIdeal.nD Cert.OutprojIdeal.τ Cert.OutprojIdeal.sig) → Buf (Elt Ideal) ℓ) : Prop :=
  ∀ c : Dev Cert.OutprojIdeal.nD,
    (Cert.Pre_tame_gates.fn (F := Ideal) (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)) (m ((c.tc : Thread Cert.OutprojIdeal.nD Cert.OutprojIdeal.τ).loc Cert.OutprojIdeal.main_arg3)) (m ((c.tc : Thread Cert.OutprojIdeal.nD Cert.OutprojIdeal.τ).loc Cert.OutprojIdeal.main_arg4)) (m ((c.tc : Thread Cert.OutprojIdeal.nD Cert.OutprojIdeal.τ).loc Cert.OutprojIdeal.main_arg5)) (m ((c.tc : Thread Cert.OutprojIdeal.nD Cert.OutprojIdeal.τ).loc Cert.OutprojIdeal.main_arg6))) = (fun _ => 1#1)

def Pre_OutprojReferenceIdeal (m : (ℓ : Loc Cert.OutprojReferenceIdeal.nD Cert.OutprojReferenceIdeal.τ Cert.OutprojReferenceIdeal.sig) → Buf (Elt Ideal) ℓ) : Prop :=
  True

def Pre_OutprojReferenceIdeal_tame_gates [hPre_tame_gates : Cert.Pre_tame_gates.Facts] (m : (ℓ : Loc Cert.OutprojReferenceIdeal.nD Cert.OutprojReferenceIdeal.τ Cert.OutprojReferenceIdeal.sig) → Buf (Elt Ideal) ℓ) : Prop :=
  ∀ c : Dev Cert.OutprojReferenceIdeal.nD,
    (Cert.Pre_tame_gates.fn (F := Ideal) (m ((c.tc : Thread Cert.OutprojReferenceIdeal.nD Cert.OutprojReferenceIdeal.τ).loc Cert.OutprojReferenceIdeal.main_arg0)) (m ((c.tc : Thread Cert.OutprojReferenceIdeal.nD Cert.OutprojReferenceIdeal.τ).loc Cert.OutprojReferenceIdeal.main_arg1)) (m ((c.tc : Thread Cert.OutprojReferenceIdeal.nD Cert.OutprojReferenceIdeal.τ).loc Cert.OutprojReferenceIdeal.main_arg2)) (m ((c.tc : Thread Cert.OutprojReferenceIdeal.nD Cert.OutprojReferenceIdeal.τ).loc Cert.OutprojReferenceIdeal.main_arg3)) (m ((c.tc : Thread Cert.OutprojReferenceIdeal.nD Cert.OutprojReferenceIdeal.τ).loc Cert.OutprojReferenceIdeal.main_arg4)) (m ((c.tc : Thread Cert.OutprojReferenceIdeal.nD Cert.OutprojReferenceIdeal.τ).loc Cert.OutprojReferenceIdeal.main_arg5)) (m ((c.tc : Thread Cert.OutprojReferenceIdeal.nD Cert.OutprojReferenceIdeal.τ).loc Cert.OutprojReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojIdeal_pre_tame_gates [hOutprojIdeal : Cert.OutprojIdeal.Facts] [hPre_tame_gates : Cert.Pre_tame_gates.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal_tame_gates m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojReferenceIdeal [hOutprojReferenceIdeal : Cert.OutprojReferenceIdeal.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0)

def quiescent_OutprojReferenceIdeal_pre_tame_gates [hOutprojReferenceIdeal : Cert.OutprojReferenceIdeal.Facts] [hPre_tame_gates : Cert.Pre_tame_gates.Facts] : Prop :=
  ∀ (m : (ℓ : Loc Cert.OutprojReferenceIdeal.nD Cert.OutprojReferenceIdeal.τ Cert.OutprojReferenceIdeal.sig) → Buf (Elt Ideal) ℓ) (g : Dev Cert.OutprojReferenceIdeal.nD → PrngReg), Pre_OutprojReferenceIdeal_tame_gates m →
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v0_0)) (v1 : (c : Dev Cert.InprojIdeal.nD) → Buf (Elt Ideal) ((c.tc : Thread Cert.InprojIdeal.nD Cert.InprojIdeal.τ).loc Cert.InprojIdeal.main_v0_1)) (v2 : (c : Dev Cert.InprojIdeal.nD) → Buf (Elt Ideal) ((c.tc : Thread Cert.InprojIdeal.nD Cert.InprojIdeal.τ).loc Cert.InprojIdeal.main_v0_2)) (v3 : (c : Dev Cert.InprojIdeal.nD) → Buf (Elt Ideal) ((c.tc : Thread Cert.InprojIdeal.nD Cert.InprojIdeal.τ).loc Cert.InprojIdeal.main_v0_3)) (v4 : (c : Dev Cert.InprojIdeal.nD) → Buf (Elt Ideal) ((c.tc : Thread Cert.InprojIdeal.nD Cert.InprojIdeal.τ).loc Cert.InprojIdeal.main_v0_4)) (v5 : (c : Dev Cert.InprojIdeal.nD) → Buf (Elt Ideal) ((c.tc : Thread Cert.InprojIdeal.nD Cert.InprojIdeal.τ).loc Cert.InprojIdeal.main_v0_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0_0) = v0 c
          ∧ r.2.mem ((c.tc : Thread Cert.InprojIdeal.nD Cert.InprojIdeal.τ).loc Cert.InprojIdeal.main_v0_1) = v1 c
          ∧ r.2.mem ((c.tc : Thread Cert.InprojIdeal.nD Cert.InprojIdeal.τ).loc Cert.InprojIdeal.main_v0_2) = v2 c
          ∧ r.2.mem ((c.tc : Thread Cert.InprojIdeal.nD Cert.InprojIdeal.τ).loc Cert.InprojIdeal.main_v0_3) = v3 c
          ∧ r.2.mem ((c.tc : Thread Cert.InprojIdeal.nD Cert.InprojIdeal.τ).loc Cert.InprojIdeal.main_v0_4) = v4 c
          ∧ r.2.mem ((c.tc : Thread Cert.InprojIdeal.nD Cert.InprojIdeal.τ).loc Cert.InprojIdeal.main_v0_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v80) = v0 c
          ∧ r.2.mem ((c.tc : Thread Cert.InprojReferenceIdeal.nD Cert.InprojReferenceIdeal.τ).loc Cert.InprojReferenceIdeal.main_v81) = v1 c
          ∧ r.2.mem ((c.tc : Thread Cert.InprojReferenceIdeal.nD Cert.InprojReferenceIdeal.τ).loc Cert.InprojReferenceIdeal.main_v82) = v2 c
          ∧ r.2.mem ((c.tc : Thread Cert.InprojReferenceIdeal.nD Cert.InprojReferenceIdeal.τ).loc Cert.InprojReferenceIdeal.main_v83) = v3 c
          ∧ r.2.mem ((c.tc : Thread Cert.InprojReferenceIdeal.nD Cert.InprojReferenceIdeal.τ).loc Cert.InprojReferenceIdeal.main_v84) = v4 c
          ∧ r.2.mem ((c.tc : Thread Cert.InprojReferenceIdeal.nD Cert.InprojReferenceIdeal.τ).loc Cert.InprojReferenceIdeal.main_v85) = v5 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6))

def preserves_Outproj_OutprojIdeal : Prop :=
  True

def algebraic_OutprojIdeal_OutprojReferenceIdeal_pre_tame_gates [hOutprojIdeal : Cert.OutprojIdeal.Facts] [hOutprojReferenceIdeal : Cert.OutprojReferenceIdeal.Facts] [hPre_tame_gates : Cert.Pre_tame_gates.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojReferenceIdeal.nD Cert.OutprojReferenceIdeal.τ Cert.OutprojReferenceIdeal.sig) → Buf (Elt Ideal) ℓ) (g' : Dev Cert.OutprojReferenceIdeal.nD → PrngReg), Pre_OutprojIdeal_tame_gates m →
    (∀ c : Dev Cert.OutprojIdeal.nD,
      m' ((c.tc : Thread Cert.OutprojReferenceIdeal.nD Cert.OutprojReferenceIdeal.τ).loc Cert.OutprojReferenceIdeal.main_arg0) = m ((c.tc : Thread Cert.OutprojIdeal.nD Cert.OutprojIdeal.τ).loc Cert.OutprojIdeal.main_arg0)
      ∧ m' ((c.tc : Thread Cert.OutprojReferenceIdeal.nD Cert.OutprojReferenceIdeal.τ).loc Cert.OutprojReferenceIdeal.main_arg1) = m ((c.tc : Thread Cert.OutprojIdeal.nD Cert.OutprojIdeal.τ).loc Cert.OutprojIdeal.main_arg1)
      ∧ m' ((c.tc : Thread Cert.OutprojReferenceIdeal.nD Cert.OutprojReferenceIdeal.τ).loc Cert.OutprojReferenceIdeal.main_arg2) = m ((c.tc : Thread Cert.OutprojIdeal.nD Cert.OutprojIdeal.τ).loc Cert.OutprojIdeal.main_arg2)
      ∧ m' ((c.tc : Thread Cert.OutprojReferenceIdeal.nD Cert.OutprojReferenceIdeal.τ).loc Cert.OutprojReferenceIdeal.main_arg3) = m ((c.tc : Thread Cert.OutprojIdeal.nD Cert.OutprojIdeal.τ).loc Cert.OutprojIdeal.main_arg3)
      ∧ m' ((c.tc : Thread Cert.OutprojReferenceIdeal.nD Cert.OutprojReferenceIdeal.τ).loc Cert.OutprojReferenceIdeal.main_arg4) = m ((c.tc : Thread Cert.OutprojIdeal.nD Cert.OutprojIdeal.τ).loc Cert.OutprojIdeal.main_arg4)
      ∧ m' ((c.tc : Thread Cert.OutprojReferenceIdeal.nD Cert.OutprojReferenceIdeal.τ).loc Cert.OutprojReferenceIdeal.main_arg5) = m ((c.tc : Thread Cert.OutprojIdeal.nD Cert.OutprojIdeal.τ).loc Cert.OutprojIdeal.main_arg5)
      ∧ m' ((c.tc : Thread Cert.OutprojReferenceIdeal.nD Cert.OutprojReferenceIdeal.τ).loc Cert.OutprojReferenceIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojReferenceIdeal.defs (F := Ideal)) (onTc (τ := Cert.OutprojReferenceIdeal.τ) (Cert.OutprojReferenceIdeal.main (F := Ideal))) ⟨m', fun _ => 0, g'⟩ (fun r => ∀ c : Dev Cert.OutprojReferenceIdeal.nD,
          r.2.mem ((c.tc : Thread Cert.OutprojReferenceIdeal.nD Cert.OutprojReferenceIdeal.τ).loc Cert.OutprojReferenceIdeal.main_v151) = v0 c
          ∧ r.2.mem ((c.tc : Thread Cert.OutprojReferenceIdeal.nD Cert.OutprojReferenceIdeal.τ).loc Cert.OutprojReferenceIdeal.main_arg0) = m' ((c.tc : Thread Cert.OutprojReferenceIdeal.nD Cert.OutprojReferenceIdeal.τ).loc Cert.OutprojReferenceIdeal.main_arg0)
          ∧ r.2.mem ((c.tc : Thread Cert.OutprojReferenceIdeal.nD Cert.OutprojReferenceIdeal.τ).loc Cert.OutprojReferenceIdeal.main_arg1) = m' ((c.tc : Thread Cert.OutprojReferenceIdeal.nD Cert.OutprojReferenceIdeal.τ).loc Cert.OutprojReferenceIdeal.main_arg1)
          ∧ r.2.mem ((c.tc : Thread Cert.OutprojReferenceIdeal.nD Cert.OutprojReferenceIdeal.τ).loc Cert.OutprojReferenceIdeal.main_arg2) = m' ((c.tc : Thread Cert.OutprojReferenceIdeal.nD Cert.OutprojReferenceIdeal.τ).loc Cert.OutprojReferenceIdeal.main_arg2)
          ∧ r.2.mem ((c.tc : Thread Cert.OutprojReferenceIdeal.nD Cert.OutprojReferenceIdeal.τ).loc Cert.OutprojReferenceIdeal.main_arg3) = m' ((c.tc : Thread Cert.OutprojReferenceIdeal.nD Cert.OutprojReferenceIdeal.τ).loc Cert.OutprojReferenceIdeal.main_arg3)
          ∧ r.2.mem ((c.tc : Thread Cert.OutprojReferenceIdeal.nD Cert.OutprojReferenceIdeal.τ).loc Cert.OutprojReferenceIdeal.main_arg4) = m' ((c.tc : Thread Cert.OutprojReferenceIdeal.nD Cert.OutprojReferenceIdeal.τ).loc Cert.OutprojReferenceIdeal.main_arg4)
          ∧ r.2.mem ((c.tc : Thread Cert.OutprojReferenceIdeal.nD Cert.OutprojReferenceIdeal.τ).loc Cert.OutprojReferenceIdeal.main_arg5) = m' ((c.tc : Thread Cert.OutprojReferenceIdeal.nD Cert.OutprojReferenceIdeal.τ).loc Cert.OutprojReferenceIdeal.main_arg5)
          ∧ r.2.mem ((c.tc : Thread Cert.OutprojReferenceIdeal.nD Cert.OutprojReferenceIdeal.τ).loc Cert.OutprojReferenceIdeal.main_arg6) = m' ((c.tc : Thread Cert.OutprojReferenceIdeal.nD Cert.OutprojReferenceIdeal.τ).loc Cert.OutprojReferenceIdeal.main_arg6))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojReferenceIdeal : Cert.InprojReferenceIdeal.Facts) (hOutproj : Cert.Outproj.Facts) (hOutprojIdeal : Cert.OutprojIdeal.Facts) (hOutprojReferenceIdeal : Cert.OutprojReferenceIdeal.Facts) (hPre_tame : Cert.Pre_tame.Facts) (hPre_tame_gates : Cert.Pre_tame_gates.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Outproj (hOutproj := hOutproj)
    ∧ quiescent_OutprojIdeal (hOutprojIdeal := hOutprojIdeal)
    ∧ quiescent_OutprojIdeal_pre_tame_gates (hOutprojIdeal := hOutprojIdeal) (hPre_tame_gates := hPre_tame_gates)
    ∧ quiescent_OutprojReferenceIdeal (hOutprojReferenceIdeal := hOutprojReferenceIdeal)
    ∧ quiescent_OutprojReferenceIdeal_pre_tame_gates (hOutprojReferenceIdeal := hOutprojReferenceIdeal) (hPre_tame_gates := hPre_tame_gates)
    ∧ preserves_Kernel_KernelIdeal
    ∧ algebraic_KernelIdeal_ReferenceIdeal_pre_tame (hKernelIdeal := hKernelIdeal) (hReferenceIdeal := hReferenceIdeal) (hPre_tame := hPre_tame)
    ∧ preserves_Inproj_InprojIdeal
    ∧ algebraic_InprojIdeal_InprojReferenceIdeal (hInprojIdeal := hInprojIdeal) (hInprojReferenceIdeal := hInprojReferenceIdeal)
    ∧ preserves_Outproj_OutprojIdeal
    ∧ algebraic_OutprojIdeal_OutprojReferenceIdeal_pre_tame_gates (hOutprojIdeal := hOutprojIdeal) (hOutprojReferenceIdeal := hOutprojReferenceIdeal) (hPre_tame_gates := hPre_tame_gates)
-- ==== Pre_tame.lean ====
abbrev S2x8192x768 : Shape := ⟨3, ![2, 8192, 768]⟩
abbrev S2x8192x256 : Shape := ⟨3, ![2, 8192, 256]⟩
abbrev S_ : Shape := ⟨0, ![]⟩

class Facts : Prop where
  bitsLt_bf16_f32 : FTy.bits .bf16 < FTy.bits .f32
  bcast_S_S2x8192x768 : S_.BroadcastsInDim S2x8192x768 (![] : Fin 0 → Fin S2x8192x768.rank)
  reducesTo_S2x8192x768_S_d0_1_2 : S2x8192x768.ReducesTo [0, 1, 2] S_
  h_S_ : 0 < S_.numel
  bcast_S_S2x8192x256 : S_.BroadcastsInDim S2x8192x256 (![] : Fin 0 → Fin S2x8192x256.rank)
  reducesTo_S2x8192x256_S_d0_1_2 : S2x8192x256.ReducesTo [0, 1, 2] S_

variable [Facts]

def fn {F : FTy → Type} [FloatOps F] (main_arg0 : FVec F S2x8192x768 .bf16) (main_arg1 : FVec F S2x8192x256 .bf16) (main_arg2 : FVec F S2x8192x256 .bf16) (main_arg3 : FVec F S2x8192x768 .bf16) : IVec S_ 1 :=
  let main_v0 : FVec F S2x8192x768 .f32 := (extf .f32 · bitsLt_bf16_f32) main_arg0
  let main_v1 : FVec F S2x8192x768 .f32 := Host.absf main_v0
  let main_cst : FVec F S_ .f32 := constant S_ .f32 0x7F800000#32
  let main_v2 : FVec F S2x8192x768 .f32 := broadcastInDim S2x8192x768 ![] bcast_S_S2x8192x768 main_cst
  let main_v3 : IVec S2x8192x768 1 := cmpf .olt main_v1 main_v2
  let main_c : IVec S_ 1 := constantI S_ 1 1#1
  let main_v4 : IVec S_ 1 := (fun x v => Host.reduce IntOp.andi x v reducesTo_S2x8192x768_S_d0_1_2 h_S_) main_v3 main_c
  let main_v5 : FVec F S2x8192x256 .f32 := (extf .f32 · bitsLt_bf16_f32) main_arg1
  let main_v6 : FVec F S2x8192x256 .f32 := Host.absf main_v5
  let main_cst_0 : FVec F S_ .f32 := constant S_ .f32 0x7F800000#32
  let main_v7 : FVec F S2x8192x256 .f32 := broadcastInDim S2x8192x256 ![] bcast_S_S2x8192x256 main_cst_0
  let main_v8 : IVec S2x8192x256 1 := cmpf .olt main_v6 main_v7
  let main_c_1 : IVec S_ 1 := constantI S_ 1 1#1
  let main_v9 : IVec S_ 1 := (fun x v => Host.reduce IntOp.andi x v reducesTo_S2x8192x256_S_d0_1_2 h_S_) main_v8 main_c_1
  let main_v10 : IVec S_ 1 := andi main_v4 main_v9
  let main_v11 : FVec F S2x8192x768 .f32 := (extf .f32 · bitsLt_bf16_f32) main_arg3
  let main_cst_2 : FVec F S_ .f32 := constant S_ .f32 0xFF800000#32
  let main_v12 : FVec F S2x8192x768 .f32 := broadcastInDim S2x8192x768 ![] bcast_S_S2x8192x768 main_cst_2
  let main_v13 : IVec S2x8192x768 1 := cmpf .ogt main_v11 main_v12
  let main_c_3 : IVec S_ 1 := constantI S_ 1 1#1
  let main_v14 : IVec S_ 1 := (fun x v => Host.reduce IntOp.andi x v reducesTo_S2x8192x768_S_d0_1_2 h_S_) main_v13 main_c_3
  let main_v15 : IVec S_ 1 := andi main_v10 main_v14
  main_v15
-- ==== Pre_tame_gates.lean ====
abbrev S16384x1024 : Shape := ⟨2, ![16384, 1024]⟩
abbrev S16384x768 : Shape := ⟨2, ![16384, 768]⟩
abbrev S4x4x128x128 : Shape := ⟨4, ![4, 4, 128, 128]⟩
abbrev S1x512 : Shape := ⟨2, ![1, 512]⟩
abbrev S4x2048x1024 : Shape := ⟨3, ![4, 2048, 1024]⟩
abbrev S16384x512 : Shape := ⟨2, ![16384, 512]⟩
abbrev S_ : Shape := ⟨0, ![]⟩

class Facts : Prop where
  bitsLt_bf16_f32 : FTy.bits .bf16 < FTy.bits .f32
  slices_S16384x1024_S16384x512_0_512 : S16384x1024.Slices ![0, 512] S16384x512
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x1024 .f32) (main_arg1 : FVec F S16384x1024 .bf16) (main_arg2 : FVec F S16384x768 .bf16) (main_arg3 : FVec F S16384x768 .bf16) (main_arg4 : FVec F S4x4x128x128 .bf16) (main_arg5 : FVec F S1x512 .f32) (main_arg6 : FVec F S4x2048x1024 .bf16) : IVec S_ 1 :=
  let main_v0 : FVec F S16384x1024 .f32 := (extf .f32 · bitsLt_bf16_f32) main_arg1
  let main_v1 : FVec F S16384x512 .f32 := (extractStridedSlice S16384x512 ![0, 512] · slices_S16384x1024_S16384x512_0_512) main_v0
  let main_cst : FVec F S_ .f32 := constant S_ .f32 0xFF800000#32
  let main_v2 : FVec F S16384x512 .f32 := broadcastInDim S16384x512 ![] bcast_S_S16384x512 main_cst
  let main_v3 : IVec S16384x512 1 := cmpf .ogt main_v1 main_v2
  let main_c : IVec S_ 1 := constantI S_ 1 1#1
  let main_v4 : IVec S_ 1 := (fun x v => Host.reduce IntOp.andi x v reducesTo_S16384x512_S_d0_1 h_S_) main_v3 main_c
  main_v4
-- ==== Kernel.lean ====
abbrev S2x8192x768 : Shape := ⟨3, ![2, 8192, 768]⟩
abbrev S2x8192x256 : Shape := ⟨3, ![2, 8192, 256]⟩
abbrev S1x512x384 : Shape := ⟨3, ![1, 512, 384]⟩
abbrev S1x8192x128 : Shape := ⟨3, ![1, 8192, 128]⟩
abbrev S1536x256 : Shape := ⟨2, ![1536, 256]⟩
abbrev S1536x128 : Shape := ⟨2, ![1536, 128]⟩
abbrev S512x384 : Shape := ⟨2, ![512, 384]⟩
abbrev S512x128 : Shape := ⟨2, ![512, 128]⟩
abbrev S1x256x128 : Shape := ⟨3, ![1, 256, 128]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S1536 : Shape := ⟨1, ![1536]⟩
abbrev S1536x1 : Shape := ⟨2, ![1536, 1]⟩

abbrev nBuf : Space → Nat
  | .hbm => 5
  | .vmem => 17
  | .smem => 0
  | _ => 0

abbrev bufTy : (tb : Table) → Fin (tcTables nBuf tb) → BufTy
  | .hbm, ⟨0, _⟩ => ⟨S2x8192x768, .bf16⟩
  | .hbm, ⟨1, _⟩ => ⟨S2x8192x256, .bf16⟩
  | .hbm, ⟨2, _⟩ => ⟨S2x8192x256, .bf16⟩
  | .hbm, ⟨3, _⟩ => ⟨S2x8192x768, .bf16⟩
  | .hbm, ⟨4, _⟩ => ⟨S2x8192x768, .bf16⟩
  | .local _ .vmem, ⟨0, _⟩ => ⟨S1x512x384, .bf16⟩
  | .local _ .vmem, ⟨1, _⟩ => ⟨S1x512x384, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x384, .bf16⟩
  | .local _ .vmem, ⟨7, _⟩ => ⟨S1x512x384, .bf16⟩
  | .local _ .vmem, ⟨8, _⟩ => ⟨S1x512x384, .bf16⟩
  | .local _ .vmem, ⟨9, _⟩ => ⟨S1x512x384, .bf16⟩
  | .local _ .vmem, ⟨10, _⟩ => ⟨S1536x256, .f32⟩
  | .local _ .vmem, ⟨11, _⟩ => ⟨S1536x256, .f32⟩
  | .local _ .vmem, ⟨12, _⟩ => ⟨S1536x256, .bf16⟩
  | .local _ .vmem, ⟨13, _⟩ => ⟨S1536x256, .bf16⟩
  | .local _ .vmem, ⟨14, _⟩ => ⟨S1536x128, .f32⟩
  | .local _ .vmem, ⟨15, _⟩ => ⟨S1536x128, .f32⟩
  | .local _ .vmem, ⟨16, _⟩ => ⟨S1536x128, .f32⟩
  | _, _ => ⟨S2x8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 16], ![false, false, false]⟩

def k0_mult1 : BitVec 32 :=
  let c0_i32 : BitVec 32 := 0#32
  c0_i32
def k0_mult2 : BitVec 32 :=
  let c256_i32 : BitVec 32 := 256#32
  c256_i32
@[reducible] def k0_t1_loop : Scf.Loop 32 :=
  let c0_i32_20 : BitVec 32 := 0#32
  let c48_i32 : BitVec 32 := 48#32
  let v34 : BitVec 32 := Scalar.addi c0_i32_20 c48_i32
  let c1_i32 : BitVec 32 := 1#32
  ⟨c0_i32_20, v34, c1_i32⟩
def k0_mult3 (k0_t1 : Fin k0_t1_loop.trips) : BitVec 32 :=
  let c0_i32_20 : BitVec 32 := 0#32
  let c1_i32 : BitVec 32 := 1#32
  let arg15 : BitVec 32 := Scf.iv c0_i32_20 c1_i32 k0_t1
  let c32_i32 : BitVec 32 := 32#32
  let v82 : BitVec 32 := Scalar.muli arg15 c32_i32
  v82
def k0_off1 (k0_t1 : Fin k0_t1_loop.trips) : Fin 2 → Nat :=
  let c0_i32_20 : BitVec 32 := 0#32
  let c1_i32 : BitVec 32 := 1#32
  let arg15 : BitVec 32 := Scf.iv c0_i32_20 c1_i32 k0_t1
  let c32_i32 : BitVec 32 := 32#32
  let v82 : BitVec 32 := Scalar.muli arg15 c32_i32
  let v83 : BitVec 32 := v82
  let v84 : Index := Scalar.indexCast v83
  let c0_59 : Index := 0#32
  ![v84.toNat, 0]
def k0_off2 (k0_t1 : Fin k0_t1_loop.trips) : Fin 2 → Nat :=
  let c0_i32_20 : BitVec 32 := 0#32
  let c1_i32 : BitVec 32 := 1#32
  let arg15 : BitVec 32 := Scf.iv c0_i32_20 c1_i32 k0_t1
  let c32_i32 : BitVec 32 := 32#32
  let v82 : BitVec 32 := Scalar.muli arg15 c32_i32
  let v83 : BitVec 32 := v82
  let v86 : Index := Scalar.indexCast v83
  let c128 : Index := 128#32
  ![v86.toNat, 128]
def k0_off3 (k0_t1 : Fin k0_t1_loop.trips) : Fin 2 → Nat :=
  let c0_i32_20 : BitVec 32 := 0#32
  let c1_i32 : BitVec 32 := 1#32
  let arg15 : BitVec 32 := Scf.iv c0_i32_20 c1_i32 k0_t1
  let c32_i32 : BitVec 32 := 32#32
  let v82 : BitVec 32 := Scalar.muli arg15 c32_i32
  let v83 : BitVec 32 := v82
  let v89 : Index := Scalar.indexCast v83
  let c0_60 : Index := 0#32
  ![v89.toNat, 0]
@[reducible] def k0_t2_loop : Scf.Loop 32 :=
  let c0_i32_22 : BitVec 32 := 0#32
  let c3_i32 : BitVec 32 := 3#32
  let v35 : BitVec 32 := Scalar.addi c0_i32_22 c3_i32
  let c1_i32_23 : BitVec 32 := 1#32
  ⟨c0_i32_22, v35, c1_i32_23⟩
def k0_mult4 (k0_t2 : Fin k0_t2_loop.trips) : BitVec 32 :=
  let c2_i32 : BitVec 32 := 2#32
  let c5_i32 : BitVec 32 := 5#32
  let c0_i32_22 : BitVec 32 := 0#32
  let c1_i32_23 : BitVec 32 := 1#32
  let arg15 : BitVec 32 := Scf.iv c0_i32_22 c1_i32_23 k0_t2
  let v82 : BitVec 32 := Scalar.muli c5_i32 arg15
  let c0_i32_59 : BitVec 32 := 0#32
  let v83 : BitVec 32 := Scalar.addi v82 c0_i32_59
  let v84 : BitVec 32 := Scalar.muli c2_i32 v83
  let c256_i32_60 : BitVec 32 := 256#32
  let v85 : BitVec 32 := Scalar.muli v84 c256_i32_60
  v85
def k0_off4 (k0_t2 : Fin k0_t2_loop.trips) (c0_i32_59 : BitVec 32) : Fin 3 → Nat :=
  let c0_61 : Index := 0#32
  let c2_i32 : BitVec 32 := 2#32
  let c5_i32 : BitVec 32 := 5#32
  let c0_i32_22 : BitVec 32 := 0#32
  let c1_i32_23 : BitVec 32 := 1#32
  let arg15 : BitVec 32 := Scf.iv c0_i32_22 c1_i32_23 k0_t2
  let v82 : BitVec 32 := Scalar.muli c5_i32 arg15
  let v83 : BitVec 32 := Scalar.addi v82 c0_i32_59
  let v84 : BitVec 32 := Scalar.muli c2_i32 v83
  let c256_i32_60 : BitVec 32 := 256#32
  let v85 : BitVec 32 := Scalar.muli v84 c256_i32_60
  let v86 : BitVec 32 := v85
  let v87 : Index := Scalar.indexCast v86
  let c0_62 : Index := 0#32
  ![0, v87.toNat, 0]
def k0_mult5 (k0_t2 : Fin k0_t2_loop.trips) : BitVec 32 :=
  let c2_i32 : BitVec 32 := 2#32
  let c5_i32 : BitVec 32 := 5#32
  let c0_i32_22 : BitVec 32 := 0#32
  let c1_i32_23 : BitVec 32 := 1#32
  let arg15 : BitVec 32 := Scf.iv c0_i32_22 c1_i32_23 k0_t2
  let v82 : BitVec 32 := Scalar.muli c5_i32 arg15
  let c0_i32_59 : BitVec 32 := 0#32
  let v83 : BitVec 32 := Scalar.addi v82 c0_i32_59
  let v84 : BitVec 32 := Scalar.muli c2_i32 v83
  let c2_i32_70 : BitVec 32 := 2#32
  let v97 : BitVec 32 := Scalar.addi v84 c2_i32_70
  let c256_i32_71 : BitVec 32 := 256#32
  let v98 : BitVec 32 := Scalar.muli v97 c256_i32_71
  v98
def k0_off5 (k0_t2 : Fin k0_t2_loop.trips) (c0_i32_59 : BitVec 32) (c2_i32_70 : BitVec 32) : Fin 3 → Nat :=
  let c0_72 : Index := 0#32
  let c2_i32 : BitVec 32 := 2#32
  let c5_i32 : BitVec 32 := 5#32
  let c0_i32_22 : BitVec 32 := 0#32
  let c1_i32_23 : BitVec 32 := 1#32
  let arg15 : BitVec 32 := Scf.iv c0_i32_22 c1_i32_23 k0_t2
  let v82 : BitVec 32 := Scalar.muli c5_i32 arg15
  let v83 : BitVec 32 := Scalar.addi v82 c0_i32_59
  let v84 : BitVec 32 := Scalar.muli c2_i32 v83
  let v97 : BitVec 32 := Scalar.addi v84 c2_i32_70
  let c256_i32_71 : BitVec 32 := 256#32
  let v98 : BitVec 32 := Scalar.muli v97 c256_i32_71
  let v99 : BitVec 32 := v98
  let v100 : Index := Scalar.indexCast v99
  let c0_73 : Index := 0#32
  ![0, v100.toNat, 0]
@[reducible] def k0_t3_loop : Scf.Loop 32 :=
  let c0_i32_77 : BitVec 32 := 0#32
  let c48_i32_78 : BitVec 32 := 48#32
  let v107 : BitVec 32 := Scalar.addi c0_i32_77 c48_i32_78
  let c1_i32_79 : BitVec 32 := 1#32
  ⟨c0_i32_77, v107, c1_i32_79⟩
def k0_mult6 (k0_t3 : Fin k0_t3_loop.trips) : BitVec 32 :=
  let c0_i32_77 : BitVec 32 := 0#32
  let c1_i32_79 : BitVec 32 := 1#32
  let arg16 : BitVec 32 := Scf.iv c0_i32_77 c1_i32_79 k0_t3
  let c32_i32 : BitVec 32 := 32#32
  let v332 : BitVec 32 := Scalar.muli arg16 c32_i32
  v332
def k0_off6 (k0_t3 : Fin k0_t3_loop.trips) : Fin 2 → Nat :=
  let c0_i32_77 : BitVec 32 := 0#32
  let c1_i32_79 : BitVec 32 := 1#32
  let arg16 : BitVec 32 := Scf.iv c0_i32_77 c1_i32_79 k0_t3
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off7 (k0_t3 : Fin k0_t3_loop.trips) : Fin 2 → Nat :=
  let c0_i32_77 : BitVec 32 := 0#32
  let c1_i32_79 : BitVec 32 := 1#32
  let arg16 : BitVec 32 := Scf.iv c0_i32_77 c1_i32_79 k0_t3
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off8 (k0_t3 : Fin k0_t3_loop.trips) : Fin 2 → Nat :=
  let c0_i32_77 : BitVec 32 := 0#32
  let c1_i32_79 : BitVec 32 := 1#32
  let arg16 : BitVec 32 := Scf.iv c0_i32_77 c1_i32_79 k0_t3
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult7 (k0_t2 : Fin k0_t2_loop.trips) : BitVec 32 :=
  let c2_i32 : BitVec 32 := 2#32
  let c5_i32 : BitVec 32 := 5#32
  let c0_i32_22 : BitVec 32 := 0#32
  let c1_i32_23 : BitVec 32 := 1#32
  let arg15 : BitVec 32 := Scf.iv c0_i32_22 c1_i32_23 k0_t2
  let v82 : BitVec 32 := Scalar.muli c5_i32 arg15
  let c0_i32_59 : BitVec 32 := 0#32
  let v83 : BitVec 32 := Scalar.addi v82 c0_i32_59
  let v84 : BitVec 32 := Scalar.muli c2_i32 v83
  let c1_i32_81 : BitVec 32 := 1#32
  let v108 : BitVec 32 := Scalar.addi v84 c1_i32_81
  let c256_i32_82 : BitVec 32 := 256#32
  let v109 : BitVec 32 := Scalar.muli v108 c256_i32_82
  v109
def k0_mult8 (k0_t2 : Fin k0_t2_loop.trips) : BitVec 32 :=
  let c2_i32 : BitVec 32 := 2#32
  let c5_i32 : BitVec 32 := 5#32
  let c0_i32_22 : BitVec 32 := 0#32
  let c1_i32_23 : BitVec 32 := 1#32
  let arg15 : BitVec 32 := Scf.iv c0_i32_22 c1_i32_23 k0_t2
  let v82 : BitVec 32 := Scalar.muli c5_i32 arg15
  let c0_i32_59 : BitVec 32 := 0#32
  let v83 : BitVec 32 := Scalar.addi v82 c0_i32_59
  let v84 : BitVec 32 := Scalar.muli c2_i32 v83
  let c3_i32_92 : BitVec 32 := 3#32
  let v121 : BitVec 32 := Scalar.addi v84 c3_i32_92
  let c256_i32_93 : BitVec 32 := 256#32
  let v122 : BitVec 32 := Scalar.muli v121 c256_i32_93
  v122
@[reducible] def k0_t4_loop : Scf.Loop 32 :=
  let c0_i32_99 : BitVec 32 := 0#32
  let c48_i32_100 : BitVec 32 := 48#32
  let v131 : BitVec 32 := Scalar.addi c0_i32_99 c48_i32_100
  let c1_i32_101 : BitVec 32 := 1#32
  ⟨c0_i32_99, v131, c1_i32_101⟩
def k0_mult9 (k0_t4 : Fin k0_t4_loop.trips) : BitVec 32 :=
  let c0_i32_99 : BitVec 32 := 0#32
  let c1_i32_101 : BitVec 32 := 1#32
  let arg16 : BitVec 32 := Scf.iv c0_i32_99 c1_i32_101 k0_t4
  let c32_i32 : BitVec 32 := 32#32
  let v332 : BitVec 32 := Scalar.muli arg16 c32_i32
  v332
def k0_off9 (k0_t4 : Fin k0_t4_loop.trips) : Fin 2 → Nat :=
  let c0_i32_99 : BitVec 32 := 0#32
  let c1_i32_101 : BitVec 32 := 1#32
  let arg16 : BitVec 32 := Scf.iv c0_i32_99 c1_i32_101 k0_t4
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off10 (k0_t4 : Fin k0_t4_loop.trips) : Fin 2 → Nat :=
  let c0_i32_99 : BitVec 32 := 0#32
  let c1_i32_101 : BitVec 32 := 1#32
  let arg16 : BitVec 32 := Scf.iv c0_i32_99 c1_i32_101 k0_t4
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off11 (k0_t4 : Fin k0_t4_loop.trips) : Fin 2 → Nat :=
  let c0_i32_99 : BitVec 32 := 0#32
  let c1_i32_101 : BitVec 32 := 1#32
  let arg16 : BitVec 32 := Scf.iv c0_i32_99 c1_i32_101 k0_t4
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult10 (k0_t2 : Fin k0_t2_loop.trips) : BitVec 32 :=
  let c2_i32_105 : BitVec 32 := 2#32
  let c5_i32_103 : BitVec 32 := 5#32
  let c0_i32_22 : BitVec 32 := 0#32
  let c1_i32_23 : BitVec 32 := 1#32
  let arg15 : BitVec 32 := Scf.iv c0_i32_22 c1_i32_23 k0_t2
  let v132 : BitVec 32 := Scalar.muli c5_i32_103 arg15
  let c1_i32_104 : BitVec 32 := 1#32
  let v133 : BitVec 32 := Scalar.addi v132 c1_i32_104
  let v134 : BitVec 32 := Scalar.muli c2_i32_105 v133
  let c256_i32_106 : BitVec 32 := 256#32
  let v135 : BitVec 32 := Scalar.muli v134 c256_i32_106
  v135
def k0_mult11 (k0_t2 : Fin k0_t2_loop.trips) : BitVec 32 :=
  let c2_i32_105 : BitVec 32 := 2#32
  let c5_i32_103 : BitVec 32 := 5#32
  let c0_i32_22 : BitVec 32 := 0#32
  let c1_i32_23 : BitVec 32 := 1#32
  let arg15 : BitVec 32 := Scf.iv c0_i32_22 c1_i32_23 k0_t2
  let v132 : BitVec 32 := Scalar.muli c5_i32_103 arg15
  let c1_i32_104 : BitVec 32 := 1#32
  let v133 : BitVec 32 := Scalar.addi v132 c1_i32_104
  let v134 : BitVec 32 := Scalar.muli c2_i32_105 v133
  let c2_i32_116 : BitVec 32 := 2#32
  let v147 : BitVec 32 := Scalar.addi v134 c2_i32_116
  let c256_i32_117 : BitVec 32 := 256#32
  let v148 : BitVec 32 := Scalar.muli v147 c256_i32_117
  v148
@[reducible] def k0_t5_loop : Scf.Loop 32 :=
  let c0_i32_123 : BitVec 32 := 0#32
  let c48_i32_124 : BitVec 32 := 48#32
  let v157 : BitVec 32 := Scalar.addi c0_i32_123 c48_i32_124
  let c1_i32_125 : BitVec 32 := 1#32
  ⟨c0_i32_123, v157, c1_i32_125⟩
def k0_mult12 (k0_t5 : Fin k0_t5_loop.trips) : BitVec 32 :=
  let c0_i32_123 : BitVec 32 := 0#32
  let c1_i32_125 : BitVec 32 := 1#32
  let arg16 : BitVec 32 := Scf.iv c0_i32_123 c1_i32_125 k0_t5
  let c32_i32 : BitVec 32 := 32#32
  let v332 : BitVec 32 := Scalar.muli arg16 c32_i32
  v332
def k0_off12 (k0_t5 : Fin k0_t5_loop.trips) : Fin 2 → Nat :=
  let c0_i32_123 : BitVec 32 := 0#32
  let c1_i32_125 : BitVec 32 := 1#32
  let arg16 : BitVec 32 := Scf.iv c0_i32_123 c1_i32_125 k0_t5
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off13 (k0_t5 : Fin k0_t5_loop.trips) : Fin 2 → Nat :=
  let c0_i32_123 : BitVec 32 := 0#32
  let c1_i32_125 : BitVec 32 := 1#32
  let arg16 : BitVec 32 := Scf.iv c0_i32_123 c1_i32_125 k0_t5
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off14 (k0_t5 : Fin k0_t5_loop.trips) : Fin 2 → Nat :=
  let c0_i32_123 : BitVec 32 := 0#32
  let c1_i32_125 : BitVec 32 := 1#32
  let arg16 : BitVec 32 := Scf.iv c0_i32_123 c1_i32_125 k0_t5
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult13 (k0_t2 : Fin k0_t2_loop.trips) : BitVec 32 :=
  let c2_i32_105 : BitVec 32 := 2#32
  let c5_i32_103 : BitVec 32 := 5#32
  let c0_i32_22 : BitVec 32 := 0#32
  let c1_i32_23 : BitVec 32 := 1#32
  let arg15 : BitVec 32 := Scf.iv c0_i32_22 c1_i32_23 k0_t2
  let v132 : BitVec 32 := Scalar.muli c5_i32_103 arg15
  let c1_i32_104 : BitVec 32 := 1#32
  let v133 : BitVec 32 := Scalar.addi v132 c1_i32_104
  let v134 : BitVec 32 := Scalar.muli c2_i32_105 v133
  let c1_i32_127 : BitVec 32 := 1#32
  let v158 : BitVec 32 := Scalar.addi v134 c1_i32_127
  let c256_i32_128 : BitVec 32 := 256#32
  let v159 : BitVec 32 := Scalar.muli v158 c256_i32_128
  v159
def k0_mult14 (k0_t2 : Fin k0_t2_loop.trips) : BitVec 32 :=
  let c2_i32_105 : BitVec 32 := 2#32
  let c5_i32_103 : BitVec 32 := 5#32
  let c0_i32_22 : BitVec 32 := 0#32
  let c1_i32_23 : BitVec 32 := 1#32
  let arg15 : BitVec 32 := Scf.iv c0_i32_22 c1_i32_23 k0_t2
  let v132 : BitVec 32 := Scalar.muli c5_i32_103 arg15
  let c1_i32_104 : BitVec 32 := 1#32
  let v133 : BitVec 32 := Scalar.addi v132 c1_i32_104
  let v134 : BitVec 32 := Scalar.muli c2_i32_105 v133
  let c3_i32_138 : BitVec 32 := 3#32
  let v171 : BitVec 32 := Scalar.addi v134 c3_i32_138
  let c256_i32_139 : BitVec 32 := 256#32
  let v172 : BitVec 32 := Scalar.muli v171 c256_i32_139
  v172
@[reducible] def k0_t6_loop : Scf.Loop 32 :=
  let c0_i32_145 : BitVec 32 := 0#32
  let c48_i32_146 : BitVec 32 := 48#32
  let v181 : BitVec 32 := Scalar.addi c0_i32_145 c48_i32_146
  let c1_i32_147 : BitVec 32 := 1#32
  ⟨c0_i32_145, v181, c1_i32_147⟩
def k0_mult15 (k0_t6 : Fin k0_t6_loop.trips) : BitVec 32 :=
  let c0_i32_145 : BitVec 32 := 0#32
  let c1_i32_147 : BitVec 32 := 1#32
  let arg16 : BitVec 32 := Scf.iv c0_i32_145 c1_i32_147 k0_t6
  let c32_i32 : BitVec 32 := 32#32
  let v332 : BitVec 32 := Scalar.muli arg16 c32_i32
  v332
def k0_off15 (k0_t6 : Fin k0_t6_loop.trips) : Fin 2 → Nat :=
  let c0_i32_145 : BitVec 32 := 0#32
  let c1_i32_147 : BitVec 32 := 1#32
  let arg16 : BitVec 32 := Scf.iv c0_i32_145 c1_i32_147 k0_t6
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off16 (k0_t6 : Fin k0_t6_loop.trips) : Fin 2 → Nat :=
  let c0_i32_145 : BitVec 32 := 0#32
  let c1_i32_147 : BitVec 32 := 1#32
  let arg16 : BitVec 32 := Scf.iv c0_i32_145 c1_i32_147 k0_t6
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off17 (k0_t6 : Fin k0_t6_loop.trips) : Fin 2 → Nat :=
  let c0_i32_145 : BitVec 32 := 0#32
  let c1_i32_147 : BitVec 32 := 1#32
  let arg16 : BitVec 32 := Scf.iv c0_i32_145 c1_i32_147 k0_t6
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult16 (k0_t2 : Fin k0_t2_loop.trips) : BitVec 32 :=
  let c2_i32_151 : BitVec 32 := 2#32
  let c5_i32_149 : BitVec 32 := 5#32
  let c0_i32_22 : BitVec 32 := 0#32
  let c1_i32_23 : BitVec 32 := 1#32
  let arg15 : BitVec 32 := Scf.iv c0_i32_22 c1_i32_23 k0_t2
  let v182 : BitVec 32 := Scalar.muli c5_i32_149 arg15
  let c2_i32_150 : BitVec 32 := 2#32
  let v183 : BitVec 32 := Scalar.addi v182 c2_i32_150
  let v184 : BitVec 32 := Scalar.muli c2_i32_151 v183
  let c256_i32_152 : BitVec 32 := 256#32
  let v185 : BitVec 32 := Scalar.muli v184 c256_i32_152
  v185
def k0_mult17 (k0_t2 : Fin k0_t2_loop.trips) : BitVec 32 :=
  let c2_i32_151 : BitVec 32 := 2#32
  let c5_i32_149 : BitVec 32 := 5#32
  let c0_i32_22 : BitVec 32 := 0#32
  let c1_i32_23 : BitVec 32 := 1#32
  let arg15 : BitVec 32 := Scf.iv c0_i32_22 c1_i32_23 k0_t2
  let v182 : BitVec 32 := Scalar.muli c5_i32_149 arg15
  let c2_i32_150 : BitVec 32 := 2#32
  let v183 : BitVec 32 := Scalar.addi v182 c2_i32_150
  let v184 : BitVec 32 := Scalar.muli c2_i32_151 v183
  let c2_i32_162 : BitVec 32 := 2#32
  let v197 : BitVec 32 := Scalar.addi v184 c2_i32_162
  let c256_i32_163 : BitVec 32 := 256#32
  let v198 : BitVec 32 := Scalar.muli v197 c256_i32_163
  v198
@[reducible] def k0_t7_loop : Scf.Loop 32 :=
  let c0_i32_169 : BitVec 32 := 0#32
  let c48_i32_170 : BitVec 32 := 48#32
  let v207 : BitVec 32 := Scalar.addi c0_i32_169 c48_i32_170
  let c1_i32_171 : BitVec 32 := 1#32
  ⟨c0_i32_169, v207, c1_i32_171⟩
def k0_mult18 (k0_t7 : Fin k0_t7_loop.trips) : BitVec 32 :=
  let c0_i32_169 : BitVec 32 := 0#32
  let c1_i32_171 : BitVec 32 := 1#32
  let arg16 : BitVec 32 := Scf.iv c0_i32_169 c1_i32_171 k0_t7
  let c32_i32 : BitVec 32 := 32#32
  let v332 : BitVec 32 := Scalar.muli arg16 c32_i32
  v332
def k0_off18 (k0_t7 : Fin k0_t7_loop.trips) : Fin 2 → Nat :=
  let c0_i32_169 : BitVec 32 := 0#32
  let c1_i32_171 : BitVec 32 := 1#32
  let arg16 : BitVec 32 := Scf.iv c0_i32_169 c1_i32_171 k0_t7
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off19 (k0_t7 : Fin k0_t7_loop.trips) : Fin 2 → Nat :=
  let c0_i32_169 : BitVec 32 := 0#32
  let c1_i32_171 : BitVec 32 := 1#32
  let arg16 : BitVec 32 := Scf.iv c0_i32_169 c1_i32_171 k0_t7
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off20 (k0_t7 : Fin k0_t7_loop.trips) : Fin 2 → Nat :=
  let c0_i32_169 : BitVec 32 := 0#32
  let c1_i32_171 : BitVec 32 := 1#32
  let arg16 : BitVec 32 := Scf.iv c0_i32_169 c1_i32_171 k0_t7
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult19 (k0_t2 : Fin k0_t2_loop.trips) : BitVec 32 :=
  let c2_i32_151 : BitVec 32 := 2#32
  let c5_i32_149 : BitVec 32 := 5#32
  let c0_i32_22 : BitVec 32 := 0#32
  let c1_i32_23 : BitVec 32 := 1#32
  let arg15 : BitVec 32 := Scf.iv c0_i32_22 c1_i32_23 k0_t2
  let v182 : BitVec 32 := Scalar.muli c5_i32_149 arg15
  let c2_i32_150 : BitVec 32 := 2#32
  let v183 : BitVec 32 := Scalar.addi v182 c2_i32_150
  let v184 : BitVec 32 := Scalar.muli c2_i32_151 v183
  let c1_i32_173 : BitVec 32 := 1#32
  let v208 : BitVec 32 := Scalar.addi v184 c1_i32_173
  let c256_i32_174 : BitVec 32 := 256#32
  let v209 : BitVec 32 := Scalar.muli v208 c256_i32_174
  v209
def k0_mult20 (k0_t2 : Fin k0_t2_loop.trips) : BitVec 32 :=
  let c2_i32_151 : BitVec 32 := 2#32
  let c5_i32_149 : BitVec 32 := 5#32
  let c0_i32_22 : BitVec 32 := 0#32
  let c1_i32_23 : BitVec 32 := 1#32
  let arg15 : BitVec 32 := Scf.iv c0_i32_22 c1_i32_23 k0_t2
  let v182 : BitVec 32 := Scalar.muli c5_i32_149 arg15
  let c2_i32_150 : BitVec 32 := 2#32
  let v183 : BitVec 32 := Scalar.addi v182 c2_i32_150
  let v184 : BitVec 32 := Scalar.muli c2_i32_151 v183
  let c3_i32_184 : BitVec 32 := 3#32
  let v221 : BitVec 32 := Scalar.addi v184 c3_i32_184
  let c256_i32_185 : BitVec 32 := 256#32
  let v222 : BitVec 32 := Scalar.muli v221 c256_i32_185
  v222
@[reducible] def k0_t8_loop : Scf.Loop 32 :=
  let c0_i32_191 : BitVec 32 := 0#32
  let c48_i32_192 : BitVec 32 := 48#32
  let v231 : BitVec 32 := Scalar.addi c0_i32_191 c48_i32_192
  let c1_i32_193 : BitVec 32 := 1#32
  ⟨c0_i32_191, v231, c1_i32_193⟩
def k0_mult21 (k0_t8 : Fin k0_t8_loop.trips) : BitVec 32 :=
  let c0_i32_191 : BitVec 32 := 0#32
  let c1_i32_193 : BitVec 32 := 1#32
  let arg16 : BitVec 32 := Scf.iv c0_i32_191 c1_i32_193 k0_t8
  let c32_i32 : BitVec 32 := 32#32
  let v332 : BitVec 32 := Scalar.muli arg16 c32_i32
  v332
def k0_off21 (k0_t8 : Fin k0_t8_loop.trips) : Fin 2 → Nat :=
  let c0_i32_191 : BitVec 32 := 0#32
  let c1_i32_193 : BitVec 32 := 1#32
  let arg16 : BitVec 32 := Scf.iv c0_i32_191 c1_i32_193 k0_t8
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off22 (k0_t8 : Fin k0_t8_loop.trips) : Fin 2 → Nat :=
  let c0_i32_191 : BitVec 32 := 0#32
  let c1_i32_193 : BitVec 32 := 1#32
  let arg16 : BitVec 32 := Scf.iv c0_i32_191 c1_i32_193 k0_t8
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off23 (k0_t8 : Fin k0_t8_loop.trips) : Fin 2 → Nat :=
  let c0_i32_191 : BitVec 32 := 0#32
  let c1_i32_193 : BitVec 32 := 1#32
  let arg16 : BitVec 32 := Scf.iv c0_i32_191 c1_i32_193 k0_t8
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult22 (k0_t2 : Fin k0_t2_loop.trips) : BitVec 32 :=
  let c2_i32_197 : BitVec 32 := 2#32
  let c5_i32_195 : BitVec 32 := 5#32
  let c0_i32_22 : BitVec 32 := 0#32
  let c1_i32_23 : BitVec 32 := 1#32
  let arg15 : BitVec 32 := Scf.iv c0_i32_22 c1_i32_23 k0_t2
  let v232 : BitVec 32 := Scalar.muli c5_i32_195 arg15
  let c3_i32_196 : BitVec 32 := 3#32
  let v233 : BitVec 32 := Scalar.addi v232 c3_i32_196
  let v234 : BitVec 32 := Scalar.muli c2_i32_197 v233
  let c256_i32_198 : BitVec 32 := 256#32
  let v235 : BitVec 32 := Scalar.muli v234 c256_i32_198
  v235
def k0_mult23 (k0_t2 : Fin k0_t2_loop.trips) : BitVec 32 :=
  let c2_i32_197 : BitVec 32 := 2#32
  let c5_i32_195 : BitVec 32 := 5#32
  let c0_i32_22 : BitVec 32 := 0#32
  let c1_i32_23 : BitVec 32 := 1#32
  let arg15 : BitVec 32 := Scf.iv c0_i32_22 c1_i32_23 k0_t2
  let v232 : BitVec 32 := Scalar.muli c5_i32_195 arg15
  let c3_i32_196 : BitVec 32 := 3#32
  let v233 : BitVec 32 := Scalar.addi v232 c3_i32_196
  let v234 : BitVec 32 := Scalar.muli c2_i32_197 v233
  let c2_i32_208 : BitVec 32 := 2#32
  let v247 : BitVec 32 := Scalar.addi v234 c2_i32_208
  let c256_i32_209 : BitVec 32 := 256#32
  let v248 : BitVec 32 := Scalar.muli v247 c256_i32_209
  v248
@[reducible] def k0_t9_loop : Scf.Loop 32 :=
  let c0_i32_215 : BitVec 32 := 0#32
  let c48_i32_216 : BitVec 32 := 48#32
  let v257 : BitVec 32 := Scalar.addi c0_i32_215 c48_i32_216
  let c1_i32_217 : BitVec 32 := 1#32
  ⟨c0_i32_215, v257, c1_i32_217⟩
def k0_mult24 (k0_t9 : Fin k0_t9_loop.trips) : BitVec 32 :=
  let c0_i32_215 : BitVec 32 := 0#32
  let c1_i32_217 : BitVec 32 := 1#32
  let arg16 : BitVec 32 := Scf.iv c0_i32_215 c1_i32_217 k0_t9
  let c32_i32 : BitVec 32 := 32#32
  let v332 : BitVec 32 := Scalar.muli arg16 c32_i32
  v332
def k0_off24 (k0_t9 : Fin k0_t9_loop.trips) : Fin 2 → Nat :=
  let c0_i32_215 : BitVec 32 := 0#32
  let c1_i32_217 : BitVec 32 := 1#32
  let arg16 : BitVec 32 := Scf.iv c0_i32_215 c1_i32_217 k0_t9
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off25 (k0_t9 : Fin k0_t9_loop.trips) : Fin 2 → Nat :=
  let c0_i32_215 : BitVec 32 := 0#32
  let c1_i32_217 : BitVec 32 := 1#32
  let arg16 : BitVec 32 := Scf.iv c0_i32_215 c1_i32_217 k0_t9
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off26 (k0_t9 : Fin k0_t9_loop.trips) : Fin 2 → Nat :=
  let c0_i32_215 : BitVec 32 := 0#32
  let c1_i32_217 : BitVec 32 := 1#32
  let arg16 : BitVec 32 := Scf.iv c0_i32_215 c1_i32_217 k0_t9
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult25 (k0_t2 : Fin k0_t2_loop.trips) : BitVec 32 :=
  let c2_i32_197 : BitVec 32 := 2#32
  let c5_i32_195 : BitVec 32 := 5#32
  let c0_i32_22 : BitVec 32 := 0#32
  let c1_i32_23 : BitVec 32 := 1#32
  let arg15 : BitVec 32 := Scf.iv c0_i32_22 c1_i32_23 k0_t2
  let v232 : BitVec 32 := Scalar.muli c5_i32_195 arg15
  let c3_i32_196 : BitVec 32 := 3#32
  let v233 : BitVec 32 := Scalar.addi v232 c3_i32_196
  let v234 : BitVec 32 := Scalar.muli c2_i32_197 v233
  let c1_i32_219 : BitVec 32 := 1#32
  let v258 : BitVec 32 := Scalar.addi v234 c1_i32_219
  let c256_i32_220 : BitVec 32 := 256#32
  let v259 : BitVec 32 := Scalar.muli v258 c256_i32_220
  v259
def k0_mult26 (k0_t2 : Fin k0_t2_loop.trips) : BitVec 32 :=
  let c2_i32_197 : BitVec 32 := 2#32
  let c5_i32_195 : BitVec 32 := 5#32
  let c0_i32_22 : BitVec 32 := 0#32
  let c1_i32_23 : BitVec 32 := 1#32
  let arg15 : BitVec 32 := Scf.iv c0_i32_22 c1_i32_23 k0_t2
  let v232 : BitVec 32 := Scalar.muli c5_i32_195 arg15
  let c3_i32_196 : BitVec 32 := 3#32
  let v233 : BitVec 32 := Scalar.addi v232 c3_i32_196
  let v234 : BitVec 32 := Scalar.muli c2_i32_197 v233
  let c3_i32_230 : BitVec 32 := 3#32
  let v271 : BitVec 32 := Scalar.addi v234 c3_i32_230
  let c256_i32_231 : BitVec 32 := 256#32
  let v272 : BitVec 32 := Scalar.muli v271 c256_i32_231
  v272
@[reducible] def k0_t10_loop : Scf.Loop 32 :=
  let c0_i32_237 : BitVec 32 := 0#32
  let c48_i32_238 : BitVec 32 := 48#32
  let v281 : BitVec 32 := Scalar.addi c0_i32_237 c48_i32_238
  let c1_i32_239 : BitVec 32 := 1#32
  ⟨c0_i32_237, v281, c1_i32_239⟩
def k0_mult27 (k0_t10 : Fin k0_t10_loop.trips) : BitVec 32 :=
  let c0_i32_237 : BitVec 32 := 0#32
  let c1_i32_239 : BitVec 32 := 1#32
  let arg16 : BitVec 32 := Scf.iv c0_i32_237 c1_i32_239 k0_t10
  let c32_i32 : BitVec 32 := 32#32
  let v332 : BitVec 32 := Scalar.muli arg16 c32_i32
  v332
def k0_off27 (k0_t10 : Fin k0_t10_loop.trips) : Fin 2 → Nat :=
  let c0_i32_237 : BitVec 32 := 0#32
  let c1_i32_239 : BitVec 32 := 1#32
  let arg16 : BitVec 32 := Scf.iv c0_i32_237 c1_i32_239 k0_t10
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off28 (k0_t10 : Fin k0_t10_loop.trips) : Fin 2 → Nat :=
  let c0_i32_237 : BitVec 32 := 0#32
  let c1_i32_239 : BitVec 32 := 1#32
  let arg16 : BitVec 32 := Scf.iv c0_i32_237 c1_i32_239 k0_t10
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off29 (k0_t10 : Fin k0_t10_loop.trips) : Fin 2 → Nat :=
  let c0_i32_237 : BitVec 32 := 0#32
  let c1_i32_239 : BitVec 32 := 1#32
  let arg16 : BitVec 32 := Scf.iv c0_i32_237 c1_i32_239 k0_t10
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult28 (k0_t2 : Fin k0_t2_loop.trips) : BitVec 32 :=
  let c2_i32_242 : BitVec 32 := 2#32
  let c5_i32_241 : BitVec 32 := 5#32
  let c0_i32_22 : BitVec 32 := 0#32
  let c1_i32_23 : BitVec 32 := 1#32
  let arg15 : BitVec 32 := Scf.iv c0_i32_22 c1_i32_23 k0_t2
  let v282 : BitVec 32 := Scalar.muli c5_i32_241 arg15
  let c4_i32 : BitVec 32 := 4#32
  let v283 : BitVec 32 := Scalar.addi v282 c4_i32
  let v284 : BitVec 32 := Scalar.muli c2_i32_242 v283
  let c256_i32_243 : BitVec 32 := 256#32
  let v285 : BitVec 32 := Scalar.muli v284 c256_i32_243
  v285
def k0_mult29 (k0_t2 : Fin k0_t2_loop.trips) : BitVec 32 :=
  let c2_i32_242 : BitVec 32 := 2#32
  let c5_i32_241 : BitVec 32 := 5#32
  let c0_i32_22 : BitVec 32 := 0#32
  let c1_i32_23 : BitVec 32 := 1#32
  let arg15 : BitVec 32 := Scf.iv c0_i32_22 c1_i32_23 k0_t2
  let v282 : BitVec 32 := Scalar.muli c5_i32_241 arg15
  let c4_i32 : BitVec 32 := 4#32
  let v283 : BitVec 32 := Scalar.addi v282 c4_i32
  let v284 : BitVec 32 := Scalar.muli c2_i32_242 v283
  let c2_i32_253 : BitVec 32 := 2#32
  let v297 : BitVec 32 := Scalar.addi v284 c2_i32_253
  let c256_i32_254 : BitVec 32 := 256#32
  let v298 : BitVec 32 := Scalar.muli v297 c256_i32_254
  v298
@[reducible] def k0_t11_loop : Scf.Loop 32 :=
  let c0_i32_260 : BitVec 32 := 0#32
  let c48_i32_261 : BitVec 32 := 48#32
  let v307 : BitVec 32 := Scalar.addi c0_i32_260 c48_i32_261
  let c1_i32_262 : BitVec 32 := 1#32
  ⟨c0_i32_260, v307, c1_i32_262⟩
def k0_mult30 (k0_t11 : Fin k0_t11_loop.trips) : BitVec 32 :=
  let c0_i32_260 : BitVec 32 := 0#32
  let c1_i32_262 : BitVec 32 := 1#32
  let arg16 : BitVec 32 := Scf.iv c0_i32_260 c1_i32_262 k0_t11
  let c32_i32 : BitVec 32 := 32#32
  let v332 : BitVec 32 := Scalar.muli arg16 c32_i32
  v332
def k0_off30 (k0_t11 : Fin k0_t11_loop.trips) : Fin 2 → Nat :=
  let c0_i32_260 : BitVec 32 := 0#32
  let c1_i32_262 : BitVec 32 := 1#32
  let arg16 : BitVec 32 := Scf.iv c0_i32_260 c1_i32_262 k0_t11
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off31 (k0_t11 : Fin k0_t11_loop.trips) : Fin 2 → Nat :=
  let c0_i32_260 : BitVec 32 := 0#32
  let c1_i32_262 : BitVec 32 := 1#32
  let arg16 : BitVec 32 := Scf.iv c0_i32_260 c1_i32_262 k0_t11
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off32 (k0_t11 : Fin k0_t11_loop.trips) : Fin 2 → Nat :=
  let c0_i32_260 : BitVec 32 := 0#32
  let c1_i32_262 : BitVec 32 := 1#32
  let arg16 : BitVec 32 := Scf.iv c0_i32_260 c1_i32_262 k0_t11
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult31 (k0_t2 : Fin k0_t2_loop.trips) : BitVec 32 :=
  let c2_i32_242 : BitVec 32 := 2#32
  let c5_i32_241 : BitVec 32 := 5#32
  let c0_i32_22 : BitVec 32 := 0#32
  let c1_i32_23 : BitVec 32 := 1#32
  let arg15 : BitVec 32 := Scf.iv c0_i32_22 c1_i32_23 k0_t2
  let v282 : BitVec 32 := Scalar.muli c5_i32_241 arg15
  let c4_i32 : BitVec 32 := 4#32
  let v283 : BitVec 32 := Scalar.addi v282 c4_i32
  let v284 : BitVec 32 := Scalar.muli c2_i32_242 v283
  let c1_i32_264 : BitVec 32 := 1#32
  let v308 : BitVec 32 := Scalar.addi v284 c1_i32_264
  let c256_i32_265 : BitVec 32 := 256#32
  let v309 : BitVec 32 := Scalar.muli v308 c256_i32_265
  v309
def k0_mult32 (k0_t2 : Fin k0_t2_loop.trips) : BitVec 32 :=
  let c2_i32_242 : BitVec 32 := 2#32
  let c5_i32_241 : BitVec 32 := 5#32
  let c0_i32_22 : BitVec 32 := 0#32
  let c1_i32_23 : BitVec 32 := 1#32
  let arg15 : BitVec 32 := Scf.iv c0_i32_22 c1_i32_23 k0_t2
  let v282 : BitVec 32 := Scalar.muli c5_i32_241 arg15
  let c4_i32 : BitVec 32 := 4#32
  let v283 : BitVec 32 := Scalar.addi v282 c4_i32
  let v284 : BitVec 32 := Scalar.muli c2_i32_242 v283
  let c3_i32_275 : BitVec 32 := 3#32
  let v321 : BitVec 32 := Scalar.addi v284 c3_i32_275
  let c256_i32_276 : BitVec 32 := 256#32
  let v322 : BitVec 32 := Scalar.muli v321 c256_i32_276
  v322
@[reducible] def k0_t12_loop : Scf.Loop 32 :=
  let c0_i32_282 : BitVec 32 := 0#32
  let c48_i32_283 : BitVec 32 := 48#32
  let v331 : BitVec 32 := Scalar.addi c0_i32_282 c48_i32_283
  let c1_i32_284 : BitVec 32 := 1#32
  ⟨c0_i32_282, v331, c1_i32_284⟩
def k0_mult33 (k0_t12 : Fin k0_t12_loop.trips) : BitVec 32 :=
  let c0_i32_282 : BitVec 32 := 0#32
  let c1_i32_284 : BitVec 32 := 1#32
  let arg16 : BitVec 32 := Scf.iv c0_i32_282 c1_i32_284 k0_t12
  let c32_i32 : BitVec 32 := 32#32
  let v332 : BitVec 32 := Scalar.muli arg16 c32_i32
  v332
def k0_off33 (k0_t12 : Fin k0_t12_loop.trips) : Fin 2 → Nat :=
  let c0_i32_282 : BitVec 32 := 0#32
  let c1_i32_284 : BitVec 32 := 1#32
  let arg16 : BitVec 32 := Scf.iv c0_i32_282 c1_i32_284 k0_t12
  let c32_i32 : BitVec 32 := 32#32
  let v332 : BitVec 32 := Scalar.muli arg16 c32_i32
  let v333 : BitVec 32 := v332
  let v334 : Index := Scalar.indexCast v333
  let c0_286 : Index := 0#32
  ![v334.toNat, 0]
def k0_off34 (k0_t12 : Fin k0_t12_loop.trips) : Fin 2 → Nat :=
  let c0_i32_282 : BitVec 32 := 0#32
  let c1_i32_284 : BitVec 32 := 1#32
  let arg16 : BitVec 32 := Scf.iv c0_i32_282 c1_i32_284 k0_t12
  let c32_i32 : BitVec 32 := 32#32
  let v332 : BitVec 32 := Scalar.muli arg16 c32_i32
  let v333 : BitVec 32 := v332
  let v336 : Index := Scalar.indexCast v333
  let c128 : Index := 128#32
  ![v336.toNat, 128]
def k0_off35 (k0_t12 : Fin k0_t12_loop.trips) : Fin 2 → Nat :=
  let c0_i32_282 : BitVec 32 := 0#32
  let c1_i32_284 : BitVec 32 := 1#32
  let arg16 : BitVec 32 := Scf.iv c0_i32_282 c1_i32_284 k0_t12
  let c32_i32 : BitVec 32 := 32#32
  let v332 : BitVec 32 := Scalar.muli arg16 c32_i32
  let v333 : BitVec 32 := v332
  let v339 : Index := Scalar.indexCast v333
  let c0_287 : Index := 0#32
  ![v339.toNat, 0]
def k0_mult34 : BitVec 32 :=
  let c7680_i32 : BitVec 32 := 7680#32
  c7680_i32
@[reducible] def k0_t13_loop : Scf.Loop 32 :=
  let c0_i32_34 : BitVec 32 := 0#32
  let c48_i32_35 : BitVec 32 := 48#32
  let v47 : BitVec 32 := Scalar.addi c0_i32_34 c48_i32_35
  let c1_i32_36 : BitVec 32 := 1#32
  ⟨c0_i32_34, v47, c1_i32_36⟩
def k0_mult35 (k0_t13 : Fin k0_t13_loop.trips) : BitVec 32 :=
  let c0_i32_34 : BitVec 32 := 0#32
  let c1_i32_36 : BitVec 32 := 1#32
  let arg15 : BitVec 32 := Scf.iv c0_i32_34 c1_i32_36 k0_t13
  let c32_i32 : BitVec 32 := 32#32
  let v82 : BitVec 32 := Scalar.muli arg15 c32_i32
  v82
def k0_off36 (k0_t13 : Fin k0_t13_loop.trips) : Fin 2 → Nat :=
  let c0_i32_34 : BitVec 32 := 0#32
  let c1_i32_36 : BitVec 32 := 1#32
  let arg15 : BitVec 32 := Scf.iv c0_i32_34 c1_i32_36 k0_t13
  let c32_i32 : BitVec 32 := 32#32
  let v82 : BitVec 32 := Scalar.muli arg15 c32_i32
  let v83 : BitVec 32 := v82
  let v84 : Index := Scalar.indexCast v83
  let c0_59 : Index := 0#32
  ![v84.toNat, 0]
def k0_off37 (k0_t13 : Fin k0_t13_loop.trips) : Fin 2 → Nat :=
  let c0_i32_34 : BitVec 32 := 0#32
  let c1_i32_36 : BitVec 32 := 1#32
  let arg15 : BitVec 32 := Scf.iv c0_i32_34 c1_i32_36 k0_t13
  let c32_i32 : BitVec 32 := 32#32
  let v82 : BitVec 32 := Scalar.muli arg15 c32_i32
  let v83 : BitVec 32 := v82
  let v86 : Index := Scalar.indexCast v83
  let c128 : Index := 128#32
  ![v86.toNat, 128]
def k0_off38 (k0_t13 : Fin k0_t13_loop.trips) : Fin 2 → Nat :=
  let c0_i32_34 : BitVec 32 := 0#32
  let c1_i32_36 : BitVec 32 := 1#32
  let arg15 : BitVec 32 := Scf.iv c0_i32_34 c1_i32_36 k0_t13
  let c32_i32 : BitVec 32 := 32#32
  let v82 : BitVec 32 := Scalar.muli arg15 c32_i32
  let v83 : BitVec 32 := v82
  let v89 : Index := Scalar.indexCast v83
  let c0_60 : Index := 0#32
  ![v89.toNat, 0]
def k0_mult36 : BitVec 32 :=
  let c7936_i32 : BitVec 32 := 7936#32
  c7936_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8192x768 : Shape := ⟨3, ![2, 8192, 768]⟩
abbrev S2x8192x256 : Shape := ⟨3, ![2, 8192, 256]⟩
abbrev S2x8192x2x3x128 : Shape := ⟨5, ![2, 8192, 2, 3, 128]⟩
abbrev S2x8192x2x128 : Shape := ⟨4, ![2, 8192, 2, 128]⟩
abbrev S2x2x8192x8192x3 : Shape := ⟨5, ![2, 2, 8192, 8192, 3]⟩
abbrev S2x2x3x8192x8192 : Shape := ⟨5, ![2, 2, 3, 8192, 8192]⟩
abbrev S_ : Shape := ⟨0, ![]⟩
abbrev S2x2x3x8192 : Shape := ⟨4, ![2, 2, 3, 8192]⟩
abbrev S2x2x3x8192x1 : Shape := ⟨5, ![2, 2, 3, 8192, 1]⟩
abbrev S2x2x128x3x8192 : Shape := ⟨5, ![2, 2, 128, 3, 8192]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x768, .bf16⟩
  | .hbm, ⟨1, _⟩ => ⟨S2x8192x256, .bf16⟩
  | .hbm, ⟨2, _⟩ => ⟨S2x8192x256, .bf16⟩
  | .hbm, ⟨3, _⟩ => ⟨S2x8192x768, .bf16⟩
  | .hbm, ⟨4, _⟩ => ⟨S2x8192x768, .f32⟩
  | .hbm, ⟨5, _⟩ => ⟨S2x8192x2x3x128, .f32⟩
  | .hbm, ⟨6, _⟩ => ⟨S2x8192x256, .f32⟩
  | .hbm, ⟨7, _⟩ => ⟨S2x8192x2x128, .f32⟩
  | .hbm, ⟨8, _⟩ => ⟨S2x8192x256, .f32⟩
  | .hbm, ⟨9, _⟩ => ⟨S2x8192x2x128, .f32⟩
  | .hbm, ⟨10, _⟩ => ⟨S2x2x8192x8192x3, .f32⟩
  | .hbm, ⟨11, _⟩ => ⟨S2x2x3x8192x8192, .f32⟩
  | .hbm, ⟨12, _⟩ => ⟨S_, .f32⟩
  | .hbm, ⟨13, _⟩ => ⟨S_, .f32⟩
  | .hbm, ⟨14, _⟩ => ⟨S2x2x3x8192x8192, .f32⟩
  | .hbm, ⟨15, _⟩ => ⟨S2x2x3x8192x8192, .f32⟩
  | .hbm, ⟨16, _⟩ => ⟨S_, .f32⟩
  | .hbm, ⟨17, _⟩ => ⟨S2x2x3x8192, .f32⟩
  | .hbm, ⟨18, _⟩ => ⟨S_, .f32⟩
  | .hbm, ⟨19, _⟩ => ⟨S2x2x3x8192, .f32⟩
  | .hbm, ⟨20, _⟩ => ⟨S2x2x3x8192, .f32⟩
  | .hbm, ⟨21, _⟩ => ⟨S2x2x3x8192x1, .f32⟩
  | .hbm, ⟨22, _⟩ => ⟨S2x2x3x8192x8192, .f32⟩
  | .hbm, ⟨23, _⟩ => ⟨S2x2x3x8192x8192, .f32⟩
  | .hbm, ⟨24, _⟩ => ⟨S2x2x3x8192x8192, .f32⟩
  | .hbm, ⟨25, _⟩ => ⟨S_, .f32⟩
  | .hbm, ⟨26, _⟩ => ⟨S2x2x3x8192, .f32⟩
  | .hbm, ⟨27, _⟩ => ⟨S2x2x3x8192x1, .f32⟩
  | .hbm, ⟨28, _⟩ => ⟨S2x2x3x8192x8192, .f32⟩
  | .hbm, ⟨29, _⟩ => ⟨S2x2x3x8192x8192, .f32⟩
  | .hbm, ⟨30, _⟩ => ⟨S2x2x128x3x8192, .f32⟩
  | .hbm, ⟨31, _⟩ => ⟨S2x8192x2x3x128, .f32⟩
  | .hbm, ⟨32, _⟩ => ⟨S2x8192x768, .f32⟩
  | .hbm, ⟨33, _⟩ => ⟨S2x8192x768, .f32⟩
  | .hbm, ⟨34, _⟩ => ⟨S2x8192x768, .f32⟩
  | .hbm, ⟨35, _⟩ => ⟨S2x8192x768, .f32⟩
  | .hbm, ⟨36, _⟩ => ⟨S_, .f32⟩
  | .hbm, ⟨37, _⟩ => ⟨S2x8192x768, .f32⟩
  | .hbm, ⟨38, _⟩ => ⟨S2x8192x768, .f32⟩
  | .hbm, ⟨39, _⟩ => ⟨S_, .f32⟩
  | .hbm, ⟨40, _⟩ => ⟨S2x8192x768, .f32⟩
  | .hbm, ⟨41, _⟩ => ⟨S2x8192x768, .f32⟩
  | .hbm, ⟨42, _⟩ => ⟨S2x8192x768, .f32⟩
  | .hbm, ⟨43, _⟩ => ⟨S2x8192x768, .f32⟩
  | .hbm, ⟨44, _⟩ => ⟨S2x8192x768, .bf16⟩
  | _, _ => ⟨S2x8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Inproj.lean ====
abbrev S16384x1024 : Shape := ⟨2, ![16384, 1024]⟩
abbrev S1x1024 : Shape := ⟨2, ![1, 1024]⟩
abbrev S4x1024x4608 : Shape := ⟨3, ![4, 1024, 4608]⟩
abbrev S1x128 : Shape := ⟨2, ![1, 128]⟩
abbrev S8192x128 : Shape := ⟨2, ![8192, 128]⟩
abbrev S16384x1536 : Shape := ⟨2, ![16384, 1536]⟩
abbrev S16384x768 : Shape := ⟨2, ![16384, 768]⟩
abbrev S16384x256 : Shape := ⟨2, ![16384, 256]⟩
abbrev S512x1024 : Shape := ⟨2, ![512, 1024]⟩
abbrev S1x1024x4608 : Shape := ⟨3, ![1, 1024, 4608]⟩
abbrev S512x128 : Shape := ⟨2, ![512, 128]⟩
abbrev S512x1536 : Shape := ⟨2, ![512, 1536]⟩
abbrev S512x768 : Shape := ⟨2, ![512, 768]⟩
abbrev S512x256 : Shape := ⟨2, ![512, 256]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S1x1024x256 : Shape := ⟨3, ![1, 1024, 256]⟩
abbrev S1024x256 : Shape := ⟨2, ![1024, 256]⟩
abbrev S1x1024x1024 : Shape := ⟨3, ![1, 1024, 1024]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 13
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x4608, .bf16⟩
  | .hbm, ⟨3, _⟩ => ⟨S1x128, .f32⟩
  | .hbm, ⟨4, _⟩ => ⟨S1x128, .f32⟩
  | .hbm, ⟨5, _⟩ => ⟨S8192x128, .f32⟩
  | .hbm, ⟨6, _⟩ => ⟨S8192x128, .f32⟩
  | .hbm, ⟨7, _⟩ => ⟨S16384x1024, .bf16⟩
  | .hbm, ⟨8, _⟩ => ⟨S16384x1536, .bf16⟩
  | .hbm, ⟨9, _⟩ => ⟨S16384x768, .bf16⟩
  | .hbm, ⟨10, _⟩ => ⟨S16384x256, .bf16⟩
  | .hbm, ⟨11, _⟩ => ⟨S16384x256, .bf16⟩
  | .hbm, ⟨12, _⟩ => ⟨S16384x768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4608, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | .local _ .vmem, ⟨12, _⟩ => ⟨S512x1536, .bf16⟩
  | .local _ .vmem, ⟨13, _⟩ => ⟨S512x1536, .bf16⟩
  | .local _ .vmem, ⟨14, _⟩ => ⟨S512x768, .bf16⟩
  | .local _ .vmem, ⟨15, _⟩ => ⟨S512x768, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x768, .bf16⟩
  | .local _ .vmem, ⟨21, _⟩ => ⟨S512x768, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojReferenceIdeal.lean ====
abbrev S16384x1024 : Shape := ⟨2, ![16384, 1024]⟩
abbrev S1x1024 : Shape := ⟨2, ![1, 1024]⟩
abbrev S4x1024x4608 : Shape := ⟨3, ![4, 1024, 4608]⟩
abbrev S1x128 : Shape := ⟨2, ![1, 128]⟩
abbrev S8192x128 : Shape := ⟨2, ![8192, 128]⟩
abbrev S_ : Shape := ⟨0, ![]⟩
abbrev S16384 : Shape := ⟨1, ![16384]⟩
abbrev S16384x1 : Shape := ⟨2, ![16384, 1]⟩
abbrev S1x1024x4608 : Shape := ⟨3, ![1, 1024, 4608]⟩
abbrev S1024x4608 : Shape := ⟨2, ![1024, 4608]⟩
abbrev S16384x4608 : Shape := ⟨2, ![16384, 4608]⟩
abbrev S16384x1536 : Shape := ⟨2, ![16384, 1536]⟩
abbrev S16384x768 : Shape := ⟨2, ![16384, 768]⟩
abbrev S16384x256 : Shape := ⟨2, ![16384, 256]⟩
abbrev S16384x128 : Shape := ⟨2, ![16384, 128]⟩
abbrev S16384x1x128 : Shape := ⟨3, ![16384, 1, 128]⟩
abbrev S16384x6x128 : Shape := ⟨3, ![16384, 6, 128]⟩
abbrev S128 : Shape := ⟨1, ![128]⟩
abbrev S16384x6 : Shape := ⟨2, ![16384, 6]⟩
abbrev S16384x6x1 : Shape := ⟨3, ![16384, 6, 1]⟩
abbrev S1x1x128 : Shape := ⟨3, ![1, 1, 128]⟩
abbrev S16384x6x32 : Shape := ⟨3, ![16384, 6, 32]⟩
abbrev S16384x2x128 : Shape := ⟨3, ![16384, 2, 128]⟩
abbrev S16384x2 : Shape := ⟨2, ![16384, 2]⟩
abbrev S16384x2x1 : Shape := ⟨3, ![16384, 2, 1]⟩
abbrev S16384x2x32 : Shape := ⟨3, ![16384, 2, 32]⟩

abbrev nBuf : Space → Nat
  | .hbm => 103
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x4608, .bf16⟩
  | .hbm, ⟨3, _⟩ => ⟨S1x128, .f32⟩
  | .hbm, ⟨4, _⟩ => ⟨S1x128, .f32⟩
  | .hbm, ⟨5, _⟩ => ⟨S8192x128, .f32⟩
  | .hbm, ⟨6, _⟩ => ⟨S8192x128, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024x4608, .bf16⟩
  | .hbm, ⟨23, _⟩ => ⟨S1024x4608, .bf16⟩
  | .hbm, ⟨24, _⟩ => ⟨S1024x4608, .f32⟩
  | .hbm, ⟨25, _⟩ => ⟨S16384x4608, .f32⟩
  | .hbm, ⟨26, _⟩ => ⟨S16384x1024, .f32⟩
  | .hbm, ⟨27, _⟩ => ⟨S16384x1536, .f32⟩
  | .hbm, ⟨28, _⟩ => ⟨S16384x768, .f32⟩
  | .hbm, ⟨29, _⟩ => ⟨S16384x256, .f32⟩
  | .hbm, ⟨30, _⟩ => ⟨S16384x256, .f32⟩
  | .hbm, ⟨31, _⟩ => ⟨S16384x768, .f32⟩
  | .hbm, ⟨32, _⟩ => ⟨S16384x128, .f32⟩
  | .hbm, ⟨33, _⟩ => ⟨S16384x1x128, .f32⟩
  | .hbm, ⟨34, _⟩ => ⟨S16384x128, .f32⟩
  | .hbm, ⟨35, _⟩ => ⟨S16384x1x128, .f32⟩
  | .hbm, ⟨36, _⟩ => ⟨S16384x6x128, .f32⟩
  | .hbm, ⟨37, _⟩ => ⟨S128, .f32⟩
  | .hbm, ⟨38, _⟩ => ⟨S16384x6x128, .f32⟩
  | .hbm, ⟨39, _⟩ => ⟨S_, .f32⟩
  | .hbm, ⟨40, _⟩ => ⟨S16384x6, .f32⟩
  | .hbm, ⟨41, _⟩ => ⟨S16384x6x1, .f32⟩
  | .hbm, ⟨42, _⟩ => ⟨S_, .f32⟩
  | .hbm, ⟨43, _⟩ => ⟨S16384x6x1, .f32⟩
  | .hbm, ⟨44, _⟩ => ⟨S16384x6x1, .f32⟩
  | .hbm, ⟨45, _⟩ => ⟨S_, .f32⟩
  | .hbm, ⟨46, _⟩ => ⟨S16384x6x1, .f32⟩
  | .hbm, ⟨47, _⟩ => ⟨S16384x6x1, .f32⟩
  | .hbm, ⟨48, _⟩ => ⟨S16384x6x1, .f32⟩
  | .hbm, ⟨49, _⟩ => ⟨S16384x6x128, .f32⟩
  | .hbm, ⟨50, _⟩ => ⟨S16384x6x128, .f32⟩
  | .hbm, ⟨51, _⟩ => ⟨S1x1x128, .f32⟩
  | .hbm, ⟨52, _⟩ => ⟨S16384x6x128, .f32⟩
  | .hbm, ⟨53, _⟩ => ⟨S16384x6x128, .f32⟩
  | .hbm, ⟨54, _⟩ => ⟨S16384x6x32, .f32⟩
  | .hbm, ⟨55, _⟩ => ⟨S16384x6x32, .f32⟩
  | .hbm, ⟨56, _⟩ => ⟨S16384x6x32, .f32⟩
  | .hbm, ⟨57, _⟩ => ⟨S16384x6x32, .f32⟩
  | .hbm, ⟨58, _⟩ => ⟨S16384x6x128, .f32⟩
  | .hbm, ⟨59, _⟩ => ⟨S16384x6x128, .f32⟩
  | .hbm, ⟨60, _⟩ => ⟨S16384x6x128, .f32⟩
  | .hbm, ⟨61, _⟩ => ⟨S16384x6x128, .f32⟩
  | .hbm, ⟨62, _⟩ => ⟨S16384x6x128, .f32⟩
  | .hbm, ⟨63, _⟩ => ⟨S16384x6x128, .f32⟩
  | .hbm, ⟨64, _⟩ => ⟨S16384x768, .f32⟩
  | .hbm, ⟨65, _⟩ => ⟨S_, .f32⟩
  | .hbm, ⟨66, _⟩ => ⟨S16384x768, .f32⟩
  | .hbm, ⟨67, _⟩ => ⟨S16384x768, .f32⟩
  | .hbm, ⟨68, _⟩ => ⟨S16384x2x128, .f32⟩
  | .hbm, ⟨69, _⟩ => ⟨S128, .f32⟩
  | .hbm, ⟨70, _⟩ => ⟨S16384x2x128, .f32⟩
  | .hbm, ⟨71, _⟩ => ⟨S_, .f32⟩
  | .hbm, ⟨72, _⟩ => ⟨S16384x2, .f32⟩
  | .hbm, ⟨73, _⟩ => ⟨S16384x2x1, .f32⟩
  | .hbm, ⟨74, _⟩ => ⟨S_, .f32⟩
  | .hbm, ⟨75, _⟩ => ⟨S16384x2x1, .f32⟩
  | .hbm, ⟨76, _⟩ => ⟨S16384x2x1, .f32⟩
  | .hbm, ⟨77, _⟩ => ⟨S_, .f32⟩
  | .hbm, ⟨78, _⟩ => ⟨S16384x2x1, .f32⟩
  | .hbm, ⟨79, _⟩ => ⟨S16384x2x1, .f32⟩
  | .hbm, ⟨80, _⟩ => ⟨S16384x2x1, .f32⟩
  | .hbm, ⟨81, _⟩ => ⟨S16384x2x128, .f32⟩
  | .hbm, ⟨82, _⟩ => ⟨S16384x2x128, .f32⟩
  | .hbm, ⟨83, _⟩ => ⟨S1x1x128, .f32⟩
  | .hbm, ⟨84, _⟩ => ⟨S16384x2x128, .f32⟩
  | .hbm, ⟨85, _⟩ => ⟨S16384x2x128, .f32⟩
  | .hbm, ⟨86, _⟩ => ⟨S16384x2x32, .f32⟩
  | .hbm, ⟨87, _⟩ => ⟨S16384x2x32, .f32⟩
  | .hbm, ⟨88, _⟩ => ⟨S16384x2x32, .f32⟩
  | .hbm, ⟨89, _⟩ => ⟨S16384x2x32, .f32⟩
  | .hbm, ⟨90, _⟩ => ⟨S16384x2x128, .f32⟩
  | .hbm, ⟨91, _⟩ => ⟨S16384x2x128, .f32⟩
  | .hbm, ⟨92, _⟩ => ⟨S16384x2x128, .f32⟩
  | .hbm, ⟨93, _⟩ => ⟨S16384x2x128, .f32⟩
  | .hbm, ⟨94, _⟩ => ⟨S16384x2x128, .f32⟩
  | .hbm, ⟨95, _⟩ => ⟨S16384x2x128, .f32⟩
  | .hbm, ⟨96, _⟩ => ⟨S16384x256, .f32⟩
  | .hbm, ⟨97, _⟩ => ⟨S16384x1024, .bf16⟩
  | .hbm, ⟨98, _⟩ => ⟨S16384x1536, .bf16⟩
  | .hbm, ⟨99, _⟩ => ⟨S16384x768, .bf16⟩
  | .hbm, ⟨100, _⟩ => ⟨S16384x256, .bf16⟩
  | .hbm, ⟨101, _⟩ => ⟨S16384x256, .bf16⟩
  | .hbm, ⟨102, _⟩ => ⟨S16384x768, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Outproj.lean ====
abbrev S16384x1024 : Shape := ⟨2, ![16384, 1024]⟩
abbrev S16384x768 : Shape := ⟨2, ![16384, 768]⟩
abbrev S4x4x128x128 : Shape := ⟨4, ![4, 4, 128, 128]⟩
abbrev S1x512 : Shape := ⟨2, ![1, 512]⟩
abbrev S4x2048x1024 : Shape := ⟨3, ![4, 2048, 1024]⟩
abbrev S1024x1024 : Shape := ⟨2, ![1024, 1024]⟩
abbrev S16x512 : Shape := ⟨2, ![16, 512]⟩
abbrev S1024x768 : Shape := ⟨2, ![1024, 768]⟩
abbrev S1x4x128x128 : Shape := ⟨4, ![1, 4, 128, 128]⟩
abbrev S1x2048x1024 : Shape := ⟨3, ![1, 2048, 1024]⟩
abbrev S1056x512 : Shape := ⟨2, ![1056, 512]⟩
abbrev S1024x512 : Shape := ⟨2, ![1024, 512]⟩
abbrev S1024x1536 : Shape := ⟨2, ![1024, 1536]⟩
abbrev S1x1536x1024 : Shape := ⟨3, ![1, 1536, 1024]⟩
abbrev S1536x1024 : Shape := ⟨2, ![1536, 1024]⟩
abbrev S128x1 : Shape := ⟨2, ![128, 1]⟩
abbrev S160x128 : Shape := ⟨2, ![160, 128]⟩
abbrev S128x128 : Shape := ⟨2, ![128, 128]⟩
abbrev S1x1x128x128 : Shape := ⟨4, ![1, 1, 128, 128]⟩
abbrev S1x128 : Shape := ⟨2, ![1, 128]⟩
abbrev S1x512x1024 : Shape := ⟨3, ![1, 512, 1024]⟩
abbrev S512x1024 : Shape := ⟨2, ![512, 1024]⟩

abbrev nBuf : Space → Nat
  | .hbm => 8
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x768, .bf16⟩
  | .hbm, ⟨3, _⟩ => ⟨S16384x768, .bf16⟩
  | .hbm, ⟨4, _⟩ => ⟨S4x4x128x128, .bf16⟩
  | .hbm, ⟨5, _⟩ => ⟨S1x512, .f32⟩
  | .hbm, ⟨6, _⟩ => ⟨S4x2048x1024, .bf16⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S16x512, .bf16⟩
  | .local _ .vmem, ⟨8, _⟩ => ⟨S1024x768, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1x4x128x128, .bf16⟩
  | .local _ .vmem, ⟨13, _⟩ => ⟨S1x512, .f32⟩
  | .local _ .vmem, ⟨14, _⟩ => ⟨S1x2048x1024, .bf16⟩
  | .local _ .vmem, ⟨15, _⟩ => ⟨S1024x1024, .f32⟩
  | .local _ .vmem, ⟨16, _⟩ => ⟨S1024x1024, .f32⟩
  | .local _ .vmem, ⟨17, _⟩ => ⟨S1056x512, .f32⟩
  | .local _ .vmem, ⟨18, _⟩ => ⟨S1024x512, .bf16⟩
  | .local _ .vmem, ⟨19, _⟩ => ⟨S1024x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutprojReferenceIdeal.lean ====
abbrev S16384x1024 : Shape := ⟨2, ![16384, 1024]⟩
abbrev S16384x768 : Shape := ⟨2, ![16384, 768]⟩
abbrev S4x4x128x128 : Shape := ⟨4, ![4, 4, 128, 128]⟩
abbrev S1x512 : Shape := ⟨2, ![1, 512]⟩
abbrev S4x2048x1024 : Shape := ⟨3, ![4, 2048, 1024]⟩
abbrev S2x8192x1024 : Shape := ⟨3, ![2, 8192, 1024]⟩
abbrev S2x8192x512 : Shape := ⟨3, ![2, 8192, 512]⟩
abbrev S1x4x128x128 : Shape := ⟨4, ![1, 4, 128, 128]⟩
abbrev S4x128x128 : Shape := ⟨3, ![4, 128, 128]⟩
abbrev S8192 : Shape := ⟨1, ![8192]⟩
abbrev S_ : Shape := ⟨0, ![]⟩
abbrev S2x8208x512 : Shape := ⟨3, ![2, 8208, 512]⟩
abbrev S2x8192x128 : Shape := ⟨3, ![2, 8192, 128]⟩
abbrev S1x8192x1 : Shape := ⟨3, ![1, 8192, 1]⟩
abbrev S1x128x128 : Shape := ⟨3, ![1, 128, 128]⟩
abbrev S128x128 : Shape := ⟨2, ![128, 128]⟩
abbrev S1x1x512 : Shape := ⟨3, ![1, 1, 512]⟩
abbrev S16384x512 : Shape := ⟨2, ![16384, 512]⟩
abbrev S16384x2048 : Shape := ⟨2, ![16384, 2048]⟩
abbrev S1x2048x1024 : Shape := ⟨3, ![1, 2048, 1024]⟩
abbrev S2048x1024 : Shape := ⟨2, ![2048, 1024]⟩

abbrev nBuf : Space → Nat
  | .hbm => 237
  | .vmem => 0
  | .smem => 0
  | _ => 0

abbrev hbmTy0_0 (i : Nat) : BufTy := match i % 128 with
  | 0 => ⟨S16384x1024, .f32⟩
  | 1 => ⟨S16384x1024, .bf16⟩
  | 2 => ⟨S16384x768, .bf16⟩
  | 3 => ⟨S16384x768, .bf16⟩
  | 4 => ⟨S4x4x128x128, .bf16⟩
  | 5 => ⟨S1x512, .f32⟩
  | 6 => ⟨S4x2048x1024, .bf16⟩
  | 7 => ⟨S16384x1024, .f32⟩
  | 8 => ⟨S2x8192x1024, .f32⟩
  | 9 => ⟨S2x8192x512, .f32⟩
  | 10 => ⟨S2x8192x512, .f32⟩
  | 11 => ⟨S1x4x128x128, .bf16⟩
  | 12 => ⟨S4x128x128, .bf16⟩
  | 13 => ⟨S4x128x128, .f32⟩
  | 14 => ⟨S8192, .i32⟩
  | 15 => ⟨S_, .i32⟩
  | 16 => ⟨S_, .f32⟩
  | 17 => ⟨S2x8208x512, .f32⟩
  | 18 => ⟨S2x8192x128, .f32⟩
  | 19 => ⟨S_, .f32⟩
  | 20 => ⟨S2x8192x128, .f32⟩
  | 21 => ⟨S2x8192x128, .f32⟩
  | 22 => ⟨S2x8192x128, .f32⟩
  | 23 => ⟨S2x8192x128, .f32⟩
  | 24 => ⟨S_, .i32⟩
  | 25 => ⟨S8192, .i32⟩
  | 26 => ⟨S8192, .i32⟩
  | 27 => ⟨S_, .i32⟩
  | 28 => ⟨S_, .i32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i32⟩
  | 38 => ⟨S_, .i32⟩
  | 39 => ⟨S_, .i32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .i32⟩
  | 47 => ⟨S8192, .f32⟩
  | 48 => ⟨S1x8192x1, .f32⟩
  | 49 => ⟨S2x8192x128, .f32⟩
  | 50 => ⟨S2x8192x128, .f32⟩
  | 51 => ⟨S2x8192x128, .f32⟩
  | 52 => ⟨S2x8192x128, .f32⟩
  | 53 => ⟨S1x128x128, .f32⟩
  | 54 => ⟨S128x128, .f32⟩
  | 55 => ⟨S2x8192x128, .f32⟩
  | 56 => ⟨S2x8192x128, .f32⟩
  | 57 => ⟨S_, .f32⟩
  | 58 => ⟨S2x8192x128, .f32⟩
  | 59 => ⟨S2x8192x128, .f32⟩
  | 60 => ⟨S2x8192x128, .f32⟩
  | 61 => ⟨S2x8192x128, .f32⟩
  | 62 => ⟨S2x8192x128, .f32⟩
  | 63 => ⟨S2x8192x128, .f32⟩
  | 64 => ⟨S2x8192x128, .f32⟩
  | 65 => ⟨S2x8192x128, .f32⟩
  | 66 => ⟨S_, .i32⟩
  | 67 => ⟨S8192, .i32⟩
  | 68 => ⟨S8192, .i32⟩
  | 69 => ⟨S_, .i32⟩
  | 70 => ⟨S_, .i32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S_, .i32⟩
  | 81 => ⟨S_, .i32⟩
  | 82 => ⟨S_, .i32⟩
  | 83 => ⟨S8192, .i32⟩
  | 84 => ⟨S8192, .i32⟩
  | 85 => ⟨S_, .i32⟩
  | 86 => ⟨S8192, .i32⟩
  | 87 => ⟨S8192, .i32⟩
  | 88 => ⟨S8192, .i32⟩
  | 89 => ⟨S8192, .f32⟩
  | 90 => ⟨S1x8192x1, .f32⟩
  | 91 => ⟨S2x8192x128, .f32⟩
  | 92 => ⟨S2x8192x128, .f32⟩
  | 93 => ⟨S2x8192x128, .f32⟩
  | 94 => ⟨S2x8192x128, .f32⟩
  | 95 => ⟨S1x128x128, .f32⟩
  | 96 => ⟨S128x128, .f32⟩
  | 97 => ⟨S2x8192x128, .f32⟩
  | 98 => ⟨S2x8192x128, .f32⟩
  | 99 => ⟨S_, .f32⟩
  | 100 => ⟨S2x8192x128, .f32⟩
  | 101 => ⟨S2x8192x128, .f32⟩
  | 102 => ⟨S2x8192x128, .f32⟩
  | 103 => ⟨S2x8192x128, .f32⟩
  | 104 => ⟨S2x8192x128, .f32⟩
  | 105 => ⟨S2x8192x128, .f32⟩
  | 106 => ⟨S2x8192x128, .f32⟩
  | 107 => ⟨S2x8192x128, .f32⟩
  | 108 => ⟨S2x8192x128, .f32⟩
  | 109 => ⟨S2x8192x128, .f32⟩
  | 110 => ⟨S2x8192x128, .f32⟩
  | 111 => ⟨S2x8192x128, .f32⟩
  | 112 => ⟨S2x8192x128, .f32⟩
  | 113 => ⟨S2x8192x128, .f32⟩
  | 114 => ⟨S2x8192x128, .f32⟩
  | 115 => ⟨S2x8192x128, .f32⟩
  | 116 => ⟨S_, .i32⟩
  | 117 => ⟨S8192, .i32⟩
  | 118 => ⟨S8192, .i32⟩
  | 119 => ⟨S_, .i32⟩
  | 120 => ⟨S_, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S16384x1024, .f32⟩

abbrev hbmTy0_1 (i : Nat) : BufTy := match i % 128 with
  | 0 => ⟨S8192, .i32⟩
  | 1 => ⟨S8192, .i32⟩
  | 2 => ⟨S_, .i32⟩
  | 3 => ⟨S_, .i32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .i32⟩
  | 11 => ⟨S8192, .f32⟩
  | 12 => ⟨S1x8192x1, .f32⟩
  | 13 => ⟨S2x8192x128, .f32⟩
  | 14 => ⟨S2x8192x128, .f32⟩
  | 15 => ⟨S2x8192x128, .f32⟩
  | 16 => ⟨S2x8192x128, .f32⟩
  | 17 => ⟨S1x128x128, .f32⟩
  | 18 => ⟨S128x128, .f32⟩
  | 19 => ⟨S2x8192x128, .f32⟩
  | 20 => ⟨S2x8192x128, .f32⟩
  | 21 => ⟨S_, .f32⟩
  | 22 => ⟨S2x8192x128, .f32⟩
  | 23 => ⟨S2x8192x128, .f32⟩
  | 24 => ⟨S2x8192x128, .f32⟩
  | 25 => ⟨S2x8192x128, .f32⟩
  | 26 => ⟨S2x8192x128, .f32⟩
  | 27 => ⟨S2x8192x128, .f32⟩
  | 28 => ⟨S2x8192x128, .f32⟩
  | 29 => ⟨S2x8192x128, .f32⟩
  | 30 => ⟨S2x8192x128, .f32⟩
  | 31 => ⟨S2x8192x128, .f32⟩
  | 32 => ⟨S2x8192x128, .f32⟩
  | 33 => ⟨S2x8192x128, .f32⟩
  | 34 => ⟨S2x8192x128, .f32⟩
  | 35 => ⟨S2x8192x128, .f32⟩
  | 36 => ⟨S2x8192x128, .f32⟩
  | 37 => ⟨S2x8192x128, .f32⟩
  | 38 => ⟨S2x8192x128, .f32⟩
  | 39 => ⟨S2x8192x128, .f32⟩
  | 40 => ⟨S2x8192x128, .f32⟩
  | 41 => ⟨S2x8192x128, .f32⟩
  | 42 => ⟨S2x8192x128, .f32⟩
  | 43 => ⟨S2x8192x128, .f32⟩
  | 44 => ⟨S2x8192x128, .f32⟩
  | 45 => ⟨S2x8192x128, .f32⟩
  | 46 => ⟨S2x8192x128, .f32⟩
  | 47 => ⟨S2x8192x128, .f32⟩
  | 48 => ⟨S2x8192x128, .f32⟩
  | 49 => ⟨S2x8192x128, .f32⟩
  | 50 => ⟨S2x8192x128, .f32⟩
  | 51 => ⟨S2x8192x128, .f32⟩
  | 52 => ⟨S2x8192x128, .f32⟩
  | 53 => ⟨S2x8192x128, .f32⟩
  | 54 => ⟨S_, .i32⟩
  | 55 => ⟨S8192, .i32⟩
  | 56 => ⟨S8192, .i32⟩
  | 57 => ⟨S_, .i32⟩
  | 58 => ⟨S_, .i32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S_, .i32⟩
  | 69 => ⟨S_, .i32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192, .i32⟩
  | 77 => ⟨S8192, .f32⟩
  | 78 => ⟨S1x8192x1, .f32⟩
  | 79 => ⟨S2x8192x128, .f32⟩
  | 80 => ⟨S2x8192x128, .f32⟩
  | 81 => ⟨S2x8192x128, .f32⟩
  | 82 => ⟨S2x8192x128, .f32⟩
  | 83 => ⟨S1x128x128, .f32⟩
  | 84 => ⟨S128x128, .f32⟩
  | 85 => ⟨S2x8192x128, .f32⟩
  | 86 => ⟨S2x8192x512, .f32⟩
  | 87 => ⟨S1x1x512, .f32⟩
  | 88 => ⟨S2x8192x512, .f32⟩
  | 89 => ⟨S2x8192x512, .f32⟩
  | 90 => ⟨S2x8192x512, .f32⟩
  | 91 => ⟨S2x8192x512, .f32⟩
  | 92 => ⟨S_, .f32⟩
  | 93 => ⟨S2x8192x512, .f32⟩
  | 94 => ⟨S2x8192x512, .f32⟩
  | 95 => ⟨S_, .f32⟩
  | 96 => ⟨S2x8192x512, .f32⟩
  | 97 => ⟨S2x8192x512, .f32⟩
  | 98 => ⟨S2x8192x512, .f32⟩
  | 99 => ⟨S2x8192x512, .f32⟩
  | 100 => ⟨S16384x512, .f32⟩
  | 101 => ⟨S16384x768, .f32⟩
  | 102 => ⟨S16384x768, .f32⟩
  | 103 => ⟨S16384x2048, .f32⟩
  | 104 => ⟨S1x2048x1024, .bf16⟩
  | 105 => ⟨S2048x1024, .bf16⟩
  | 106 => ⟨S2048x1024, .f32⟩
  | 107 => ⟨S16384x1024, .f32⟩
  | 108 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_c_5 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_7 : Ref sig .tc := ⟨.hbm, 66, rfl⟩
abbrev main_v39 : Ref sig .tc := ⟨.hbm, 67, rfl⟩
abbrev main_v40 : Ref sig .tc := ⟨.hbm, 68, rfl⟩
abbrev main_c_8 : Ref sig .tc := ⟨.hbm, 69, rfl⟩
abbrev main_c_9 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v41 : Ref sig .tc := ⟨.hbm, 76, rfl⟩
abbrev main_c_10 : Ref sig .tc := ⟨.hbm, 77, rfl⟩
abbrev main_v42 : Ref sig .tc := ⟨.hbm, 78, rfl⟩
abbrev main_v43 : Ref sig .tc := ⟨.hbm, 79, rfl⟩
abbrev main_c_11 : Ref sig .tc := ⟨.hbm, 80, rfl⟩
abbrev main_c_12 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_cst_13 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_14 : Ref sig .tc := ⟨.hbm, 116, rfl⟩
abbrev main_v72 : Ref sig .tc := ⟨.hbm, 117, rfl⟩
abbrev main_v73 : Ref sig .tc := ⟨.hbm, 118, rfl⟩
abbrev main_c_15 : Ref sig .tc := ⟨.hbm, 119, rfl⟩
abbrev main_c_16 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_v74 : Ref sig .tc := ⟨.hbm, 126, rfl⟩
abbrev main_c_17 : Ref sig .tc := ⟨.hbm, 127, rfl⟩
abbrev main_v75 : Ref sig .tc := ⟨.hbm, 128, rfl⟩
abbrev main_v76 : Ref sig .tc := ⟨.hbm, 129, rfl⟩
abbrev main_c_18 : Ref sig .tc := ⟨.hbm, 130, rfl⟩
abbrev main_c_19 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_cst_20 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_c_21 : Ref sig .tc := ⟨.hbm, 182, rfl⟩
abbrev main_v121 : Ref sig .tc := ⟨.hbm, 183, rfl⟩
abbrev main_v122 : Ref sig .tc := ⟨.hbm, 184, rfl⟩
abbrev main_c_22 : Ref sig .tc := ⟨.hbm, 185, rfl⟩
abbrev main_c_23 : Ref sig .tc := ⟨.hbm, 186, rfl⟩
abbrev main_call7_v0 : Ref sig .tc := ⟨.hbm, 187, rfl⟩
abbrev main_call7_v1 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_v123 : Ref sig .tc := ⟨.hbm, 192, rfl⟩
abbrev main_c_24 : Ref sig .tc := ⟨.hbm, 193, rfl⟩
abbrev main_v124 : Ref sig .tc := ⟨.hbm, 194, rfl⟩
abbrev main_v125 : Ref sig .tc := ⟨.hbm, 195, rfl⟩
abbrev main_c_25 : Ref sig .tc := ⟨.hbm, 196, rfl⟩
abbrev main_c_26 : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_call9_v0 : Ref sig .tc := ⟨.hbm, 218, rfl⟩
abbrev main_call9_v1 : Ref sig .tc := ⟨.hbm, 219, rfl⟩
abbrev main_call9_cst : Ref sig .tc := ⟨.hbm, 220, rfl⟩
abbrev main_call9_v2 : Ref sig .tc := ⟨.hbm, 221, rfl⟩
abbrev main_call9_v3 : Ref sig .tc := ⟨.hbm, 222, rfl⟩
abbrev main_call9_cst_0 : Ref sig .tc := ⟨.hbm, 223, rfl⟩
abbrev main_call9_v4 : Ref sig .tc := ⟨.hbm, 224, rfl⟩
abbrev main_call9_v5 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩

abbrev nD : Nat := 1
abbrev τ : Topo := Topo.v7x

variable {F : FTy → Type} [FloatOps F]
-- ==== Proof.KernelSoft.lean ====
module

public import proofs.«01_k».proof.Proof.Gen.Kernel.Loops
public import Idealize.ShloMosaic.Lib.Tactic
public import Idealize.ShloMosaic.Lib.Pointwise
public import Idealize.ShloMosaic.Lib.VecWindow
public import Idealize.ShloMosaic.Lib.Pipeline.Frame

@[expose] public section

noncomputable section

namespace Cert.Kernel.Soft

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer on core `c` held whole at contents `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f

/-! ## One row block -/

variable (c : Dev nD) (i : grid0.Coords)
  (arg3 : Memref sig .tc .vmem S1x512x384 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x512x384 .bf16) (harg6 : arg6.IsWhole)
  (arg7 : Memref sig .tc .vmem S1x512x384 .bf16) (harg7 : arg7.IsWhole)
  (arg8 : Memref sig .tc .vmem S1536x256 .f32) (harg8 : arg8.IsWhole)
  (arg9 : Memref sig .tc .vmem S1536x256 .f32) (harg9 : arg9.IsWhole)
  (arg10 : Memref sig .tc .vmem S1536x256 .bf16) (harg10 : arg10.IsWhole)
  (arg11 : Memref sig .tc .vmem S1536x256 .bf16) (harg11 : arg11.IsWhole)
  (arg12 : Memref sig .tc .vmem S1536x128 .f32) (harg12 : arg12.IsWhole)
  (arg13 : Memref sig .tc .vmem S1536x128 .f32) (harg13 : arg13.IsWhole)
  (arg14 : Memref sig .tc .vmem S1536x128 .f32) (harg14 : arg14.IsWhole)
  (v5 : FVec F S1536x128 .bf16) (v30 : FVec F S1536x256 .f32)

/-- The buffers a row block goes over, each held at some contents. -/
abbrev softHeld : sProp 𝕄 :=
  iprop((∃ f, pt c arg8 f) ∗ (∃ f, pt c arg10 f) ∗ (∃ f, pt c arg12 f) ∗ (∃ f, pt c arg13 f) ∗ (∃ f, pt c arg14 f))

set_option maxHeartbeats 1000000 in
/-- One row block, from and to some contents. -/
theorem softStep (𝒱 : Variants) (bd : Option 𝒱.V) (E : Set ℕ) (k : Fin k0_t1_loop.trips) :
    softHeld c arg8 arg10 arg12 arg13 arg14
    ⊢ wp frame (wpE (defs₀ (F := F)) 𝒱 (c : Thread nD τ) bd) E
        (k0_t1_body (F := F) i arg3 harg3 arg4 harg4 arg5 harg5 arg6 harg6 arg7 harg7 arg8 harg8 arg9 harg9 arg10 harg10 arg11 harg11 arg12 harg12 arg13 harg13 arg14 harg14 v5 v30 k ())
        (fun _ => softHeld c arg8 arg10 arg12 arg13 arg14) := by
  have hk : k.val < 48 := Nat.lt_of_lt_of_le k.isLt k0_t1_abs.2.1
  unfold k0_t1_body
  iintro ⟨⟨%f8, H8⟩, ⟨%f10, H10⟩, ⟨%f12, H12⟩, ⟨%f13, H13⟩, ⟨%f14, H14⟩⟩
  sl_exec
  sl_step
  isplitl [H8]; · iexists _; iexact H8
  isplitl [H10]; · iexists _; iexact H10
  isplitl [H12]; · iexists _; iexact H12
  isplitl [H13]; · iexists _; iexact H13
  iexists _; iexact H14

/-! ## The twelve loops over the row blocks

All run one body; the odd ones from `arg9` into `arg11`. -/

set_option warn.classDefReducibility false in
@[sl_loop] def loopInv_k0_t1 (𝒱 : Variants) (bd : Option 𝒱.V) (E : Set ℕ)  :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv _ _ := softHeld c arg8 arg10 arg12 arg13 arg14
  step k _ := softStep c i arg3 harg3 arg4 harg4 arg5 harg5 arg6 harg6 arg7 harg7 arg8 harg8 arg9 harg9 arg10 harg10 arg11 harg11 arg12 harg12 arg13 harg13 arg14 harg14 v5 v30 𝒱 bd E k

set_option warn.classDefReducibility false in
@[sl_loop] def loopInv_k0_t3 (𝒱 : Variants) (bd : Option 𝒱.V) (E : Set ℕ) (c0_i32_22 : BitVec 32) (c1_i32_23 : BitVec 32) (k0_t2 : Fin k0_t2_loop.trips) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 c0_i32_22 c1_i32_23 k0_t2 where
  inv _ _ := softHeld c arg9 arg11 arg12 arg13 arg14
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E k

set_option warn.classDefReducibility false in
@[sl_loop] def loopInv_k0_t4 (𝒱 : Variants) (bd : Option 𝒱.V) (E : Set ℕ) (k0_t2 : Fin k0_t2_loop.trips) (arg15 : BitVec 32) (v84 : BitVec 32) (v110 : BitVec 32) :
    LoopInvTy_k0_t4 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v84 v110 where
  inv _ _ := softHeld c arg8 arg10 arg12 arg13 arg14
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E k

set_option warn.classDefReducibility false in
@[sl_loop] def loopInv_k0_t5 (𝒱 : Variants) (bd : Option 𝒱.V) (E : Set ℕ) (k0_t2 : Fin k0_t2_loop.trips) (v134 : BitVec 32) (v139 : FVec F S256x128 .bf16) (v140 : Vec F S1536x128 .f32) :
    LoopInvTy_k0_t5 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 v134 v139 v140 where
  inv _ _ := softHeld c arg9 arg11 arg12 arg13 arg14
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E k

set_option warn.classDefReducibility false in
@[sl_loop] def loopInv_k0_t6 (𝒱 : Variants) (bd : Option 𝒱.V) (E : Set ℕ) (k0_t2 : Fin k0_t2_loop.trips) (arg15 : BitVec 32) (v134 : BitVec 32) (v170 : FVec F S1536x128 .f32) :
    LoopInvTy_k0_t6 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v134 v170 where
  inv _ _ := softHeld c arg8 arg10 arg12 arg13 arg14
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E k

set_option warn.classDefReducibility false in
@[sl_loop] def loopInv_k0_t7 (𝒱 : Variants) (bd : Option 𝒱.V) (E : Set ℕ) (k0_t2 : Fin k0_t2_loop.trips) (v184 : BitVec 32) (v199 : BitVec 32) :
    LoopInvTy_k0_t7 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 v184 v199 where
  inv _ _ := softHeld c arg9 arg11 arg12 arg13 arg14
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E k

set_option warn.classDefReducibility false in
@[sl_loop] def loopInv_k0_t8 (𝒱 : Variants) (bd : Option 𝒱.V) (E : Set ℕ) (k0_t2 : Fin k0_t2_loop.trips) (arg15 : BitVec 32) (v230 : FVec F S1536x256 .f32) :
    LoopInvTy_k0_t8 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v230 where
  inv _ _ := softHeld c arg8 arg10 arg12 arg13 arg14
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E k

set_option warn.classDefReducibility false in
@[sl_loop] def loopInv_k0_t9 (𝒱 : Variants) (bd : Option 𝒱.V) (E : Set ℕ) (k0_t2 : Fin k0_t2_loop.trips) (arg15 : BitVec 32) (v230 : FVec F S1536x256 .f32) :
    LoopInvTy_k0_t9 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v230 where
  inv _ _ := softHeld c arg9 arg11 arg12 arg13 arg14
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E k

set_option warn.classDefReducibility false in
@[sl_loop] def loopInv_k0_t10 (𝒱 : Variants) (bd : Option 𝒱.V) (E : Set ℕ) (k0_t2 : Fin k0_t2_loop.trips) (arg15 : BitVec 32) (v234 : BitVec 32) :
    LoopInvTy_k0_t10 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v234 where
  inv _ _ := softHeld c arg8 arg10 arg12 arg13 arg14
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E k

set_option warn.classDefReducibility false in
@[sl_loop] def loopInv_k0_t11 (𝒱 : Variants) (bd : Option 𝒱.V) (E : Set ℕ) (k0_t2 : Fin k0_t2_loop.trips) (v284 : BitVec 32) :
    LoopInvTy_k0_t11 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 v284 where
  inv _ _ := softHeld c arg9 arg11 arg12 arg13 arg14
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E k

set_option warn.classDefReducibility false in
@[sl_loop] def loopInv_k0_t12 (𝒱 : Variants) (bd : Option 𝒱.V) (E : Set ℕ)  :
    LoopInvTy_k0_t12 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv _ _ := softHeld c arg8 arg10 arg12 arg13 arg14
  step k _ := softStep c i arg3 harg3 arg4 harg4 arg5 harg5 arg6 harg6 arg7 harg7 arg8 harg8 arg9 harg9 arg10 harg10 arg11 harg11 arg12 harg12 arg13 harg13 arg14 harg14 v5 v30 𝒱 bd E k

set_option warn.classDefReducibility false in
@[sl_loop] def loopInv_k0_t13 (𝒱 : Variants) (bd : Option 𝒱.V) (E : Set ℕ)  :
    LoopInvTy_k0_t13 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv _ _ := softHeld c arg9 arg11 arg12 arg13 arg14
  step k _ := softStep c i arg3 harg3 arg4 harg4 arg5 harg5 arg6 harg6 arg7 harg7 arg9 harg9 arg9 harg9 arg11 harg11 arg11 harg11 arg12 harg12 arg13 harg13 arg14 harg14 v5 v30 𝒱 bd E k

end Cert.Kernel.Soft

end
-- ==== Proof.KernelRun.lean ====
/- The attention's grid with nothing said of the values: every execution ends, and the arguments are left as they were. -/
module

public import proofs.«01_k».proof.Proof.KernelSoft
public import proofs.«01_k».proof.Proof.Gen.Kernel.Frame
public import Idealize.ShloMosaic.Lib.Pipeline.FrameBody
public import Idealize.ShloMosaic.Lib.Tactic

@[expose] public section

set_option maxRecDepth 16384

noncomputable section

namespace Cert.Kernel.Run

open Cert.Kernel Cert.Kernel.Gen Cert.Kernel.Soft
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section body

variable (c : Dev nD) (i : grid0.Coords)
  (arg3 : Memref sig .tc .vmem S1x512x384 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x512x384 .bf16) (harg6 : arg6.IsWhole)
  (arg7 : Memref sig .tc .vmem S1x512x384 .bf16) (harg7 : arg7.IsWhole)
  (arg8 : Memref sig .tc .vmem S1536x256 .f32) (harg8 : arg8.IsWhole)
  (arg9 : Memref sig .tc .vmem S1536x256 .f32) (harg9 : arg9.IsWhole)
  (arg10 : Memref sig .tc .vmem S1536x256 .bf16) (harg10 : arg10.IsWhole)
  (arg11 : Memref sig .tc .vmem S1536x256 .bf16) (harg11 : arg11.IsWhole)
  (arg12 : Memref sig .tc .vmem S1536x128 .f32) (harg12 : arg12.IsWhole)
  (arg13 : Memref sig .tc .vmem S1536x128 .f32) (harg13 : arg13.IsWhole)
  (arg14 : Memref sig .tc .vmem S1536x128 .f32) (harg14 : arg14.IsWhole)

/-- What the loop over the chunks goes over: the keys and values as they are, the scratch buffers at some contents. -/
abbrev outerHeld (K : BufTy.Contents (Elt F) arg4.view.ty) (V : BufTy.Contents (Elt F) arg5.view.ty) : sProp 𝕄 :=
  iprop(pt c arg4 K ∗ pt c arg5 V ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f))

set_option maxHeartbeats 4000000 in
/-- Ten chunks, from and to some contents. -/
theorem outerStep (v5 : FVec F S1536x128 .bf16) (v30 : FVec F S1536x256 .f32) (𝒱 : Variants) (bd : Option 𝒱.V) (E : Set ℕ)
    (K : BufTy.Contents (Elt F) arg4.view.ty) (V : BufTy.Contents (Elt F) arg5.view.ty) (k : Fin k0_t2_loop.trips) :
    outerHeld c arg4 arg5 arg8 arg9 arg10 arg11 arg12 arg13 arg14 K V
    ⊢ wp frame (wpE (defs₀ (F := F)) 𝒱 (c : Thread nD τ) bd) E
        (k0_t2_body (F := F) i arg3 harg3 arg4 harg4 arg5 harg5 arg6 harg6 arg7 harg7 arg8 harg8 arg9 harg9 arg10 harg10 arg11 harg11 arg12 harg12 arg13 harg13 arg14 harg14 v5 v30 k ())
        (fun _ => outerHeld c arg4 arg5 arg8 arg9 arg10 arg11 arg12 arg13 arg14 K V) := by
  unfold k0_t2_body
  iintro ⟨H4, H5, ⟨%f8, H8⟩, ⟨%f9, H9⟩, ⟨%f10, H10⟩, ⟨%f11, H11⟩, ⟨%f12, H12⟩, ⟨%f13, H13⟩, ⟨%f14, H14⟩⟩
  sl_exec
  sl_step
  isplitl [H4]; · iexact H4
  isplitl [H5]; · iexact H5
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

set_option warn.classDefReducibility false in
/-- The loop over ten chunks at a time, with its invariant. -/
@[sl_loop] def outerLoop (𝒱 : Variants) (bd : Option 𝒱.V) (E : Set ℕ) (v5 : FVec F S1536x128 .bf16) (v30 : FVec F S1536x256 .f32)
    (K : BufTy.Contents (Elt F) arg4.view.ty) (V : BufTy.Contents (Elt F) arg5.view.ty) :
    LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv _ _ := outerHeld c arg4 arg5 arg8 arg9 arg10 arg11 arg12 arg13 arg14 K V
  step k _ := outerStep c i arg3 harg3 arg4 harg4 arg5 harg5 arg6 harg6 arg7 harg7 arg8 harg8 arg9 harg9 arg10 harg10 arg11 harg11 arg12 harg12 arg13 harg13 arg14 harg14 v5 v30 𝒱 bd E K V k

set_option maxHeartbeats 4000000 in
/-- One grid step: the inputs are left as they are. -/
theorem bodyRun (𝒱 : Variants) (bd : Option 𝒱.V) (E : Set ℕ) (Q : BufTy.Contents (Elt F) arg3.view.ty) (K : BufTy.Contents (Elt F) arg4.view.ty) (V : BufTy.Contents (Elt F) arg5.view.ty) (G : BufTy.Contents (Elt F) arg6.view.ty)
    (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty)
    (Ψ : PUnit → sProp 𝕄) :
    iprop(pt c arg3 Q ∗ pt c arg4 K ∗ pt c arg5 V ∗ pt c arg6 G ∗ pt c arg7 f7 ∗ pt c arg8 f8 ∗ pt c arg9 f9 ∗ pt c arg10 f10 ∗ pt c arg11 f11 ∗ pt c arg12 f12 ∗ pt c arg13 f13 ∗ pt c arg14 f14
        ∗ (iprop(pt c arg3 Q ∗ pt c arg4 K ∗ pt c arg5 V ∗ pt c arg6 G ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f)) -∗ Ψ ⟨⟩))
      ⊢ wp frame (wpE (defs₀ (F := F)) 𝒱 (c : Thread nD τ) bd) E (cc0_attention (F := F) i arg3 harg3 arg4 harg4 arg5 harg5 arg6 harg6 arg7 harg7 arg8 harg8 arg9 harg9 arg10 harg10 arg11 harg11 arg12 harg12 arg13 harg13 arg14 harg14) Ψ := by
  rw [cc0_attention_eq_skeleton]; unfold cc0_attention_skel
  iintro ⟨H3, H4, H5, H6, H7, H8, H9, H10, H11, H12, H13, H14, Hk⟩
  sl_exec
  sl_step
  iapply Hk
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end body

variable (m : (ℓ : Loc nD τ sig) → Buf (Elt F) ℓ) (ρ : Dev nD → PrngReg)

/-- The output is not followed. -/
def fgt : Fin cfg0.W → Bool := ![false, false, false, false, true]

/-- The proof data of the pipeline: inputs left as fetched; what is put for the output block is not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))
def bodyPost (c : Dev nD) (t : Fin cfg0.N) : sProp 𝕄 :=
  iprop(Pipeline.ΦA spec0 c ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem pt_whole (c : Dev nD) (b : Ref sig .tc) (f : b.ty.Contents (Elt F)) :
    pt c (Memref.whole b) f = ((c : Thread nD τ).loc b ↦{fullShare} f) := by
  unfold pt; simp only [Memref.view_whole, View.set_whole]

/-- The scratch buffers at some contents, as the body is lent them. -/
theorem rest_eq (c : Dev nD) : (Pipeline.scopedRest (Ix := Unit) (Name := ℕ) (U := UR sig nD τ) (Lvl := ℕ) (Val := Elt F) spec0 c : sProp 𝕄)
    = iprop((∃ f, pt c (Memref.whole cc0_scratch0) f) ∗ (∃ f, pt c (Memref.whole cc0_scratch1) f) ∗ (∃ f, pt c (Memref.whole cc0_scratch2) f)
        ∗ (∃ f, pt c (Memref.whole cc0_scratch3) f) ∗ (∃ f, pt c (Memref.whole cc0_scratch4) f) ∗ (∃ f, pt c (Memref.whole cc0_scratch5) f)
        ∗ (∃ f, pt c (Memref.whole cc0_scratch6) f)) := by
  have h : ∀ b : Ref sig .tc, iprop(∃ f, pt c (Memref.whole b) f) = (iprop(∃ f : Buf (Elt F) ((c : Thread nD τ).loc b), ((c : Thread nD τ).loc b) ↦{fullShare} f) : sProp 𝕄) := fun b => by
    congr 1; funext f; exact pt_whole c b f
  rw [scopedRest0_eq, h, h, h, h, h, h, h]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3]
  unfold Pipeline.ΦA
  rw [rest_eq]
  unfold owns
  iintro ⟨⟨⟨⟨%s0, S0⟩, ⟨%s1, S1⟩, ⟨%s2, S2⟩, ⟨%s3, S3⟩, ⟨%s4, S4⟩, ⟨%s5, S5⟩, ⟨%s6, S6⟩⟩, Hg⟩, HW,
    ⟨%d0, %f0, %e0, H0⟩, ⟨%d1, %f1, %e1, H1⟩, ⟨%d2, %f2, %e2, H2⟩, ⟨%d3, %f3, %e3, H3⟩, ⟨%d4, %f4, -, H4⟩⟩
  iapply (bodyRun c (grid0.coords t) _ _ _ _ _ _ _ _ _ _ _ _ _ _ _ _ _ _ _ _ _ _ _ _ Variants.none none Set.univ f0 f1 f2 f3 f4 s0 s1 s2 s3 s4 s5 s6 _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, ⟨%f, H4⟩, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HW]; · iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists _, f; isplitr
  · ipureintro; rfl
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ fgt := fun t => by
  rw [bigSep_W0, bigSep_W0, defs₀_row]
  exact triple_restated (sound_body m c t) rfl .rfl fun _ => .rfl

/-- Every execution ends, with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := _) (hQ' := fun r h => ⟨fun c => ⟨(h.1.arr_in c 0 rfl).trans (A_eq m c 0), (h.1.arr_in c 1 rfl).trans (A_eq m c 1),
      (h.1.arr_in c 2 rfl).trans (A_eq m c 2), (h.1.arr_in c 3 rfl).trans (A_eq m c 3)⟩, h.2⟩)

end Cert.Kernel.Run
-- ==== Proof.Soft.lean ====
module

public import proofs.«01_k».proof.Proof.Gen.KernelIdeal.Loops
public import Idealize.ShloMosaic.Lib.Tactic
public import Idealize.ShloMosaic.Lib.Pointwise
public import Idealize.ShloMosaic.Lib.VecWindow
public import Idealize.ShloMosaic.Lib.Pipeline.Frame

@[expose] public section

noncomputable section

namespace Cert.KernelIdeal.Soft

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A buffer on core `c` held whole at contents `f`. -/
abbrev pt (c : Dev nD) {sp : Space} {S : Shape} {e : EltTy} (M : Memref sig .tc sp S e)
    (f : BufTy.Contents (Elt Ideal) M.view.ty) : sProp 𝕄 :=
  M.view.loc (c : Thread nD τ) ↦[M.view.set]{fullShare} f

/-! ## What the softmax of one chunk does, element by element

`S` is the chunk's scores (1536 query rows, 256 keys), `M` the running maximum and `L` the running sum (128 lanes per
row), `A` the accumulated product. -/

/-- The greatest score of row `r`. -/
def rowMax (S : S1536x256.Idx → EReal) (r : Fin 1536) : EReal :=
  Finset.univ.fold max ⊥ fun l : Fin 128 => max (S (ix2 r (l.castLE (by decide)))) (S (ix2 r (Fin.natAdd 128 l)))

/-- The maximum after the chunk. -/
def mNew (S : S1536x256.Idx → EReal) (M : S1536x128.Idx → EReal) : S1536x128.Idx → EReal := fun y =>
  max (M y) (rowMax S (y 0))

/-- The factor by which sums taken at the old maximum are brought to the new one. -/
def alpha (S : S1536x256.Idx → EReal) (M : S1536x128.Idx → EReal) : S1536x128.Idx → EReal := fun y =>
  Ideal.exp2 (M y - mNew S M y)

/-- The chunk's weights. -/
def pNew (S : S1536x256.Idx → EReal) (M : S1536x128.Idx → EReal) : S1536x256.Idx → EReal := fun y =>
  Ideal.exp2 (S y - mNew S M (ix2 (y 0) ⟨(y 1).val % 128, Nat.mod_lt _ (by decide)⟩))

/-- The sums after the chunk, lane by lane: lane `l` takes keys `l` and `l + 128`. -/
def lNew (S : S1536x256.Idx → EReal) (M L : S1536x128.Idx → EReal) : S1536x128.Idx → EReal := fun y =>
  alpha S M y * L y + (Ideal.exp2 (S (ix2 (y 0) ((y 1).castLE (by decide))) - mNew S M y)
    + Ideal.exp2 (S (ix2 (y 0) (Fin.natAdd 128 (y 1))) - mNew S M y))

/-- The accumulated product, rescaled. -/
def aNew (S : S1536x256.Idx → EReal) (M A : S1536x128.Idx → EReal) : S1536x128.Idx → EReal := fun y =>
  alpha S M y * A y

/-- The contents of a 1536-row buffer when the first `32 * k` rows of the contents `G` have been replaced by those of
    `N`. -/
def upd {n : ℕ} {e : EltTy} {sp : Space} {M : Memref sig .tc sp ⟨2, ![1536, n]⟩ e} (h : M.IsWhole)
    (G : BufTy.Contents (Elt Ideal) M.view.ty) (N : (⟨2, ![1536, n]⟩ : Shape).Idx → Elt Ideal e) :
    ℕ → BufTy.Contents (Elt Ideal) M.view.ty
  | 0 => G
  | k + 1 => h.unread fun y => if (y 0).val < 32 * (k + 1) then N y else M.view.read (Elt Ideal) G y

/-- The replaced rows read the new values, the others the old. -/
theorem read_upd {n : ℕ} {e : EltTy} {sp : Space} {M : Memref sig .tc sp ⟨2, ![1536, n]⟩ e} (h : M.IsWhole)
    (G : BufTy.Contents (Elt Ideal) M.view.ty) (N : (⟨2, ![1536, n]⟩ : Shape).Idx → Elt Ideal e) (k : ℕ)
    (y : (⟨2, ![1536, n]⟩ : Shape).Idx) :
    M.view.read (Elt Ideal) (upd h G N k) y = if (y 0).val < 32 * k then N y else M.view.read (Elt Ideal) G y := by
  cases k with
  | zero => simp [upd]
  | succ k => simp only [upd]; rw [h.read_unread]

/-- After all 48 blocks the buffer holds the new values. -/
theorem upd_all {n : ℕ} {e : EltTy} {sp : Space} {M : Memref sig .tc sp ⟨2, ![1536, n]⟩ e} (h : M.IsWhole)
    (G : BufTy.Contents (Elt Ideal) M.view.ty) (N : (⟨2, ![1536, n]⟩ : Shape).Idx → Elt Ideal e) :
    upd h G N 48 = h.unread N := by
  refine h.eq_unread (funext fun y => ?_)
  rw [read_upd, if_pos (show (y 0).val < 32 * 48 from (y 0).isLt)]

/-- A load of a block of rows and lanes, at an index. -/
theorem readAt_ix2 {sp : Space} {e : EltTy} {R N R' N' : ℕ} (v : View sig .tc sp ⟨2, ![R, N]⟩ e) (f : v.ty.Contents (Elt Ideal))
    {o0 o1 : ℕ} {off : Fin 2 → ℕ} (inb : ∀ a, off a + (![R', N'] : Fin 2 → ℕ) a ≤ (⟨2, ![R, N]⟩ : Shape).size a)
    (a : Fin R') (b : Fin N') (ho : off = ![o0, o1]) (h0 : o0 + a.val < R) (h1 : o1 + b.val < N) :
    v.readAt (Elt Ideal) (Rect.unit (s := ⟨2, ![R, N]⟩) off ![R', N'] inb).toLoadRect f (ix2 a b)
      = v.read (Elt Ideal) f (ix2 ⟨o0 + a.val, h0⟩ ⟨o1 + b.val, h1⟩) := by
  subst ho
  rw [View.readAt_eq_ld]
  refine congrArg (v.read (Elt Ideal) f) (funext fun x => ?_)
  match x with
  | 0 => exact Fin.ext (show o0 + 1 * a.val = o0 + a.val by omega)
  | 1 => exact Fin.ext (show o1 + 1 * b.val = o1 + b.val by omega)

/-- One block's store of all 128 lanes moves the replaced rows on by a block. -/
theorem upd_step {e : EltTy} {sp : Space} {M : Memref sig .tc sp ⟨2, ![1536, 128]⟩ e} (h : M.IsWhole)
    (G : BufTy.Contents (Elt Ideal) M.view.ty) (N : (⟨2, ![1536, 128]⟩ : Shape).Idx → Elt Ideal e) {k : ℕ} (hk : k < 48)
    {off : Fin 2 → ℕ} (inb : ∀ a, off a + (![32, 128] : Fin 2 → ℕ) a ≤ (⟨2, ![1536, 128]⟩ : Shape).size a)
    (ho : off = ![32 * k, 0]) (w : (⟨2, ![32, 128]⟩ : Shape).Idx → Elt Ideal e)
    (hw : ∀ (a : Fin 32) (b : Fin 128), w (ix2 a b) = N (ix2 ⟨32 * k + a.val, by have := a.isLt; omega⟩ b)) :
    M.view.writes (Elt Ideal) (upd h G N k) [⟨Rect.unit (s := ⟨2, ![1536, 128]⟩) off ![32, 128] inb, w⟩] = upd h G N (k + 1) := by
  have hx : upd h G N (k + 1) = h.unread fun y => if (y 0).val < 32 * (k + 1) then N y else M.view.read (Elt Ideal) G y := rfl
  rw [hx]
  refine h.eq_unread (funext fun y => ?_)
  have hb : (y 1).val < 128 := (y 1).isLt
  by_cases h1 : 32 * k ≤ (y 0).val ∧ (y 0).val < 32 * k + 32
  · have e := View.read_writes_cons_unit_of_mem M.view (upd h G N k) inb w [] y
      (ix2 ⟨(y 0).val - 32 * k, by omega⟩ ⟨(y 1).val, hb⟩) ho (fun a => match a with
        | 0 => (show (y 0).val = 32 * k + ((y 0).val - 32 * k) by omega)
        | 1 => (show (y 1).val = 0 + (y 1).val by omega))
    rw [e, hw, if_pos (by omega)]
    refine congrArg N (funext fun a => ?_)
    match a with
    | 0 => exact Fin.ext (show 32 * k + ((y 0).val - 32 * k) = (y 0).val by omega)
    | 1 => rfl
  · have e := View.read_writes_cons_unit_of_not_mem M.view (upd h G N k) inb w [] y ho 0
      (show (y 0).val < 32 * k ∨ 32 * k + 32 ≤ (y 0).val by omega)
    rw [e, View.writes_nil, read_upd]
    by_cases h2 : (y 0).val < 32 * k
    · rw [if_pos h2, if_pos (by omega)]
    · rw [if_neg h2, if_neg (by omega)]

/-- The same for two stores of 128 lanes each. -/
theorem upd_step2 {e : EltTy} {sp : Space} {M : Memref sig .tc sp ⟨2, ![1536, 256]⟩ e} (h : M.IsWhole)
    (G : BufTy.Contents (Elt Ideal) M.view.ty) (N : (⟨2, ![1536, 256]⟩ : Shape).Idx → Elt Ideal e) {k : ℕ} (hk : k < 48)
    {off off' : Fin 2 → ℕ} (inb : ∀ a, off a + (![32, 128] : Fin 2 → ℕ) a ≤ (⟨2, ![1536, 256]⟩ : Shape).size a)
    (inb' : ∀ a, off' a + (![32, 128] : Fin 2 → ℕ) a ≤ (⟨2, ![1536, 256]⟩ : Shape).size a)
    (ho : off = ![32 * k, 0]) (ho' : off' = ![32 * k, 128]) (w w' : (⟨2, ![32, 128]⟩ : Shape).Idx → Elt Ideal e)
    (hw : ∀ (a : Fin 32) (b : Fin 128), w (ix2 a b) = N (ix2 ⟨32 * k + a.val, by have := a.isLt; omega⟩ (b.castLE (by decide))))
    (hw' : ∀ (a : Fin 32) (b : Fin 128), w' (ix2 a b) = N (ix2 ⟨32 * k + a.val, by have := a.isLt; omega⟩ (Fin.natAdd 128 b))) :
    M.view.writes (Elt Ideal) (upd h G N k) [⟨Rect.unit (s := ⟨2, ![1536, 256]⟩) off' ![32, 128] inb', w'⟩,
      ⟨Rect.unit (s := ⟨2, ![1536, 256]⟩) off ![32, 128] inb, w⟩] = upd h G N (k + 1) := by
  have hx : upd h G N (k + 1) = h.unread fun y => if (y 0).val < 32 * (k + 1) then N y else M.view.read (Elt Ideal) G y := rfl
  rw [hx]
  refine h.eq_unread (funext fun y => ?_)
  have hb : (y 1).val < 256 := (y 1).isLt
  by_cases h1 : 32 * k ≤ (y 0).val ∧ (y 0).val < 32 * k + 32
  · by_cases h3 : (y 1).val < 128
    · rw [View.read_writes_cons_unit_of_not_mem M.view (upd h G N k) inb' w' _ y ho' 1
        (show (y 1).val < 128 ∨ 128 + 128 ≤ (y 1).val by omega),
        View.read_writes_cons_unit_of_mem M.view (upd h G N k) inb w [] y
        (ix2 ⟨(y 0).val - 32 * k, by omega⟩ ⟨(y 1).val, h3⟩) ho (fun a => match a with
          | 0 => (show (y 0).val = 32 * k + ((y 0).val - 32 * k) by omega)
          | 1 => (show (y 1).val = 0 + (y 1).val by omega)), hw, if_pos (by omega)]
      refine congrArg N (funext fun a => ?_)
      match a with
      | 0 => exact Fin.ext (show 32 * k + ((y 0).val - 32 * k) = (y 0).val by omega)
      | 1 => rfl
    · rw [View.read_writes_cons_unit_of_mem M.view (upd h G N k) inb' w' _ y
        (ix2 ⟨(y 0).val - 32 * k, by omega⟩ ⟨(y 1).val - 128, by omega⟩) ho' (fun a => match a with
          | 0 => (show (y 0).val = 32 * k + ((y 0).val - 32 * k) by omega)
          | 1 => (show (y 1).val = 128 + ((y 1).val - 128) by omega)), hw', if_pos (by omega)]
      refine congrArg N (funext fun a => ?_)
      match a with
      | 0 => exact Fin.ext (show 32 * k + ((y 0).val - 32 * k) = (y 0).val by omega)
      | 1 => exact Fin.ext (show 128 + ((y 1).val - 128) = (y 1).val by omega)
  · rw [View.read_writes_cons_unit_of_not_mem M.view (upd h G N k) inb' w' _ y ho' 0
        (show (y 0).val < 32 * k ∨ 32 * k + 32 ≤ (y 0).val by omega),
      View.read_writes_cons_unit_of_not_mem M.view (upd h G N k) inb w [] y ho 0
        (show (y 0).val < 32 * k ∨ 32 * k + 32 ≤ (y 0).val by omega), View.writes_nil, read_upd]
    by_cases h2 : (y 0).val < 32 * k
    · rw [if_pos h2, if_pos (by omega)]
    · rw [if_neg h2, if_neg (by omega)]

/-! ## The stored blocks at an index -/

theorem negInf : Ideal.ofBits .f32 0xFF800000#32 = ⊥ := by simp [Ideal.ofBits, Ideal.ieee]

/-- The new maximum of a block. -/
theorem pay3_apply (u v m : FVec Ideal S32x128 .f32) (a : Fin 32) (b : Fin 128) :
    (k0_pay3 (F := Ideal) u v m (ix2 a b) : EReal)
      = max (m (ix2 a b)) (Finset.univ.fold max ⊥ fun l : Fin 128 => max (u (ix2 a l)) (v (ix2 a l))) := by
  unfold k0_pay3
  pointwise
  rw [negInf]

theorem pay7_apply (u v m l : FVec Ideal S32x128 .f32) (a : Fin 32) (b : Fin 128) :
    (k0_pay7 (F := Ideal) u v m l (ix2 a b) : EReal)
      = Ideal.exp2 ((m (ix2 a b) : EReal) - (k0_pay3 (F := Ideal) u v m (ix2 a b) : EReal)) * (l (ix2 a b) : EReal)
        + (Ideal.exp2 ((u (ix2 a b) : EReal) - (k0_pay3 (F := Ideal) u v m (ix2 a b) : EReal))
          + Ideal.exp2 ((v (ix2 a b) : EReal) - (k0_pay3 (F := Ideal) u v m (ix2 a b) : EReal))) := by
  unfold k0_pay7 k0_pay4 k0_pay5 k0_pay6
  generalize k0_pay3 (F := Ideal) u v m = w
  pointwise
  rfl

theorem pay8_apply (u v m : FVec Ideal S32x128 .f32) (a : Fin 32) (b : Fin 128) :
    (k0_pay8 (F := Ideal) u v m (ix2 a b) : EReal)
      = Ideal.exp2 ((u (ix2 a b) : EReal) - (k0_pay3 (F := Ideal) u v m (ix2 a b) : EReal)) := by
  unfold k0_pay8 k0_pay5
  generalize k0_pay3 (F := Ideal) u v m = w
  pointwise
  rfl

theorem pay9_apply (u v m : FVec Ideal S32x128 .f32) (a : Fin 32) (b : Fin 128) :
    (k0_pay9 (F := Ideal) u v m (ix2 a b) : EReal)
      = Ideal.exp2 ((v (ix2 a b) : EReal) - (k0_pay3 (F := Ideal) u v m (ix2 a b) : EReal)) := by
  unfold k0_pay9 k0_pay6
  generalize k0_pay3 (F := Ideal) u v m = w
  pointwise
  rfl

theorem pay10_apply (u v m l : FVec Ideal S32x128 .f32) (a : Fin 32) (b : Fin 128) :
    (k0_pay10 (F := Ideal) u v m l (ix2 a b) : EReal)
      = Ideal.exp2 ((m (ix2 a b) : EReal) - (k0_pay3 (F := Ideal) u v m (ix2 a b) : EReal)) * (l (ix2 a b) : EReal) := by
  unfold k0_pay10 k0_pay4
  generalize k0_pay3 (F := Ideal) u v m = w
  pointwise
  rfl

theorem pay135_eq (m : FVec Ideal S32x128 .f32) : k0_pay135 (F := Ideal) m = m := by
  unfold k0_pay135
  exact shapeCast_self _ _

/-! ## One row block -/

variable (c : Dev nD) (i : grid0.Coords)
  (arg3 : Memref sig .tc .vmem S1x512x384 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x512x384 .bf16) (harg6 : arg6.IsWhole)
  (arg7 : Memref sig .tc .vmem S1x512x384 .bf16) (harg7 : arg7.IsWhole)
  (arg8 : Memref sig .tc .vmem S1536x256 .f32) (harg8 : arg8.IsWhole)
  (arg9 : Memref sig .tc .vmem S1536x256 .f32) (harg9 : arg9.IsWhole)
  (arg10 : Memref sig .tc .vmem S1536x256 .bf16) (harg10 : arg10.IsWhole)
  (arg11 : Memref sig .tc .vmem S1536x256 .bf16) (harg11 : arg11.IsWhole)
  (arg12 : Memref sig .tc .vmem S1536x128 .f32) (harg12 : arg12.IsWhole)
  (arg13 : Memref sig .tc .vmem S1536x128 .f32) (harg13 : arg13.IsWhole)
  (arg14 : Memref sig .tc .vmem S1536x128 .f32) (harg14 : arg14.IsWhole)
  (v5 : FVec Ideal S1536x128 .bf16) (v30 : FVec Ideal S1536x256 .f32)

/-- Before row block `k`: the scores at `X`, the weights, the maxima, the sums and the product at what the blocks
    before `k` make of their contents `G10`, `G12`, `G13`, `G14` at the first. -/
abbrev softInv (X : BufTy.Contents (Elt Ideal) arg8.view.ty) (G10 : BufTy.Contents (Elt Ideal) arg10.view.ty)
    (G12 : BufTy.Contents (Elt Ideal) arg12.view.ty) (G13 : BufTy.Contents (Elt Ideal) arg13.view.ty)
    (G14 : BufTy.Contents (Elt Ideal) arg14.view.ty) (k : ℕ) : sProp 𝕄 :=
  iprop(pt c arg8 X
    ∗ (∃ f, pt c arg10 f ∗ ⌜f = upd harg10 G10 (pNew (arg8.view.read (Elt Ideal) X) (arg12.view.read (Elt Ideal) G12)) k⌝)
    ∗ (∃ f, pt c arg12 f ∗ ⌜f = upd harg12 G12 (mNew (arg8.view.read (Elt Ideal) X) (arg12.view.read (Elt Ideal) G12)) k⌝)
    ∗ (∃ f, pt c arg13 f ∗ ⌜f = upd harg13 G13 (lNew (arg8.view.read (Elt Ideal) X) (arg12.view.read (Elt Ideal) G12) (arg13.view.read (Elt Ideal) G13)) k⌝)
    ∗ (∃ f, pt c arg14 f ∗ ⌜f = upd harg14 G14 (aNew (arg8.view.read (Elt Ideal) X) (arg12.view.read (Elt Ideal) G12) (arg14.view.read (Elt Ideal) G14)) k⌝))

set_option maxHeartbeats 1000000 in
theorem softStep (𝒱 : Variants) (bd : Option 𝒱.V) (E : Set ℕ) (X : BufTy.Contents (Elt Ideal) arg8.view.ty) (G10 : BufTy.Contents (Elt Ideal) arg10.view.ty)
    (G12 : BufTy.Contents (Elt Ideal) arg12.view.ty) (G13 : BufTy.Contents (Elt Ideal) arg13.view.ty)
    (G14 : BufTy.Contents (Elt Ideal) arg14.view.ty) (k : Fin k0_t1_loop.trips) :
    softInv c arg8 arg10 harg10 arg12 harg12 arg13 harg13 arg14 harg14 X G10 G12 G13 G14 k.val
    ⊢ wp frame (wpE (defs₀ (F := Ideal)) 𝒱 (c : Thread nD τ) bd) E
        (k0_t1_body (F := Ideal) i arg3 harg3 arg4 harg4 arg5 harg5 arg6 harg6 arg7 harg7 arg8 harg8 arg9 harg9 arg10 harg10 arg11 harg11 arg12 harg12 arg13 harg13 arg14 harg14 v5 v30 k ())
        (fun _ => softInv c arg8 arg10 harg10 arg12 harg12 arg13 harg13 arg14 harg14 X G10 G12 G13 G14 (k.val + 1)) := by
  have hk : k.val < 48 := Nat.lt_of_lt_of_le k.isLt k0_t1_abs.2.1
  unfold k0_t1_body
  iintro ⟨H8, ⟨%f10, H10, %h10⟩, ⟨%f12, H12, %h12⟩, ⟨%f13, H13, %h13⟩, ⟨%f14, H14, %h14⟩⟩
  have row : ∀ a : Fin 32, 32 * k.val + a.val < 1536 := fun a => by have := a.isLt; omega
  have lu : ∀ (a : Fin 32) (b : Fin 128), arg8.view.readAt (Elt Ideal) (Rect.unit (s := S1536x256) (k0_off1 k) S32x128.size (k0_off1_inb k)).toLoadRect X (ix2 a b)
      = arg8.view.read (Elt Ideal) X (ix2 ⟨32 * k.val + a.val, row a⟩ (b.castLE (by decide))) := fun a b =>
    (readAt_ix2 arg8.view X _ a b (k0_off1_eq k) (row a) (by have := b.isLt; omega)).trans
      (congrArg _ (congrArg (ix2 _) (Fin.ext (Nat.zero_add _))))
  have lv : ∀ (a : Fin 32) (b : Fin 128), arg8.view.readAt (Elt Ideal) (Rect.unit (s := S1536x256) (k0_off2 k) S32x128.size (k0_off2_inb k)).toLoadRect X (ix2 a b)
      = arg8.view.read (Elt Ideal) X (ix2 ⟨32 * k.val + a.val, row a⟩ (Fin.natAdd 128 b)) := fun a b =>
    readAt_ix2 arg8.view X _ a b (k0_off2_eq k) (row a) (by have := b.isLt; omega)
  have lw : ∀ (M : Memref sig .tc .vmem S1536x128 .f32) (hM : M.IsWhole) (G : BufTy.Contents (Elt Ideal) M.view.ty)
      (N : S1536x128.Idx → Elt Ideal .f32) (a : Fin 32) (b : Fin 128),
      M.view.readAt (Elt Ideal) (Rect.unit (s := S1536x128) (k0_off3 k) S32x128.size (k0_off3_inb k)).toLoadRect (upd hM G N k.val) (ix2 a b)
        = M.view.read (Elt Ideal) G (ix2 ⟨32 * k.val + a.val, row a⟩ b) := fun M hM G N a b =>
    (readAt_ix2 M.view _ _ a b (k0_off3_eq k) (row a) (by have := b.isLt; omega)).trans
      ((read_upd hM G N _ _).trans ((if_neg (show ¬ 32 * k.val + a.val < 32 * k.val by omega)).trans
        (congrArg _ (congrArg (ix2 _) (Fin.ext (Nat.zero_add _))))))
  -- the block's new maximum is the row's
  have l3 : ∀ (a : Fin 32) (b : Fin 128), (k0_pay3 (F := Ideal) (arg8.view.readAt (Elt Ideal) (Rect.unit (s := S1536x256) (k0_off1 k) S32x128.size (k0_off1_inb k)).toLoadRect X)
        (arg8.view.readAt (Elt Ideal) (Rect.unit (s := S1536x256) (k0_off2 k) S32x128.size (k0_off2_inb k)).toLoadRect X)
        (arg12.view.readAt (Elt Ideal) (Rect.unit (s := S1536x128) (k0_off3 k) S32x128.size (k0_off3_inb k)).toLoadRect f12) (ix2 a b) : EReal)
      = mNew (arg8.view.read (Elt Ideal) X) (arg12.view.read (Elt Ideal) G12) (ix2 ⟨32 * k.val + a.val, row a⟩ b) := fun a b => by
    rw [pay3_apply, h12, lw arg12 harg12 G12 _ a b]
    simp only [lu, lv]
    rfl
  sl_exec
  sl_step
  isplitl [H8]; · iexact H8
  isplitl [H10]
  · iexists _; isplitl [H10]; · iexact H10
    ipureintro
    rw [h10]
    refine upd_step2 harg10 G10 _ hk _ _ (k0_off1_eq k) (k0_off2_eq k) _ _ (fun a b => ?_) (fun a b => ?_)
    · refine (pay8_apply _ _ _ a b).trans ?_
      rw [l3, lu]
      exact congrArg (fun z => Ideal.exp2 (_ - mNew _ _ (ix2 _ z))) (Fin.ext (Nat.mod_eq_of_lt b.isLt).symm)
    · refine (pay9_apply _ _ _ a b).trans ?_
      rw [l3, lv]
      exact congrArg (fun z => Ideal.exp2 (_ - mNew _ _ (ix2 _ z))) (Fin.ext (by
        show b.val = (128 + b.val) % 128
        rw [Nat.add_mod_left, Nat.mod_eq_of_lt b.isLt]))
  isplitl [H12]
  · iexists _; isplitl [H12]; · iexact H12
    ipureintro
    conv_lhs => arg 3; rw [h12]
    refine upd_step harg12 G12 _ hk _ (k0_off3_eq k) _ (fun a b => ?_)
    refine (congrFun (pay135_eq _) _).trans ?_
    exact l3 a b
  isplitl [H13]
  · iexists _; isplitl [H13]; · iexact H13
    ipureintro
    conv_lhs => arg 3; rw [h13]
    refine upd_step harg13 G13 _ hk _ (k0_off3_eq k) _ (fun a b => ?_)
    refine (pay7_apply _ _ _ _ a b).trans ?_
    rw [l3, lu, lv, h12, h13, lw arg12 harg12 G12 _ a b, lw arg13 harg13 G13 _ a b]
    rfl
  · iexists _; isplitl [H14]; · iexact H14
    ipureintro
    conv_lhs => arg 3; rw [h14]
    refine upd_step harg14 G14 _ hk _ (k0_off3_eq k) _ (fun a b => ?_)
    refine (pay10_apply _ _ _ _ a b).trans ?_
    rw [l3, h12, h14, lw arg12 harg12 G12 _ a b, lw arg14 harg14 G14 _ a b]
    rfl

/-- What the 48 blocks leave. -/
abbrev softPost (X : BufTy.Contents (Elt Ideal) arg8.view.ty)
    (G12 : BufTy.Contents (Elt Ideal) arg12.view.ty) (G13 : BufTy.Contents (Elt Ideal) arg13.view.ty)
    (G14 : BufTy.Contents (Elt Ideal) arg14.view.ty) : sProp 𝕄 :=
  iprop(pt c arg8 X
    ∗ (∃ f, pt c arg10 f ∗ ⌜arg10.view.read (Elt Ideal) f = pNew (arg8.view.read (Elt Ideal) X) (arg12.view.read (Elt Ideal) G12)⌝)
    ∗ (∃ f, pt c arg12 f ∗ ⌜arg12.view.read (Elt Ideal) f = mNew (arg8.view.read (Elt Ideal) X) (arg12.view.read (Elt Ideal) G12)⌝)
    ∗ (∃ f, pt c arg13 f ∗ ⌜arg13.view.read (Elt Ideal) f = lNew (arg8.view.read (Elt Ideal) X) (arg12.view.read (Elt Ideal) G12) (arg13.view.read (Elt Ideal) G13)⌝)
    ∗ (∃ f, pt c arg14 f ∗ ⌜arg14.view.read (Elt Ideal) f = aNew (arg8.view.read (Elt Ideal) X) (arg12.view.read (Elt Ideal) G12) (arg14.view.read (Elt Ideal) G14)⌝))

theorem softExit (X : BufTy.Contents (Elt Ideal) arg8.view.ty) (G10 : BufTy.Contents (Elt Ideal) arg10.view.ty)
    (G12 : BufTy.Contents (Elt Ideal) arg12.view.ty) (G13 : BufTy.Contents (Elt Ideal) arg13.view.ty)
    (G14 : BufTy.Contents (Elt Ideal) arg14.view.ty) (n : ℕ) (hn : n = 48) :
    softInv c arg8 arg10 harg10 arg12 harg12 arg13 harg13 arg14 harg14 X G10 G12 G13 G14 n
      ⊢ softPost c arg8 arg10 arg12 arg13 arg14 X G12 G13 G14 := by
  subst hn
  iintro ⟨H8, ⟨%f10, H10, %h10⟩, ⟨%f12, H12, %h12⟩, ⟨%f13, H13, %h13⟩, ⟨%f14, H14, %h14⟩⟩
  isplitl [H8]; · iexact H8
  isplitl [H10]
  · iexists f10; isplitl [H10]; · iexact H10
    ipureintro; rw [h10, upd_all, harg10.read_unread]
  isplitl [H12]
  · iexists f12; isplitl [H12]; · iexact H12
    ipureintro; rw [h12, upd_all, harg12.read_unread]
  isplitl [H13]
  · iexists f13; isplitl [H13]; · iexact H13
    ipureintro; rw [h13, upd_all, harg13.read_unread]
  · iexists f14; isplitl [H14]; · iexact H14
    ipureintro; rw [h14, upd_all, harg14.read_unread]

/-! ## The twelve loops over the row blocks

All run one body; the odd ones from `arg9` into `arg11`. -/

set_option warn.classDefReducibility false in
@[sl_loop] def loopInv_k0_t1 (𝒱 : Variants) (bd : Option 𝒱.V) (E : Set ℕ) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopInvTy_k0_t1 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv k _ := softInv c arg8 arg10 harg10 arg12 harg12 arg13 harg13 arg14 harg14 X G10 G12 G13 G14 k
  step k _ := softStep c i arg3 harg3 arg4 harg4 arg5 harg5 arg6 harg6 arg7 harg7 arg8 harg8 arg9 harg9 arg10 harg10 arg11 harg11 arg12 harg12 arg13 harg13 arg14 harg14 v5 v30 𝒱 bd E X G10 G12 G13 G14 k

instance (𝒱 : Variants) (bd : Option 𝒱.V) (E : Set ℕ) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopExit (loopInv_k0_t1 c i arg3 harg3 arg4 harg4 arg5 harg5 arg6 harg6 arg7 harg7 arg8 harg8 arg9 harg9 arg10 harg10 arg11 harg11 arg12 harg12 arg13 harg13 arg14 harg14 v5 v30 𝒱 bd E X G10 G12 G13 G14) where
  post _ := softPost c arg8 arg10 arg12 arg13 arg14 X G12 G13 G14
  exit _ := softExit c arg8 arg10 harg10 arg12 harg12 arg13 harg13 arg14 harg14 X G10 G12 G13 G14 _ (by decide)

set_option warn.classDefReducibility false in
@[sl_loop] def loopInv_k0_t3 (𝒱 : Variants) (bd : Option 𝒱.V) (E : Set ℕ) (c0_i32_22 : BitVec 32) (c1_i32_23 : BitVec 32) (k0_t2 : Fin k0_t2_loop.trips) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopInvTy_k0_t3 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 c0_i32_22 c1_i32_23 k0_t2 where
  inv k _ := softInv c arg9 arg11 harg11 arg12 harg12 arg13 harg13 arg14 harg14 X G11 G12 G13 G14 k
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E X G11 G12 G13 G14 k

instance (𝒱 : Variants) (bd : Option 𝒱.V) (E : Set ℕ) (c0_i32_22 : BitVec 32) (c1_i32_23 : BitVec 32) (k0_t2 : Fin k0_t2_loop.trips) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopExit (loopInv_k0_t3 c i arg3 harg3 arg4 harg4 arg5 harg5 arg6 harg6 arg7 harg7 arg8 harg8 arg9 harg9 arg10 harg10 arg11 harg11 arg12 harg12 arg13 harg13 arg14 harg14 v5 𝒱 bd E c0_i32_22 c1_i32_23 k0_t2 X G11 G12 G13 G14) where
  post _ := softPost c arg9 arg11 arg12 arg13 arg14 X G12 G13 G14
  exit _ := softExit c arg9 arg11 harg11 arg12 harg12 arg13 harg13 arg14 harg14 X G11 G12 G13 G14 _ (by decide)

set_option warn.classDefReducibility false in
@[sl_loop] def loopInv_k0_t4 (𝒱 : Variants) (bd : Option 𝒱.V) (E : Set ℕ) (k0_t2 : Fin k0_t2_loop.trips) (arg15 : BitVec 32) (v84 : BitVec 32) (v110 : BitVec 32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopInvTy_k0_t4 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v84 v110 where
  inv k _ := softInv c arg8 arg10 harg10 arg12 harg12 arg13 harg13 arg14 harg14 X G10 G12 G13 G14 k
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E X G10 G12 G13 G14 k

instance (𝒱 : Variants) (bd : Option 𝒱.V) (E : Set ℕ) (k0_t2 : Fin k0_t2_loop.trips) (arg15 : BitVec 32) (v84 : BitVec 32) (v110 : BitVec 32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopExit (loopInv_k0_t4 c i arg3 harg3 arg4 harg4 arg5 harg5 arg6 harg6 arg7 harg7 arg8 harg8 arg9 harg9 arg10 harg10 arg11 harg11 arg12 harg12 arg13 harg13 arg14 harg14 v5 𝒱 bd E k0_t2 arg15 v84 v110 X G10 G12 G13 G14) where
  post _ := softPost c arg8 arg10 arg12 arg13 arg14 X G12 G13 G14
  exit _ := softExit c arg8 arg10 harg10 arg12 harg12 arg13 harg13 arg14 harg14 X G10 G12 G13 G14 _ (by decide)

set_option warn.classDefReducibility false in
@[sl_loop] def loopInv_k0_t5 (𝒱 : Variants) (bd : Option 𝒱.V) (E : Set ℕ) (k0_t2 : Fin k0_t2_loop.trips) (v134 : BitVec 32) (v139 : FVec Ideal S256x128 .bf16) (v140 : Vec Ideal S1536x128 .f32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopInvTy_k0_t5 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 v134 v139 v140 where
  inv k _ := softInv c arg9 arg11 harg11 arg12 harg12 arg13 harg13 arg14 harg14 X G11 G12 G13 G14 k
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E X G11 G12 G13 G14 k

instance (𝒱 : Variants) (bd : Option 𝒱.V) (E : Set ℕ) (k0_t2 : Fin k0_t2_loop.trips) (v134 : BitVec 32) (v139 : FVec Ideal S256x128 .bf16) (v140 : Vec Ideal S1536x128 .f32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopExit (loopInv_k0_t5 c i arg3 harg3 arg4 harg4 arg5 harg5 arg6 harg6 arg7 harg7 arg8 harg8 arg9 harg9 arg10 harg10 arg11 harg11 arg12 harg12 arg13 harg13 arg14 harg14 v5 𝒱 bd E k0_t2 v134 v139 v140 X G11 G12 G13 G14) where
  post _ := softPost c arg9 arg11 arg12 arg13 arg14 X G12 G13 G14
  exit _ := softExit c arg9 arg11 harg11 arg12 harg12 arg13 harg13 arg14 harg14 X G11 G12 G13 G14 _ (by decide)

set_option warn.classDefReducibility false in
@[sl_loop] def loopInv_k0_t6 (𝒱 : Variants) (bd : Option 𝒱.V) (E : Set ℕ) (k0_t2 : Fin k0_t2_loop.trips) (arg15 : BitVec 32) (v134 : BitVec 32) (v170 : FVec Ideal S1536x128 .f32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopInvTy_k0_t6 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v134 v170 where
  inv k _ := softInv c arg8 arg10 harg10 arg12 harg12 arg13 harg13 arg14 harg14 X G10 G12 G13 G14 k
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E X G10 G12 G13 G14 k

instance (𝒱 : Variants) (bd : Option 𝒱.V) (E : Set ℕ) (k0_t2 : Fin k0_t2_loop.trips) (arg15 : BitVec 32) (v134 : BitVec 32) (v170 : FVec Ideal S1536x128 .f32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopExit (loopInv_k0_t6 c i arg3 harg3 arg4 harg4 arg5 harg5 arg6 harg6 arg7 harg7 arg8 harg8 arg9 harg9 arg10 harg10 arg11 harg11 arg12 harg12 arg13 harg13 arg14 harg14 v5 𝒱 bd E k0_t2 arg15 v134 v170 X G10 G12 G13 G14) where
  post _ := softPost c arg8 arg10 arg12 arg13 arg14 X G12 G13 G14
  exit _ := softExit c arg8 arg10 harg10 arg12 harg12 arg13 harg13 arg14 harg14 X G10 G12 G13 G14 _ (by decide)

set_option warn.classDefReducibility false in
@[sl_loop] def loopInv_k0_t7 (𝒱 : Variants) (bd : Option 𝒱.V) (E : Set ℕ) (k0_t2 : Fin k0_t2_loop.trips) (v184 : BitVec 32) (v199 : BitVec 32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopInvTy_k0_t7 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 v184 v199 where
  inv k _ := softInv c arg9 arg11 harg11 arg12 harg12 arg13 harg13 arg14 harg14 X G11 G12 G13 G14 k
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E X G11 G12 G13 G14 k

instance (𝒱 : Variants) (bd : Option 𝒱.V) (E : Set ℕ) (k0_t2 : Fin k0_t2_loop.trips) (v184 : BitVec 32) (v199 : BitVec 32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopExit (loopInv_k0_t7 c i arg3 harg3 arg4 harg4 arg5 harg5 arg6 harg6 arg7 harg7 arg8 harg8 arg9 harg9 arg10 harg10 arg11 harg11 arg12 harg12 arg13 harg13 arg14 harg14 v5 𝒱 bd E k0_t2 v184 v199 X G11 G12 G13 G14) where
  post _ := softPost c arg9 arg11 arg12 arg13 arg14 X G12 G13 G14
  exit _ := softExit c arg9 arg11 harg11 arg12 harg12 arg13 harg13 arg14 harg14 X G11 G12 G13 G14 _ (by decide)

set_option warn.classDefReducibility false in
@[sl_loop] def loopInv_k0_t8 (𝒱 : Variants) (bd : Option 𝒱.V) (E : Set ℕ) (k0_t2 : Fin k0_t2_loop.trips) (arg15 : BitVec 32) (v230 : FVec Ideal S1536x256 .f32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopInvTy_k0_t8 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v230 where
  inv k _ := softInv c arg8 arg10 harg10 arg12 harg12 arg13 harg13 arg14 harg14 X G10 G12 G13 G14 k
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E X G10 G12 G13 G14 k

instance (𝒱 : Variants) (bd : Option 𝒱.V) (E : Set ℕ) (k0_t2 : Fin k0_t2_loop.trips) (arg15 : BitVec 32) (v230 : FVec Ideal S1536x256 .f32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopExit (loopInv_k0_t8 c i arg3 harg3 arg4 harg4 arg5 harg5 arg6 harg6 arg7 harg7 arg8 harg8 arg9 harg9 arg10 harg10 arg11 harg11 arg12 harg12 arg13 harg13 arg14 harg14 v5 𝒱 bd E k0_t2 arg15 v230 X G10 G12 G13 G14) where
  post _ := softPost c arg8 arg10 arg12 arg13 arg14 X G12 G13 G14
  exit _ := softExit c arg8 arg10 harg10 arg12 harg12 arg13 harg13 arg14 harg14 X G10 G12 G13 G14 _ (by decide)

set_option warn.classDefReducibility false in
@[sl_loop] def loopInv_k0_t9 (𝒱 : Variants) (bd : Option 𝒱.V) (E : Set ℕ) (k0_t2 : Fin k0_t2_loop.trips) (arg15 : BitVec 32) (v230 : FVec Ideal S1536x256 .f32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopInvTy_k0_t9 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v230 where
  inv k _ := softInv c arg9 arg11 harg11 arg12 harg12 arg13 harg13 arg14 harg14 X G11 G12 G13 G14 k
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E X G11 G12 G13 G14 k

instance (𝒱 : Variants) (bd : Option 𝒱.V) (E : Set ℕ) (k0_t2 : Fin k0_t2_loop.trips) (arg15 : BitVec 32) (v230 : FVec Ideal S1536x256 .f32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopExit (loopInv_k0_t9 c i arg3 harg3 arg4 harg4 arg5 harg5 arg6 harg6 arg7 harg7 arg8 harg8 arg9 harg9 arg10 harg10 arg11 harg11 arg12 harg12 arg13 harg13 arg14 harg14 v5 𝒱 bd E k0_t2 arg15 v230 X G11 G12 G13 G14) where
  post _ := softPost c arg9 arg11 arg12 arg13 arg14 X G12 G13 G14
  exit _ := softExit c arg9 arg11 harg11 arg12 harg12 arg13 harg13 arg14 harg14 X G11 G12 G13 G14 _ (by decide)

set_option warn.classDefReducibility false in
@[sl_loop] def loopInv_k0_t10 (𝒱 : Variants) (bd : Option 𝒱.V) (E : Set ℕ) (k0_t2 : Fin k0_t2_loop.trips) (arg15 : BitVec 32) (v234 : BitVec 32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopInvTy_k0_t10 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 arg15 v234 where
  inv k _ := softInv c arg8 arg10 harg10 arg12 harg12 arg13 harg13 arg14 harg14 X G10 G12 G13 G14 k
  step k _ := softStep c i arg3 harg3 arg4 harg4 arg5 harg5 arg6 harg6 arg7 harg7 arg8 harg8 arg9 harg9 arg10 harg10 arg11 harg11 arg12 harg12 arg13 harg13 arg14 harg14 v5 (constant S1536x256 .f32 0x00000000#32) 𝒱 bd E X G10 G12 G13 G14 k

instance (𝒱 : Variants) (bd : Option 𝒱.V) (E : Set ℕ) (k0_t2 : Fin k0_t2_loop.trips) (arg15 : BitVec 32) (v234 : BitVec 32) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopExit (loopInv_k0_t10 c i arg3 harg3 arg4 harg4 arg5 harg5 arg6 harg6 arg7 harg7 arg8 harg8 arg9 harg9 arg10 harg10 arg11 harg11 arg12 harg12 arg13 harg13 arg14 harg14 v5 𝒱 bd E k0_t2 arg15 v234 X G10 G12 G13 G14) where
  post _ := softPost c arg8 arg10 arg12 arg13 arg14 X G12 G13 G14
  exit _ := softExit c arg8 arg10 harg10 arg12 harg12 arg13 harg13 arg14 harg14 X G10 G12 G13 G14 _ (by decide)

set_option warn.classDefReducibility false in
@[sl_loop] def loopInv_k0_t11 (𝒱 : Variants) (bd : Option 𝒱.V) (E : Set ℕ) (k0_t2 : Fin k0_t2_loop.trips) (v284 : BitVec 32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopInvTy_k0_t11 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 k0_t2 v284 where
  inv k _ := softInv c arg9 arg11 harg11 arg12 harg12 arg13 harg13 arg14 harg14 X G11 G12 G13 G14 k
  step k _ := softStep c i arg3 harg3 arg4 harg4 arg5 harg5 arg6 harg6 arg7 harg7 arg9 harg9 arg9 harg9 arg11 harg11 arg11 harg11 arg12 harg12 arg13 harg13 arg14 harg14 v5 (constant S1536x256 .f32 0x00000000#32) 𝒱 bd E X G11 G12 G13 G14 k

instance (𝒱 : Variants) (bd : Option 𝒱.V) (E : Set ℕ) (k0_t2 : Fin k0_t2_loop.trips) (v284 : BitVec 32) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopExit (loopInv_k0_t11 c i arg3 harg3 arg4 harg4 arg5 harg5 arg6 harg6 arg7 harg7 arg8 harg8 arg9 harg9 arg10 harg10 arg11 harg11 arg12 harg12 arg13 harg13 arg14 harg14 v5 𝒱 bd E k0_t2 v284 X G11 G12 G13 G14) where
  post _ := softPost c arg9 arg11 arg12 arg13 arg14 X G12 G13 G14
  exit _ := softExit c arg9 arg11 harg11 arg12 harg12 arg13 harg13 arg14 harg14 X G11 G12 G13 G14 _ (by decide)

set_option warn.classDefReducibility false in
@[sl_loop] def loopInv_k0_t12 (𝒱 : Variants) (bd : Option 𝒱.V) (E : Set ℕ) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopInvTy_k0_t12 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv k _ := softInv c arg8 arg10 harg10 arg12 harg12 arg13 harg13 arg14 harg14 X G10 G12 G13 G14 k
  step k _ := softStep c i arg3 harg3 arg4 harg4 arg5 harg5 arg6 harg6 arg7 harg7 arg8 harg8 arg9 harg9 arg10 harg10 arg11 harg11 arg12 harg12 arg13 harg13 arg14 harg14 v5 v30 𝒱 bd E X G10 G12 G13 G14 k

instance (𝒱 : Variants) (bd : Option 𝒱.V) (E : Set ℕ) (X : BufTy.Contents (Elt Ideal) arg8.view.ty)
    (G10 : BufTy.Contents (Elt Ideal) arg10.view.ty) (G12 : BufTy.Contents (Elt Ideal) arg12.view.ty)
    (G13 : BufTy.Contents (Elt Ideal) arg13.view.ty) (G14 : BufTy.Contents (Elt Ideal) arg14.view.ty) :
    LoopExit (loopInv_k0_t12 c i arg3 harg3 arg4 harg4 arg5 harg5 arg6 harg6 arg7 harg7 arg8 harg8 arg9 harg9 arg10 harg10 arg11 harg11 arg12 harg12 arg13 harg13 arg14 harg14 v5 v30 𝒱 bd E X G10 G12 G13 G14) where
  post _ := softPost c arg8 arg10 arg12 arg13 arg14 X G12 G13 G14
  exit _ := softExit c arg8 arg10 harg10 arg12 harg12 arg13 harg13 arg14 harg14 X G10 G12 G13 G14 _ (by decide)

set_option warn.classDefReducibility false in
@[sl_loop] def loopInv_k0_t13 (𝒱 : Variants) (bd : Option 𝒱.V) (E : Set ℕ) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopInvTy_k0_t13 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv k _ := softInv c arg9 arg11 harg11 arg12 harg12 arg13 harg13 arg14 harg14 X G11 G12 G13 G14 k
  step k _ := softStep c i arg3 harg3 arg4 harg4 arg5 harg5 arg6 harg6 arg7 harg7 arg9 harg9 arg9 harg9 arg11 harg11 arg11 harg11 arg12 harg12 arg13 harg13 arg14 harg14 v5 v30 𝒱 bd E X G11 G12 G13 G14 k

instance (𝒱 : Variants) (bd : Option 𝒱.V) (E : Set ℕ) (X : BufTy.Contents (Elt Ideal) arg9.view.ty)
    (G11 : BufTy.Contents (Elt Ideal) arg11.view.ty) (G12 : BufTy.Contents (Elt Ideal) arg12.view.ty)
    (G13 : BufTy.Contents (Elt Ideal) arg13.view.ty) (G14 : BufTy.Contents (Elt Ideal) arg14.view.ty) :
    LoopExit (loopInv_k0_t13 c i arg3 harg3 arg4 harg4 arg5 harg5 arg6 harg6 arg7 harg7 arg8 harg8 arg9 harg9 arg10 harg10 arg11 harg11 arg12 harg12 arg13 harg13 arg14 harg14 v5 v30 𝒱 bd E X G11 G12 G13 G14) where
  post _ := softPost c arg9 arg11 arg12 arg13 arg14 X G12 G13 G14
  exit _ := softExit c arg9 arg11 harg11 arg12 harg12 arg13 harg13 arg14 harg14 X G11 G12 G13 G14 _ (by decide)

end Cert.KernelIdeal.Soft

end
-- ==== Proof.Outer.lean ====
module

public import proofs.«01_k».proof.Proof.Gen.KernelIdeal.Loops
public import proofs.«01_k».proof.Proof.Soft
public import Idealize.ShloMosaic.Lib.Tactic
public import Idealize.ShloMosaic.Lib.Pointwise
public import Idealize.ShloMosaic.Lib.VecWindow
public import Idealize.ShloMosaic.Lib.Pipeline.Frame

@[expose] public section

noncomputable section

namespace Cert.KernelIdeal.Outer

open Cert.KernelIdeal Cert.KernelIdeal.Gen Cert.KernelIdeal.Soft
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## The state after each chunk of 256 keys

`q` are the 1536 query rows, `K` and `V` the keys and values of one key head. -/

/-- Chunk `n`: rows `256 n` to `256 n + 255`. -/
def ch (K : S1x8192x128.Idx → EReal) (n : ℕ) : Vec Ideal S1x256x128 .bf16 := fun x =>
  K (ix3 0 ⟨(256 * n + (x 1).val) % 8192, Nat.mod_lt _ (by decide)⟩ (x 2))

/-- The scores of chunk `n`. -/
def sc (q : FVec Ideal S1536x128 .bf16) (K : S1x8192x128.Idx → EReal) (n : ℕ) : S1536x256.Idx → EReal := k0_pay92 (F := Ideal) q (ch K n)

/-- The running maxima before chunk `n`. -/
def mm (q : FVec Ideal S1536x128 .bf16) (K : S1x8192x128.Idx → EReal) : ℕ → S1536x128.Idx → EReal
  | 0 => fun _ => ⊥
  | n + 1 => mNew (sc q K n) (mm q K n)

/-- The running sums before chunk `n`. -/
def ll (q : FVec Ideal S1536x128 .bf16) (K : S1x8192x128.Idx → EReal) : ℕ → S1536x128.Idx → EReal
  | 0 => fun _ => 0
  | n + 1 => lNew (sc q K n) (mm q K n) (ll q K n)

/-- The weights of chunk `n`. -/
def pp (q : FVec Ideal S1536x128 .bf16) (K : S1x8192x128.Idx → EReal) (n : ℕ) : S1536x256.Idx → EReal := pNew (sc q K n) (mm q K n)

/-- A chunk's product added. -/
def wv (V : S1x8192x128.Idx → EReal) (n : ℕ) (A : S1536x128.Idx → EReal) (P : S1536x256.Idx → EReal) : S1536x128.Idx → EReal :=
  k0_pay91 (F := Ideal) (ch V n) A P

/-- The accumulated product of the chunks before `n`, at the maxima that chunk `n` leaves. -/
def bb (q : FVec Ideal S1536x128 .bf16) (K V : S1x8192x128.Idx → EReal) : ℕ → S1536x128.Idx → EReal
  | 0 => aNew (sc q K 0) (mm q K 0) (fun _ => 0)
  | n + 1 => aNew (sc q K (n + 1)) (mm q K (n + 1)) (wv V n (bb q K V n) (pp q K n))

theorem mm_succ (q : FVec Ideal S1536x128 .bf16) (K : S1x8192x128.Idx → EReal) (n : ℕ) : mNew (sc q K n) (mm q K n) = mm q K (n + 1) := rfl
theorem ll_succ (q : FVec Ideal S1536x128 .bf16) (K : S1x8192x128.Idx → EReal) (n : ℕ) : lNew (sc q K n) (mm q K n) (ll q K n) = ll q K (n + 1) := rfl
theorem pp_eq (q : FVec Ideal S1536x128 .bf16) (K : S1x8192x128.Idx → EReal) (n : ℕ) : pNew (sc q K n) (mm q K n) = pp q K n := rfl
theorem bb_succ (q : FVec Ideal S1536x128 .bf16) (K V : S1x8192x128.Idx → EReal) (n n' : ℕ) (h : n' = n + 1) :
    aNew (sc q K n') (mm q K n') (wv V n (bb q K V n) (pp q K n)) = bb q K V (n + 1) := by subst h; rfl

/-! ## The stored vectors as the state's -/

theorem scPays : @k0_pay95 Ideal _ = k0_pay92 ∧ @k0_pay99 Ideal _ = k0_pay92 ∧ @k0_pay102 Ideal _ = k0_pay92
    ∧ @k0_pay105 Ideal _ = k0_pay92 ∧ @k0_pay108 Ideal _ = k0_pay92 ∧ @k0_pay111 Ideal _ = k0_pay92
    ∧ @k0_pay114 Ideal _ = k0_pay92 ∧ @k0_pay117 Ideal _ = k0_pay92 ∧ @k0_pay137 Ideal _ = k0_pay92 :=
  ⟨rfl, rfl, rfl, rfl, rfl, rfl, rfl, rfl, rfl⟩

theorem wvPays : @k0_pay94 Ideal _ = k0_pay91 ∧ @k0_pay101 Ideal _ = k0_pay91 ∧ @k0_pay104 Ideal _ = k0_pay91
    ∧ @k0_pay107 Ideal _ = k0_pay91 ∧ @k0_pay110 Ideal _ = k0_pay91 ∧ @k0_pay113 Ideal _ = k0_pay91
    ∧ @k0_pay116 Ideal _ = k0_pay91 ∧ @k0_pay139 Ideal _ = k0_pay91
    ∧ (∀ v A P, k0_pay98 (F := Ideal) (k0_pay97 v) A P = k0_pay91 v A P)
    ∧ (∀ v A P, k0_pay136 (F := Ideal) A (k0_pay119 v P) = k0_pay91 v A P) :=
  ⟨rfl, rfl, rfl, rfl, rfl, rfl, rfl, rfl, fun _ _ _ => rfl, fun _ _ _ => rfl⟩

theorem sc_eq (q : FVec Ideal S1536x128 .bf16) (K : S1x8192x128.Idx → EReal) (n : ℕ) : k0_pay92 (F := Ideal) q (ch K n) = sc q K n := rfl
theorem wv_eq (V : S1x8192x128.Idx → EReal) (n : ℕ) (A : S1536x128.Idx → EReal) (P : S1536x256.Idx → EReal) :
    k0_pay91 (F := Ideal) (ch V n) A P = wv V n A P := rfl

/-- The load of a chunk. -/
theorem readAt_ch {sp : Space} (v : View sig .tc sp S1x8192x128 .bf16) (f : v.ty.Contents (Elt Ideal)) (n : ℕ) (hn : n < 32)
    {off : Fin 3 → ℕ} (inb : ∀ a, off a + S1x256x128.size a ≤ S1x8192x128.size a) (ho : off = ![0, 256 * n, 0]) :
    v.readAt (Elt Ideal) (Rect.unit (s := S1x8192x128) off S1x256x128.size inb).toLoadRect f = ch (v.read (Elt Ideal) f) n := by
  subst ho
  funext x
  have h1 : (x 1).val < 256 := (x 1).isLt
  have h0 : (x 0).val < 1 := (x 0).isLt
  rw [View.readAt_eq_ld]
  refine congrArg (v.read (Elt Ideal) f) (funext fun a => ?_)
  match a with
  | 0 => exact Fin.ext (show 0 + 1 * (x 0).val = 0 by omega)
  | 1 => exact Fin.ext (show 256 * n + 1 * (x 1).val = (256 * n + (x 1).val) % 8192 by omega)
  | 2 => exact Fin.ext (show 0 + 1 * (x 2).val = (x 2).val by omega)

theorem trip_lt (k : Fin k0_t2_loop.trips) : k.val < 3 := Nat.lt_of_lt_of_eq k.isLt (by decide)

theorem readAt_even {sp : Space} (v : View sig .tc sp S1x8192x128 .bf16) (f : v.ty.Contents (Elt Ideal)) (k : Fin k0_t2_loop.trips) (a : ℕ) (ha : a < 5)
    (inb : ∀ x, k0_off4 k (BitVec.ofNat 32 a) x + S1x256x128.size x ≤ S1x8192x128.size x) :
    v.readAt (Elt Ideal) (Rect.unit (s := S1x8192x128) (k0_off4 k (BitVec.ofNat 32 a)) S1x256x128.size inb).toLoadRect f
      = ch (v.read (Elt Ideal) f) (10 * k.val + 2 * a) := by
  have hk := trip_lt k
  refine readAt_ch v f _ (by omega) inb ((k0_off4_eq k ⟨a, ha⟩).trans ?_)
  rw [show 2560 * k.val + 512 * (⟨a, ha⟩ : Fin 5).val = 256 * (10 * k.val + 2 * a) from by show _ + 512 * a = _; omega]

theorem readAt_odd {sp : Space} (v : View sig .tc sp S1x8192x128 .bf16) (f : v.ty.Contents (Elt Ideal)) (k : Fin k0_t2_loop.trips) (a b : ℕ) (ha : a < 5)
    (hb : 1 ≤ b ∧ b < 4) (inb : ∀ x, k0_off5 k (BitVec.ofNat 32 a) (BitVec.ofNat 32 b) x + S1x256x128.size x ≤ S1x8192x128.size x) :
    v.readAt (Elt Ideal) (Rect.unit (s := S1x8192x128) (k0_off5 k (BitVec.ofNat 32 a) (BitVec.ofNat 32 b)) S1x256x128.size inb).toLoadRect f
      = ch (v.read (Elt Ideal) f) (10 * k.val + (2 * a + b)) := by
  obtain ⟨b, rfl⟩ : ∃ b', b = 1 + b' := ⟨b - 1, by omega⟩
  have hk := trip_lt k
  refine readAt_ch v f _ (by omega) inb ((k0_off5_eq k ⟨a, ha⟩ ⟨b, by omega⟩).trans ?_)
  rw [show 2560 * k.val + 512 * (⟨a, ha⟩ : Fin 5).val + 256 * (⟨b, by omega⟩ : Fin 3).val + 256 = 256 * (10 * k.val + (2 * a + (1 + b))) from by
    show _ + 512 * a + 256 * b + 256 = _; omega]

/-! ## One trip: ten chunks -/

variable (c : Dev nD) (i : grid0.Coords)
  (arg3 : Memref sig .tc .vmem S1x512x384 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x512x384 .bf16) (harg6 : arg6.IsWhole)
  (arg7 : Memref sig .tc .vmem S1x512x384 .bf16) (harg7 : arg7.IsWhole)
  (arg8 : Memref sig .tc .vmem S1536x256 .f32) (harg8 : arg8.IsWhole)
  (arg9 : Memref sig .tc .vmem S1536x256 .f32) (harg9 : arg9.IsWhole)
  (arg10 : Memref sig .tc .vmem S1536x256 .bf16) (harg10 : arg10.IsWhole)
  (arg11 : Memref sig .tc .vmem S1536x256 .bf16) (harg11 : arg11.IsWhole)
  (arg12 : Memref sig .tc .vmem S1536x128 .f32) (harg12 : arg12.IsWhole)
  (arg13 : Memref sig .tc .vmem S1536x128 .f32) (harg13 : arg13.IsWhole)
  (arg14 : Memref sig .tc .vmem S1536x128 .f32) (harg14 : arg14.IsWhole)
  (v5 : FVec Ideal S1536x128 .bf16) (v30 : FVec Ideal S1536x256 .f32)

/-- The buffers before trip `n` of the loop over ten chunks: the scores of the next chunk in `arg9`, the weights
    of the current one in `arg10`. -/
abbrev outerInv (K : BufTy.Contents (Elt Ideal) arg4.view.ty) (V : BufTy.Contents (Elt Ideal) arg5.view.ty) (n : ℕ) : sProp 𝕄 :=
  iprop(pt c arg4 K ∗ pt c arg5 V ∗ (∃ f, pt c arg8 f)
    ∗ (∃ f, pt c arg9 f ∗ ⌜arg9.view.read (Elt Ideal) f = sc v5 (arg4.view.read (Elt Ideal) K) (10 * n + 1)⌝)
    ∗ (∃ f, pt c arg10 f ∗ ⌜arg10.view.read (Elt Ideal) f = pp v5 (arg4.view.read (Elt Ideal) K) (10 * n)⌝)
    ∗ (∃ f, pt c arg11 f)
    ∗ (∃ f, pt c arg12 f ∗ ⌜arg12.view.read (Elt Ideal) f = mm v5 (arg4.view.read (Elt Ideal) K) (10 * n + 1)⌝)
    ∗ (∃ f, pt c arg13 f ∗ ⌜arg13.view.read (Elt Ideal) f = ll v5 (arg4.view.read (Elt Ideal) K) (10 * n + 1)⌝)
    ∗ (∃ f, pt c arg14 f ∗ ⌜arg14.view.read (Elt Ideal) f = bb v5 (arg4.view.read (Elt Ideal) K) (arg5.view.read (Elt Ideal) V) (10 * n)⌝))

set_option maxHeartbeats 4000000 in
theorem outerStep (𝒱 : Variants) (bd : Option 𝒱.V) (E : Set ℕ) (K : BufTy.Contents (Elt Ideal) arg4.view.ty) (V : BufTy.Contents (Elt Ideal) arg5.view.ty)
    (k : Fin k0_t2_loop.trips) :
    outerInv c arg4 arg5 arg8 arg9 arg10 arg11 arg12 arg13 arg14 v5 K V k.val
    ⊢ wp frame (wpE (defs₀ (F := Ideal)) 𝒱 (c : Thread nD τ) bd) E
        (k0_t2_body (F := Ideal) i arg3 harg3 arg4 harg4 arg5 harg5 arg6 harg6 arg7 harg7 arg8 harg8 arg9 harg9 arg10 harg10 arg11 harg11 arg12 harg12 arg13 harg13 arg14 harg14 v5 v30 k ())
        (fun _ => outerInv c arg4 arg5 arg8 arg9 arg10 arg11 arg12 arg13 arg14 v5 K V (k.val + 1)) := by
  unfold k0_t2_body
  iintro ⟨H4, H5, ⟨%f8, H8⟩, ⟨%f9, H9, %h9⟩, ⟨%f10, H10, %h10⟩, ⟨%f11, H11⟩, ⟨%f12, H12, %h12⟩, ⟨%f13, H13, %h13⟩, ⟨%f14, H14, %h14⟩⟩
  sl_exec
  sl_step
  -- the values that the run names
  have er : outerStep.sl.r arg5 V k = k0_pay97 (ch (arg5.view.read (Elt Ideal) V) (10 * k.val + 2)) :=
    congrArg (k0_pay97 (F := Ideal)) (readAt_even arg5.view V k 1 (by decide) _)
  have er1 : ∀ f, outerStep.sl.r_1 arg14 f = arg14.view.read (Elt Ideal) f := fun f => View.readAt_full arg14.view f _
  have er4 : ∀ f, outerStep.sl.r_4 arg14 f = arg14.view.read (Elt Ideal) f := fun f => View.readAt_full arg14.view f _
  have er2 : ∀ f g, outerStep.sl.r_2 arg5 arg11 arg14 V k f g
      = wv (arg5.view.read (Elt Ideal) V) (10 * k.val + 3) (arg14.view.read (Elt Ideal) g) (arg11.view.read (Elt Ideal) f) := fun f g =>
    ((congrArg (k0_pay91 (F := Ideal) · _ _) (readAt_odd arg5.view V k 1 1 (by decide) (by decide) _)).trans
      (congrArg (k0_pay91 (F := Ideal) _ · _) (View.readAt_full arg14.view g _))).trans
      (congrArg (k0_pay91 (F := Ideal) _ _) (View.readAt_full arg11.view f _))
  have er3 : outerStep.sl.r_3 arg4 v5 K k = sc v5 (arg4.view.read (Elt Ideal) K) (10 * k.val + 7) :=
    congrArg (k0_pay92 (F := Ideal) v5) (readAt_odd arg4.view K k 2 3 (by decide) (by decide) _)
  have er5 : ∀ f, outerStep.sl.r_5 arg5 arg11 V k f
      = k0_pay119 (ch (arg5.view.read (Elt Ideal) V) (10 * k.val + 9)) (arg11.view.read (Elt Ideal) f) := fun f =>
    (congrArg (k0_pay119 (F := Ideal) · _) (readAt_odd arg5.view V k 4 1 (by decide) (by decide) _)).trans
      (congrArg (k0_pay119 (F := Ideal) _) (View.readAt_full arg11.view f _))
  have e8 : arg8.view.read (Elt Ideal) (arg8.view.writes (Elt Ideal) arg8.view.junk (outerStep.sl.H8_1 arg4 v5 K k))
      = sc v5 (arg4.view.read (Elt Ideal) K) (10 * k.val + 2) :=
    (View.read_writes_full arg8.view _ inb_S1536x256_S1536x256_0_0 _ []).trans
      (congrArg (k0_pay92 (F := Ideal) v5) (readAt_odd arg4.view K k 0 2 (by decide) (by decide) (k0_off5_inb k 0 1)))
  have e9 : arg9.view.read (Elt Ideal) (arg9.view.writes (Elt Ideal) arg9.view.junk (outerStep.sl.H9_1 arg4 v5 K k))
      = sc v5 (arg4.view.read (Elt Ideal) K) (10 * k.val + 3) :=
    (View.read_writes_full arg9.view _ inb_S1536x256_S1536x256_0_0 _ []).trans
      (congrArg (k0_pay92 (F := Ideal) v5) (readAt_odd arg4.view K k 0 3 (by decide) (by decide) (k0_off5_inb k 0 2)))
  have e14 : arg14.view.read (Elt Ideal) (arg14.view.writes (Elt Ideal) arg14.view.junk (outerStep.sl.H14_1 arg5 arg10 arg14 V k f10 f14))
      = wv (arg5.view.read (Elt Ideal) V) (10 * k.val) (arg14.view.read (Elt Ideal) f14) (arg10.view.read (Elt Ideal) f10) :=
    (View.read_writes_full arg14.view _ inb_S1536x128_S1536x128_0_0 _ []).trans
      (((congrArg (k0_pay91 (F := Ideal) · _ _) (readAt_even arg5.view V k 0 (by decide) (k0_off4_inb k 0))).trans
        (congrArg (k0_pay91 (F := Ideal) _ · _) (View.readAt_full arg14.view f14 _))).trans
        (congrArg (k0_pay91 (F := Ideal) _ _) (View.readAt_full arg10.view f10 _)))
  simp -proj only [e8, e9, e14, er, er1, er2, er3, er4, er5, View.read_writes_full, ← View.writes_cons, View.readAt_full, scPays, wvPays] at *
  simp -proj +decide only [readAt_even, readAt_odd, Nat.reduceMul, Nat.reduceAdd, Nat.add_zero, sc_eq, wv_eq] at *
  isplitl [H4]; · iexact H4
  isplitl [H5]; · iexact H5
  isplitl [H8]; · iexists _; iexact H8
  isplitl [H9]
  · iexists _; isplitl [H9]; · iexact H9
    ipureintro
    simp -proj only [View.read_writes_full, Nat.mul_add, Nat.mul_one, Nat.add_assoc, Nat.reduceAdd]
  isplitl [H10]
  · iexists _; isplitl [H10]; · iexact H10
    ipureintro
    simp -proj only [*, mm_succ, ll_succ, pp_eq, Nat.mul_add, Nat.mul_one, Nat.add_assoc, Nat.reduceAdd]
  isplitl [H11]; · iexists _; iexact H11
  isplitl [H12]
  · iexists _; isplitl [H12]; · iexact H12
    ipureintro
    simp -proj only [*, mm_succ, ll_succ, pp_eq, Nat.mul_add, Nat.mul_one, Nat.add_assoc, Nat.reduceAdd]
  isplitl [H13]
  · iexists _; isplitl [H13]; · iexact H13
    ipureintro
    simp -proj only [*, mm_succ, ll_succ, pp_eq, Nat.mul_add, Nat.mul_one, Nat.add_assoc, Nat.reduceAdd]
  · iexists _; isplitl [H14]; · iexact H14
    ipureintro
    simp -proj only [*, mm_succ, ll_succ, pp_eq, bb_succ, Nat.mul_add, Nat.mul_one, Nat.add_assoc, Nat.reduceAdd]

end Cert.KernelIdeal.Outer
-- ==== Proof.Body.lean ====
module

public import proofs.«01_k».proof.Proof.Gen.KernelIdeal.Loops
public import proofs.«01_k».proof.Proof.Outer
public import Idealize.ShloMosaic.Lib.Tactic
public import Idealize.ShloMosaic.Lib.Pointwise
public import Idealize.ShloMosaic.Lib.VecWindow
public import Idealize.ShloMosaic.Lib.Pipeline.Frame

@[expose] public section

noncomputable section

namespace Cert.KernelIdeal.Body

open Cert.KernelIdeal Cert.KernelIdeal.Gen Cert.KernelIdeal.Soft Cert.KernelIdeal.Outer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What one grid step computes: the gated output of 512 positions of three query heads. -/
def out (Q : S1x512x384.Idx → EReal) (K V : S1x8192x128.Idx → EReal) (G : S1x512x384.Idx → EReal) : S1x512x384.Idx → EReal :=
  k0_pay2 (F := Ideal) (wv V 31 (bb (k0_pay128 (F := Ideal) Q) K V 31) (pp (k0_pay128 (F := Ideal) Q) K 31))
    (ll (k0_pay128 (F := Ideal) Q) K 32) G

theorem pay129_eq (q : S1536x128.Idx → EReal) (K : S1x8192x128.Idx → EReal) : k0_pay129 (F := Ideal) = mm q K 0 := by
  funext x; exact negInf
theorem pay130_eq (q : S1536x128.Idx → EReal) (K : S1x8192x128.Idx → EReal) : k0_pay130 (F := Ideal) = ll q K 0 := by
  funext x; exact Ideal.ofBits_zero FTy.f32
theorem pay131_eq : k0_pay131 (F := Ideal) = fun _ => (0 : EReal) := by
  funext x; exact Ideal.ofBits_zero FTy.f32

variable (c : Dev nD) (i : grid0.Coords)
  (arg3 : Memref sig .tc .vmem S1x512x384 .bf16) (harg3 : arg3.IsWhole)
  (arg4 : Memref sig .tc .vmem S1x8192x128 .bf16) (harg4 : arg4.IsWhole)
  (arg5 : Memref sig .tc .vmem S1x8192x128 .bf16) (harg5 : arg5.IsWhole)
  (arg6 : Memref sig .tc .vmem S1x512x384 .bf16) (harg6 : arg6.IsWhole)
  (arg7 : Memref sig .tc .vmem S1x512x384 .bf16) (harg7 : arg7.IsWhole)
  (arg8 : Memref sig .tc .vmem S1536x256 .f32) (harg8 : arg8.IsWhole)
  (arg9 : Memref sig .tc .vmem S1536x256 .f32) (harg9 : arg9.IsWhole)
  (arg10 : Memref sig .tc .vmem S1536x256 .bf16) (harg10 : arg10.IsWhole)
  (arg11 : Memref sig .tc .vmem S1536x256 .bf16) (harg11 : arg11.IsWhole)
  (arg12 : Memref sig .tc .vmem S1536x128 .f32) (harg12 : arg12.IsWhole)
  (arg13 : Memref sig .tc .vmem S1536x128 .f32) (harg13 : arg13.IsWhole)
  (arg14 : Memref sig .tc .vmem S1536x128 .f32) (harg14 : arg14.IsWhole)

set_option warn.classDefReducibility false in
/-- The loop over ten chunks at a time, with its invariant. -/
def outerLoop (v5 : FVec Ideal S1536x128 .bf16) (v30 : FVec Ideal S1536x256 .f32) (𝒱 : Variants) (bd : Option 𝒱.V) (E : Set ℕ)
    (K : BufTy.Contents (Elt Ideal) arg4.view.ty) (V : BufTy.Contents (Elt Ideal) arg5.view.ty) :
    LoopInvTy_k0_t2 (F := Ideal) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v5 v30 where
  inv k _ := outerInv c arg4 arg5 arg8 arg9 arg10 arg11 arg12 arg13 arg14 v5 K V k
  step k _ := outerStep c i arg3 harg3 arg4 harg4 arg5 harg5 arg6 harg6 arg7 harg7 arg8 harg8 arg9 harg9 arg10 harg10 arg11 harg11 arg12 harg12 arg13 harg13 arg14 harg14 v5 v30 𝒱 bd E K V k

set_option maxHeartbeats 4000000 in
/-- One grid step, from its four input blocks to the output block that `out` says. -/
theorem bodyRun (𝒱 : Variants) (bd : Option 𝒱.V) (E : Set ℕ) (Q : BufTy.Contents (Elt Ideal) arg3.view.ty) (K : BufTy.Contents (Elt Ideal) arg4.view.ty) (V : BufTy.Contents (Elt Ideal) arg5.view.ty) (G : BufTy.Contents (Elt Ideal) arg6.view.ty)
    (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
    (Ψ : PUnit → sProp 𝕄) :
    iprop(pt c arg3 Q ∗ pt c arg4 K ∗ pt c arg5 V ∗ pt c arg6 G ∗ pt c arg7 f7 ∗ pt c arg8 f8 ∗ pt c arg9 f9 ∗ pt c arg10 f10 ∗ pt c arg11 f11 ∗ pt c arg12 f12 ∗ pt c arg13 f13 ∗ pt c arg14 f14
        ∗ (iprop(pt c arg3 Q ∗ pt c arg4 K ∗ pt c arg5 V ∗ pt c arg6 G
          ∗ (∃ f, pt c arg7 f ∗ ⌜arg7.view.read (Elt Ideal) f = out (arg3.view.read (Elt Ideal) Q) (arg4.view.read (Elt Ideal) K) (arg5.view.read (Elt Ideal) V) (arg6.view.read (Elt Ideal) G)⌝)
          ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f)) -∗ Ψ ⟨⟩))
      ⊢ wp frame (wpE (defs₀ (F := Ideal)) 𝒱 (c : Thread nD τ) bd) E (cc0_attention (F := Ideal) i arg3 harg3 arg4 harg4 arg5 harg5 arg6 harg6 arg7 harg7 arg8 harg8 arg9 harg9 arg10 harg10 arg11 harg11 arg12 harg12 arg13 harg13 arg14 harg14) Ψ := by
  rw [cc0_attention_eq_skeleton]; unfold cc0_attention_skel
  iintro ⟨H3, H4, H5, H6, H7, H8, H9, H10, H11, H12, H13, H14, Hk⟩
  sl_exec
  have er : bodyRun.sl.r arg3 Q = k0_pay128 (arg3.view.read (Elt Ideal) Q) :=
    congrArg (k0_pay128 (F := Ideal)) (View.readAt_full arg3.view Q _)
  have e8 : arg8.view.read (Elt Ideal) (arg8.view.writes (Elt Ideal) arg8.view.junk (bodyRun.sl.H8_1 arg3 arg4 Q K))
      = sc (k0_pay128 (arg3.view.read (Elt Ideal) Q)) (arg4.view.read (Elt Ideal) K) 0 :=
    (View.read_writes_full arg8.view _ inb_S1536x256_S1536x256_0_0 _ []).trans
      ((congrArg (fun x => k0_pay92 (F := Ideal) (k0_pay128 x) _) (View.readAt_full arg3.view Q _)).trans
        (congrArg (k0_pay92 (F := Ideal) _) (readAt_ch arg4.view K 0 (by decide) inb_S1x8192x128_S1x256x128_0_0_0 rfl)))
  have e9 : arg9.view.read (Elt Ideal) (arg9.view.writes (Elt Ideal) arg9.view.junk (bodyRun.sl.H9_1 arg3 arg4 Q K))
      = sc (k0_pay128 (arg3.view.read (Elt Ideal) Q)) (arg4.view.read (Elt Ideal) K) 1 :=
    (View.read_writes_full arg9.view _ inb_S1536x256_S1536x256_0_0 _ []).trans
      ((congrArg (fun x => k0_pay92 (F := Ideal) (k0_pay128 x) _) (View.readAt_full arg3.view Q _)).trans
        (congrArg (k0_pay92 (F := Ideal) _) (readAt_ch arg4.view K 1 (by decide) inb_S1x8192x128_S1x256x128_0_256_0 rfl)))
  simp -proj only [e8, er, View.read_writes_full, ← View.writes_cons] at *
  have g9 : arg9.view.read (Elt Ideal) (arg9.view.writes (Elt Ideal) arg9.view.junk (bodyRun.sl.H9_1 arg3 arg4 Q K))
      = sc (k0_pay128 (arg3.view.read (Elt Ideal) Q)) (arg4.view.read (Elt Ideal) K) (10 * 0 + 1) := e9
  have g10 : arg10.view.read (Elt Ideal) fL0 = pp (k0_pay128 (arg3.view.read (Elt Ideal) Q)) (arg4.view.read (Elt Ideal) K) (10 * 0) := by
    rw [hL2, pay129_eq]; rfl
  have g12 : arg12.view.read (Elt Ideal) fL1 = mm (k0_pay128 (arg3.view.read (Elt Ideal) Q)) (arg4.view.read (Elt Ideal) K) (10 * 0 + 1) := by
    rw [hL4, pay129_eq]; rfl
  have g13 : arg13.view.read (Elt Ideal) fL2 = ll (k0_pay128 (arg3.view.read (Elt Ideal) Q)) (arg4.view.read (Elt Ideal) K) (10 * 0 + 1) := by
    rw [hL6, pay129_eq, pay130_eq]; rfl
  have g14 : arg14.view.read (Elt Ideal) fL3 = bb (k0_pay128 (arg3.view.read (Elt Ideal) Q)) (arg4.view.read (Elt Ideal) K) (arg5.view.read (Elt Ideal) V) (10 * 0) := by
    rw [hL8, pay129_eq, pay131_eq]; rfl
  clear hL2 hL4 hL6 hL8
  let L := outerLoop c i arg3 harg3 arg4 harg4 arg5 harg5 arg6 harg6 arg7 harg7 arg8 harg8 arg9 harg9 arg10 harg10 arg11 harg11 arg12 harg12 arg13 harg13 arg14 harg14 (k0_pay128 (arg3.view.read (Elt Ideal) Q)) (bodyRun.sl.r_1 arg3 arg4 Q K) 𝒱 bd E K V
  sl_exec
  have e10 : 10 * Scf.trips k0_t2_loop.lb k0_t2_loop.ub k0_t2_loop.st = 30 := by decide
  have e139 : k0_pay139 (F := Ideal) (View.readAt (Elt Ideal) arg5.view (Rect.unit (s := S1x8192x128) ![0, 7680, 0] S1x256x128.size inb_S1x8192x128_S1x256x128_0_7680_0).toLoadRect V)
      (View.readAt (Elt Ideal) arg14.view (Rect.unit (s := S1536x128) ![0, 0] S1536x128.size inb_S1536x128_S1536x128_0_0).toLoadRect fL6)
      (View.readAt (Elt Ideal) arg10.view (Rect.unit (s := S1536x256) ![0, 0] S1536x256.size inb_S1536x256_S1536x256_0_0).toLoadRect fL2)
      = wv (arg5.view.read (Elt Ideal) V) 30 (arg14.view.read (Elt Ideal) fL6) (arg10.view.read (Elt Ideal) fL2) :=
    ((congrArg (k0_pay91 (F := Ideal) · _ _) (readAt_ch arg5.view V 30 (by decide) inb_S1x8192x128_S1x256x128_0_7680_0 rfl)).trans
      (congrArg (k0_pay91 (F := Ideal) _ · _) (View.readAt_full arg14.view fL6 _))).trans
      (congrArg (k0_pay91 (F := Ideal) _ _) (View.readAt_full arg10.view fL2 _))
  have e59 : bodyRun.sl.v59 arg5 arg11 arg14 V fL7 fL10
      = wv (arg5.view.read (Elt Ideal) V) 31 (arg14.view.read (Elt Ideal) fL10) (arg11.view.read (Elt Ideal) fL7) :=
    ((View.readAt_full arg14.view _ _).trans (View.read_writes_full arg14.view _ inb_S1536x128_S1536x128_0_0 _ [])).trans
    (((congrArg (k0_pay91 (F := Ideal) · _ _) (readAt_ch arg5.view V 31 (by decide) inb_S1x8192x128_S1x256x128_0_7936_0 rfl)).trans
      (congrArg (k0_pay91 (F := Ideal) _ · _) (View.readAt_full arg14.view fL10 _))).trans
      (congrArg (k0_pay91 (F := Ideal) _ _) (View.readAt_full arg11.view fL7 _)))
  rw [e10] at hL4 hL6 hL9 hL11 hL13
  simp -proj only [← View.writes_cons, View.read_writes_full] at hL22
  rw [e139, hL4, hL9, hL6, hL13, bb_succ _ _ _ _ _ rfl] at hL22
  rw [hL4, hL9, hL11, ll_succ] at hL20
  rw [hL4, hL9, pp_eq] at hL16
  sl_step
  iapply Hk
  isplitl [H3]; · iexact H3
  isplitl [H4]; · iexact H4
  isplitl [H5]; · iexact H5
  isplitl [H6]; · iexact H6
  isplitl [H7]
  · iexists _; isplitl [H7]; · iexact H7
    ipureintro
    refine (View.read_writes_full arg7.view f7 inb_S1x512x384_S1x512x384_0_0_0 _ []).trans ?_
    rw [e59, hL22, hL16]
    exact (congrArg (k0_pay2 (F := Ideal) _ · _) ((View.readAt_full arg13.view fL9 _).trans hL20)).trans
      (congrArg (k0_pay2 (F := Ideal) _ _) (View.readAt_full arg6.view G _))
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.KernelIdeal.Body
-- ==== Proof.Run.lean ====
/- The attention's grid: the pipeline over the 64 steps, run from the body's triple (`Body.bodyRun`), with each output block at what `Body.out` says. -/
module

public import proofs.«01_k».proof.Proof.Body
public import proofs.«01_k».proof.Proof.Gen.KernelIdeal.Frame
public import Idealize.ShloMosaic.Lib.Pipeline.FrameBody
public import Idealize.ShloMosaic.Lib.Tactic

@[expose] public section

set_option maxRecDepth 16384

noncomputable section

namespace Cert.KernelIdeal.Run

open Cert.KernelIdeal Cert.KernelIdeal.Gen Cert.KernelIdeal.Soft Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output block of point `t`. -/
def outAt (c : Dev nD) (t : Fin cfg0.N) : S1x512x384.Idx → EReal :=
  out (iblk m c 0 t) (iblk m c 1 t) (iblk m c 2 t) (iblk m c 3 t)

/-- The proof data of the pipeline: inputs left as fetched, the output block at `outAt`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop(Pipeline.ΦA spec0 c ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem pt_whole (c : Dev nD) (b : Ref sig .tc) (f : b.ty.Contents (Elt Ideal)) :
    pt c (Memref.whole b) f = ((c : Thread nD τ).loc b ↦{fullShare} f) := by
  unfold pt; simp only [Memref.view_whole, View.set_whole]

/-- The scratch buffers at some contents, as the body is lent them. -/
theorem rest_eq (c : Dev nD) : (Pipeline.scopedRest (Ix := Unit) (Name := ℕ) (U := UR sig nD τ) (Lvl := ℕ) (Val := Elt Ideal) spec0 c : sProp 𝕄)
    = iprop((∃ f, pt c (Memref.whole cc0_scratch0) f) ∗ (∃ f, pt c (Memref.whole cc0_scratch1) f) ∗ (∃ f, pt c (Memref.whole cc0_scratch2) f)
        ∗ (∃ f, pt c (Memref.whole cc0_scratch3) f) ∗ (∃ f, pt c (Memref.whole cc0_scratch4) f) ∗ (∃ f, pt c (Memref.whole cc0_scratch5) f)
        ∗ (∃ f, pt c (Memref.whole cc0_scratch6) f)) := by
  have h : ∀ b : Ref sig .tc, iprop(∃ f, pt c (Memref.whole b) f) = (iprop(∃ f : Buf (Elt Ideal) ((c : Thread nD τ).loc b), ((c : Thread nD τ).loc b) ↦{fullShare} f) : sProp 𝕄) := fun b => by
    congr 1; funext f; exact pt_whole c b f
  rw [scopedRest0_eq, h, h, h, h, h, h, h]

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [after_0, after_1, after_2, after_3, after_4]
  unfold Pipeline.ΦA
  rw [rest_eq]
  unfold owns
  iintro ⟨⟨⟨⟨%s0, S0⟩, ⟨%s1, S1⟩, ⟨%s2, S2⟩, ⟨%s3, S3⟩, ⟨%s4, S4⟩, ⟨%s5, S5⟩, ⟨%s6, S6⟩⟩, Hg⟩, HW,
    ⟨%d0, %f0, %e0, H0⟩, ⟨%d1, %f1, %e1, H1⟩, ⟨%d2, %f2, %e2, H2⟩, ⟨%d3, %f3, %e3, H3⟩, ⟨%d4, %f4, -, H4⟩⟩
  iapply (bodyRun c (grid0.coords t) _ _ _ _ _ _ _ _ _ _ _ _ _ _ _ _ _ _ _ _ _ _ _ _ Variants.none none Set.univ f0 f1 f2 f3 f4 s0 s1 s2 s3 s4 s5 s6 _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, ⟨%f, H4, %e4⟩, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [HW]; · iexact HW
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  iexists f; isplitr
  · ipureintro; rw [e4, e0, e1, e2, e3]; rfl
  iexact H4

theorem defs₀_row (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Every execution of the ideal kernel ends, with the arrays as the pipeline leaves them and every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution of the ideal kernel ends, with the arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Cert.KernelIdeal.Run
-- ==== Proof.Online.lean ====
module

public import proofs.«01_k».proof.Proof.Outer

/-! The running softmax of one query row: what the maxima, sums and products are after each chunk of keys, and that the
quotient at the end is the softmax-weighted sum over all keys. The scores of the row are real numbers `s 0, s 1, …`;
the values `v 0, v 1, …` are any extended reals. -/

@[expose] public section

noncomputable section

namespace Cert.KernelIdeal.Online

open Cert.KernelIdeal Cert.KernelIdeal.Gen Cert.KernelIdeal.Soft Cert.KernelIdeal.Outer
open Idealize.ShloMosaic Idealize.ShloMosaic.TcCoe Idealize.ShloMosaic.Tactic

/-! ## Extended reals -/

theorem exp2_sub (x y : ℝ) : Ideal.exp2 ((x : EReal) - (y : EReal)) = (((2 : ℝ) ^ (x - y) : ℝ) : EReal) := by
  rw [← EReal.coe_sub]; rfl

theorem exp2_bot_sub (y : EReal) : Ideal.exp2 (⊥ - y) = 0 := by
  rw [EReal.bot_sub]; rfl

theorem coe_max (x y : ℝ) : max (x : EReal) (y : EReal) = ((max x y : ℝ) : EReal) :=
  (EReal.coe_strictMono.monotone.map_max).symm

theorem coe_sum {ι : Type} (t : Finset ι) (f : ι → ℝ) : ∑ i ∈ t, ((f i : ℝ) : EReal) = ((∑ i ∈ t, f i : ℝ) : EReal) := by
  classical
  induction t using Finset.induction with
  | empty => rw [Finset.sum_empty, Finset.sum_empty, EReal.coe_zero]
  | insert a t ha ih => rw [Finset.sum_insert ha, Finset.sum_insert ha, ih, EReal.coe_add]

/-- A factor that is real and not negative goes into a sum. -/
theorem mul_sum {ι : Type} (t : Finset ι) (c : ℝ) (hc : 0 ≤ c) (f : ι → EReal) :
    (c : EReal) * ∑ i ∈ t, f i = ∑ i ∈ t, (c : EReal) * f i := by
  classical
  induction t using Finset.induction with
  | empty => rw [Finset.sum_empty, Finset.sum_empty, mul_zero]
  | insert a t ha ih =>
    rw [Finset.sum_insert ha, Finset.sum_insert ha,
      EReal.left_distrib_of_nonneg_of_ne_top (EReal.coe_nonneg.mpr hc) (EReal.coe_ne_top c), ih]

/-- The greatest of finitely many reals, at least one, is real. -/
theorem fold_max {ι : Type} (t : Finset ι) (ht : t.Nonempty) (f : ι → EReal) (hf : ∀ i, ∃ x : ℝ, f i = x) :
    ∃ x : ℝ, t.fold max ⊥ f = x := by
  classical
  induction ht using Finset.Nonempty.cons_induction with
  | singleton a => obtain ⟨x, hx⟩ := hf a; exact ⟨x, by rw [Finset.fold_singleton, hx, max_eq_left bot_le]⟩
  | cons a t ha _ ih =>
    obtain ⟨x, hx⟩ := ih
    obtain ⟨y, hy⟩ := hf a
    exact ⟨max y x, by rw [Finset.fold_cons, hx, hy, coe_max]⟩

/-- Summing residues and then multiples is summing in order. -/
theorem sum_blocks (f : ℕ → ℝ) (B N : ℕ) : ∑ l : Fin B, ∑ i ∈ Finset.range N, f (B * i + l) = ∑ j ∈ Finset.range (B * N), f j := by
  rw [Finset.sum_comm]
  induction N with
  | zero => simp
  | succ N ih => rw [Finset.sum_range_succ, ih, Nat.mul_succ, Finset.sum_range_add, Finset.sum_range (n := B)]

/-! ## The weighted sum -/

/-- The first `N` values, each weighted by its score's share: the softmax to the base 2 of the scores. -/
def attn (N : ℕ) (s : ℕ → ℝ) (v : ℕ → EReal) : EReal :=
  ∑ j ∈ Finset.range N, (((2 : ℝ) ^ s j / ∑ i ∈ Finset.range N, (2 : ℝ) ^ s i : ℝ) : EReal) * v j

theorem total_pos (N : ℕ) (hN : 0 < N) (s : ℕ → ℝ) : 0 < ∑ i ∈ Finset.range N, (2 : ℝ) ^ s i :=
  Finset.sum_pos (fun _ _ => Real.rpow_pos_of_pos two_pos _) ⟨0, Finset.mem_range.mpr hN⟩

/-- Weights relative to any real `μ`, divided by their sum. -/
theorem attn_of_shift (N : ℕ) (hN : 0 < N) (s : ℕ → ℝ) (v : ℕ → EReal) (μ : ℝ) :
    Ideal.div (∑ j ∈ Finset.range N, (((2 : ℝ) ^ (s j - μ) : ℝ) : EReal) * v j) ((∑ j ∈ Finset.range N, (2 : ℝ) ^ (s j - μ) : ℝ) : EReal)
      = attn N s v := by
  have hz : 0 < ∑ j ∈ Finset.range N, (2 : ℝ) ^ (s j - μ) := total_pos N hN fun j => s j - μ
  have hp := total_pos N hN s
  have hμ : (0 : ℝ) < 2 ^ μ := Real.rpow_pos_of_pos two_pos _
  have hs : ∑ j ∈ Finset.range N, (2 : ℝ) ^ (s j - μ) = (∑ j ∈ Finset.range N, (2 : ℝ) ^ s j) / 2 ^ μ := by
    rw [Finset.sum_div]; exact Finset.sum_congr rfl fun j _ => Real.rpow_sub two_pos _ _
  rw [Ideal.div_coe hz.ne', mul_comm, mul_sum _ _ (by positivity)]
  refine Finset.sum_congr rfl fun j _ => ?_
  rw [← mul_assoc, ← EReal.coe_mul, hs, Real.rpow_sub two_pos]
  congr 2
  field_simp

/-! ## One row of the kernel -/

theorem wv_apply (V : S1x8192x128.Idx → EReal) (n : ℕ) (A : S1536x128.Idx → EReal) (P : S1536x256.Idx → EReal) (r : Fin 1536) (d : Fin 128) :
    wv V n A P (ix2 r d) = A (ix2 r d) + ∑ k : Fin 256, P (ix2 r k) * ch V n (ix3 0 k d) := by
  unfold wv k0_pay91
  pointwise

variable (q : FVec Ideal S1536x128 .bf16) (K V : S1x8192x128.Idx → EReal) (r : Fin 1536) (d : Fin 128) (s : ℕ → ℝ) (v : ℕ → EReal)

theorem rowMax_real (n : ℕ) (hs : ∀ j : Fin 256, sc q K n (ix2 r j) = ((s (256 * n + j) : ℝ) : EReal)) :
    ∃ x : ℝ, rowMax (sc q K n) r = x := by
  refine fold_max _ ⟨0, Finset.mem_univ _⟩ _ fun l => ⟨_, (by rw [hs, hs, coe_max])⟩

/-- After the first chunk the maxima are real, the same in every lane. -/
theorem mm_real (hs : ∀ (n : ℕ) (j : Fin 256), sc q K n (ix2 r j) = ((s (256 * n + j) : ℝ) : EReal)) :
    ∃ μ : ℕ → ℝ, ∀ n (l : Fin 128), mm q K (n + 1) (ix2 r l) = ((μ n : ℝ) : EReal) := by
  have h : ∀ n, ∃ x : ℝ, ∀ l : Fin 128, mm q K (n + 1) (ix2 r l) = (x : EReal) := by
    intro n
    induction n with
    | zero =>
      obtain ⟨x, hx⟩ := rowMax_real q K r s 0 (hs 0)
      exact ⟨x, fun l => (show max ⊥ (rowMax (sc q K 0) r) = _ by rw [hx, max_eq_right bot_le])⟩
    | succ n ih =>
      obtain ⟨x, hx⟩ := rowMax_real q K r s (n + 1) (hs (n + 1))
      obtain ⟨y, hy⟩ := ih
      exact ⟨max y x, fun l => (show max (mm q K (n + 1) (ix2 r l)) (rowMax (sc q K (n + 1)) r) = _ by rw [hx, hy, coe_max])⟩
  exact ⟨fun n => (h n).choose, fun n => (h n).choose_spec⟩

theorem ll_step (n : ℕ) (l : Fin 128) : ll q K (n + 1) (ix2 r l)
    = Ideal.exp2 (mm q K n (ix2 r l) - mm q K (n + 1) (ix2 r l)) * ll q K n (ix2 r l)
      + (Ideal.exp2 (sc q K n (ix2 r (l.castLE (by decide))) - mm q K (n + 1) (ix2 r l))
        + Ideal.exp2 (sc q K n (ix2 r (Fin.natAdd 128 l)) - mm q K (n + 1) (ix2 r l))) := rfl

theorem pp_apply (n : ℕ) (j : Fin 256) : pp q K n (ix2 r j)
    = Ideal.exp2 (sc q K n (ix2 r j) - mm q K (n + 1) (ix2 r ⟨j.val % 128, Nat.mod_lt _ (by decide)⟩)) := rfl

theorem bb_zero : bb q K V 0 (ix2 r d) = Ideal.exp2 (mm q K 0 (ix2 r d) - mm q K 1 (ix2 r d)) * 0 := rfl

theorem bb_step (n : ℕ) : bb q K V (n + 1) (ix2 r d)
    = Ideal.exp2 (mm q K (n + 1) (ix2 r d) - mm q K (n + 2) (ix2 r d)) * wv V n (bb q K V n) (pp q K n) (ix2 r d) := rfl

variable (hs : ∀ (n : ℕ) (j : Fin 256), sc q K n (ix2 r j) = ((s (256 * n + j) : ℝ) : EReal))
  (hv : ∀ (n : ℕ) (k : Fin 256), ch V n (ix3 0 k d) = v (256 * n + k))
  (μ : ℕ → ℝ) (hμ : ∀ n (l : Fin 128), mm q K (n + 1) (ix2 r l) = ((μ n : ℝ) : EReal))

include hs hμ

/-- The running sums: lane `l` holds the weights of the keys `l`, `l + 128`, `l + 256`, … -/
theorem ll_eq (n : ℕ) (l : Fin 128) : ll q K (n + 1) (ix2 r l)
    = ((∑ i ∈ Finset.range (2 * (n + 1)), (2 : ℝ) ^ (s (128 * i + l) - μ n) : ℝ) : EReal) := by
  have e1 : ∀ n : ℕ, 256 * n + ((l.castLE (by decide) : Fin 256) : ℕ) = 128 * (2 * n) + l := fun n => by
    show 256 * n + l.val = _; omega
  have e2 : ∀ n : ℕ, 256 * n + ((Fin.natAdd 128 l : Fin (128 + 128)) : ℕ) = 128 * (2 * n + 1) + l := fun n => by
    show 256 * n + (128 + l.val) = _; omega
  induction n with
  | zero =>
    rw [ll_step, show mm q K 0 (ix2 r l) = ⊥ from rfl, exp2_bot_sub, zero_mul, zero_add, hμ, hs, hs, exp2_sub, exp2_sub, ← EReal.coe_add,
      Finset.sum_range_succ, Finset.sum_range_one]
    have h1 := e1 0
    have h2 := e2 0
    simp only [Nat.mul_zero, Nat.zero_add] at h1 h2 ⊢
    rw [h1, h2]
  | succ n ih =>
    rw [ll_step, ih, hμ, hμ, hs, hs, exp2_sub, exp2_sub, exp2_sub, ← EReal.coe_mul, ← EReal.coe_add, ← EReal.coe_add,
      show 2 * (n + 1 + 1) = 2 * (n + 1) + 1 + 1 from by omega, Finset.sum_range_succ, Finset.sum_range_succ, e1, e2, Finset.mul_sum,
      add_assoc]
    congr 2
    refine Finset.sum_congr rfl fun i _ => ?_
    rw [← Real.rpow_add two_pos]
    congr 1
    ring

theorem pp_eq (n : ℕ) (j : Fin 256) : pp q K n (ix2 r j) = (((2 : ℝ) ^ (s (256 * n + j) - μ n) : ℝ) : EReal) := by
  rw [pp_apply, hs, hμ, exp2_sub]

include hv

/-- The running product. -/
theorem wv_eq (n : ℕ) : wv V n (bb q K V n) (pp q K n) (ix2 r d)
    = ∑ j ∈ Finset.range (256 * (n + 1)), (((2 : ℝ) ^ (s j - μ n) : ℝ) : EReal) * v j := by
  have hc : ∀ n, ∑ k : Fin 256, pp q K n (ix2 r k) * ch V n (ix3 0 k d)
      = ∑ k ∈ Finset.range 256, (((2 : ℝ) ^ (s (256 * n + k) - μ n) : ℝ) : EReal) * v (256 * n + k) := fun n => by
    rw [Finset.sum_range]
    exact Finset.sum_congr rfl fun k _ => by rw [Online.pp_eq q K r s hs μ hμ, hv]
  induction n with
  | zero =>
    rw [wv_apply, bb_zero, mul_zero, zero_add, hc]
    simp only [Nat.mul_zero, Nat.zero_add, Nat.mul_one]
  | succ n ih =>
    rw [wv_apply, bb_step, ih, hc, hμ, hμ, exp2_sub, mul_sum _ _ (Real.rpow_nonneg two_pos.le _), Nat.mul_succ 256 (n + 1), Finset.sum_range_add]
    congr 1
    refine Finset.sum_congr rfl fun j _ => ?_
    rw [← mul_assoc, ← EReal.coe_mul, ← Real.rpow_add two_pos]
    congr 3
    ring

omit hμ in
/-- The row's quotient is the softmax-weighted sum of the values. -/
theorem row_eq : Ideal.div (wv V 31 (bb q K V 31) (pp q K 31) (ix2 r d)) (∑ l : Fin 128, ll q K 32 (ix2 r l)) = attn 8192 s v := by
  obtain ⟨μ, hμ⟩ := mm_real q K r s hs
  rw [Online.wv_eq q K V r d s v hs hv μ hμ 31, Finset.sum_congr rfl fun l _ => Online.ll_eq q K r s hs μ hμ 31 l, coe_sum,
    sum_blocks (fun j => (2 : ℝ) ^ (s j - μ 31)) 128]
  exact attn_of_shift 8192 (by norm_num) s v (μ 31)

end Cert.KernelIdeal.Online

end
-- ==== Proof.Reference.lean ====
module

public import proofs.«01_k».proof.Proof.Gen.ReferenceIdeal.Run
public import Idealize.ShloMosaic.Lib.Tactic
public import Idealize.ShloMosaic.Lib.Pointwise

/-! The reference's result, element by element. -/

@[expose] public section

noncomputable section

namespace Cert.ReferenceIdeal.At

open Cert.ReferenceIdeal Cert.ReferenceIdeal.Gen Cert.ReferenceIdeal.Value
open Idealize.ShloMosaic Idealize.ShloMosaic.TcCoe Idealize.ShloMosaic.Tactic

/-- The logits. -/
def logits (Q : FVec Ideal S2x8192x768 .bf16) (K : FVec Ideal S2x8192x256 .bf16) : FVec Ideal S2x2x3x8192x8192 .f32 :=
  mulf (transpose S2x2x3x8192x8192 [0, 1, 4, 3, 2] (Host.dotGeneral dot_S2x8192x2x128_S2x8192x2x3x128_S2x2x8192x8192x3_3_4_1_13_02_02 none (shapeCast _ (extf .f32 K bitsLt_bf16_f32) shapeCasts_S2x8192x256_S2x8192x2x128) (shapeCast _ (extf .f32 Q bitsLt_bf16_f32) shapeCasts_S2x8192x768_S2x8192x2x3x128)) transposes_S2x2x8192x8192x3_S2x2x3x8192x8192_0_1_4_3_2)
    (broadcastInDim S2x2x3x8192x8192 ![] bcast_S_S2x2x3x8192x8192 (Host.log (constant S_ .f32 0x40000000#32)))

/-- The number subtracted from every logit of a row. -/
def top (L : FVec Ideal S2x2x3x8192x8192 .f32) : FVec Ideal S2x2x3x8192 .f32 :=
  maximumf (broadcastInDim S2x2x3x8192 ![] bcast_S_S2x2x3x8192 (constant S_ .f32 0xFF800000#32))
    (Host.reduce FloatOps.maximumf L (constant S_ .f32 0xFF800000#32) reducesTo_S2x2x3x8192x8192_S2x2x3x8192_d4 h_S_)

/-- The exponentials. -/
def expo (L : FVec Ideal S2x2x3x8192x8192 .f32) (T : FVec Ideal S2x2x3x8192 .f32) : FVec Ideal S2x2x3x8192x8192 .f32 :=
  Host.exp (subf L (broadcastInDim S2x2x3x8192x8192 ![0, 1, 2, 3, 4] bcast_S2x2x3x8192x1_S2x2x3x8192x8192_0_1_2_3_4
    (broadcastInDim S2x2x3x8192x1 ![0, 1, 2, 3] bcast_S2x2x3x8192_S2x2x3x8192x1_0_1_2_3 T)))

/-- The softmax weights. -/
def probs (E : FVec Ideal S2x2x3x8192x8192 .f32) : FVec Ideal S2x2x3x8192x8192 .f32 :=
  Host.divf E (broadcastInDim S2x2x3x8192x8192 ![0, 1, 2, 3, 4] bcast_S2x2x3x8192x1_S2x2x3x8192x8192_0_1_2_3_4
    (broadcastInDim S2x2x3x8192x1 ![0, 1, 2, 3] bcast_S2x2x3x8192_S2x2x3x8192x1_0_1_2_3
      (Host.reduceAdd E (constant S_ .f32 0x00000000#32) reducesTo_S2x2x3x8192x8192_S2x2x3x8192_d4 h_S_)))

/-- The weighted values, one array of the layer's width. -/
def mix (P : FVec Ideal S2x2x3x8192x8192 .f32) (V : FVec Ideal S2x8192x256 .bf16) : FVec Ideal S2x8192x768 .f32 :=
  shapeCast _ (transpose S2x8192x2x3x128 [0, 4, 1, 3, 2] (Host.dotGeneral dot_S2x8192x2x128_S2x2x3x8192x8192_S2x2x128x3x8192_1_4_3_23_02_01 none (shapeCast _ (extf .f32 V bitsLt_bf16_f32) shapeCasts_S2x8192x256_S2x8192x2x128) P) transposes_S2x2x128x3x8192_S2x8192x2x3x128_0_4_1_3_2) shapeCasts_S2x8192x2x3x128_S2x8192x768

/-- The gated result. -/
def gated (O : FVec Ideal S2x8192x768 .f32) (G : FVec Ideal S2x8192x768 .bf16) : FVec Ideal S2x8192x768 .bf16 :=
  truncf .bf16 (mulf O (mulf (extf .f32 G bitsLt_bf16_f32) (Host.divf (broadcastInDim S2x8192x768 ![] bcast_S_S2x8192x768 (constant S_ .f32 0x3F800000#32))
    (addf (broadcastInDim S2x8192x768 ![] bcast_S_S2x8192x768 (constant S_ .f32 0x3F800000#32)) (Host.exp (Host.negf (extf .f32 G bitsLt_bf16_f32))))))) bitsLt_bf16_f32

set_option maxRecDepth 8192 in
theorem res_eq (m : (ℓ : Loc nD τ sig) → Buf (Elt Ideal) ℓ) (c : Dev nD) :
    res_out0 m c = gated (mix (probs (expo (logits (m ((c.tc : Thread nD τ).loc main_arg0)) (m ((c.tc : Thread nD τ).loc main_arg1)))
      (top (logits (m ((c.tc : Thread nD τ).loc main_arg0)) (m ((c.tc : Thread nD τ).loc main_arg1)))))) (m ((c.tc : Thread nD τ).loc main_arg2)))
      (m ((c.tc : Thread nD τ).loc main_arg3)) := rfl

theorem heads_apply (Q : FVec Ideal S2x8192x768 .bf16) (b h : Fin 2) (g : Fin 3) (t : Fin 8192) (d : Fin 128) :
    (shapeCast S2x8192x2x3x128 (extf .f32 Q bitsLt_bf16_f32) shapeCasts_S2x8192x768_S2x8192x2x3x128 (ix5 b t h g d) : EReal)
      = Q (ix3 b t ⟨h.val * 384 + g.val * 128 + d.val, by omega⟩) := by
  pointwise

theorem keys_apply (K : FVec Ideal S2x8192x256 .bf16) (b h : Fin 2) (s : Fin 8192) (d : Fin 128) :
    (shapeCast S2x8192x2x128 (extf .f32 K bitsLt_bf16_f32) shapeCasts_S2x8192x256_S2x8192x2x128 (ix4 b s h d) : EReal)
      = K (ix3 b s ⟨h.val * 128 + d.val, by omega⟩) := by
  pointwise

theorem scores_apply (K : FVec Ideal S2x8192x2x128 .f32) (Q : FVec Ideal S2x8192x2x3x128 .f32) (b h : Fin 2) (g : Fin 3) (t s : Fin 8192) :
    (Host.dotGeneral dot_S2x8192x2x128_S2x8192x2x3x128_S2x2x8192x8192x3_3_4_1_13_02_02 none K Q (ix5 b h s t g) : EReal)
      = ∑ d : Fin 128, K (ix4 b s h d) * Q (ix5 b t h g d) := by
  pointwise

theorem scale_apply (X : FVec Ideal S2x2x8192x8192x3 .f32) (b h : Fin 2) (g : Fin 3) (t s : Fin 8192) :
    (mulf (transpose S2x2x3x8192x8192 [0, 1, 4, 3, 2] X transposes_S2x2x8192x8192x3_S2x2x3x8192x8192_0_1_4_3_2)
      (broadcastInDim S2x2x3x8192x8192 ![] bcast_S_S2x2x3x8192x8192 (Host.log (constant (F := Ideal) S_ .f32 0x40000000#32))) (ix5 b h g t s) : EReal)
      = X (ix5 b h s t g) * Ideal.log (Ideal.ofBits FTy.f32 0x40000000#32) := by
  pointwise

theorem scaled_apply (Q : S2x8192x2x3x128.Idx → EReal) (K : S2x8192x2x128.Idx → EReal) (b h : Fin 2) (g : Fin 3) (t s : Fin 8192) :
    (mulf (transpose S2x2x3x8192x8192 [0, 1, 4, 3, 2] (Host.dotGeneral dot_S2x8192x2x128_S2x8192x2x3x128_S2x2x8192x8192x3_3_4_1_13_02_02 (φ₁ := .f32) (φ₂ := .f32) none K Q) transposes_S2x2x8192x8192x3_S2x2x3x8192x8192_0_1_4_3_2)
      (broadcastInDim S2x2x3x8192x8192 ![] bcast_S_S2x2x3x8192x8192 (Host.log (constant (F := Ideal) S_ .f32 0x40000000#32))) (ix5 b h g t s) : EReal)
      = (∑ d : Fin 128, K (ix4 b s h d) * Q (ix5 b t h g d)) * Ideal.log (Ideal.ofBits FTy.f32 0x40000000#32) := by
  rw [scale_apply, scores_apply]

theorem logits_apply (Q : S2x8192x768.Idx → EReal) (K : S2x8192x256.Idx → EReal) (b h : Fin 2) (g : Fin 3) (t s : Fin 8192) :
    (logits Q K (ix5 b h g t s) : EReal) = (∑ d : Fin 128, K (ix3 b s ⟨h.val * 128 + d.val, by omega⟩) * Q (ix3 b t ⟨h.val * 384 + g.val * 128 + d.val, by omega⟩))
      * Ideal.log (Ideal.ofBits FTy.f32 0x40000000#32) := by
  have e : ∀ d : Fin 128, (shapeCast S2x8192x2x128 (extf (F := Ideal) .f32 K bitsLt_bf16_f32) shapeCasts_S2x8192x256_S2x8192x2x128 (ix4 b s h d) : EReal)
      * shapeCast S2x8192x2x3x128 (extf (F := Ideal) .f32 Q bitsLt_bf16_f32) shapeCasts_S2x8192x768_S2x8192x2x3x128 (ix5 b t h g d)
      = K (ix3 b s ⟨h.val * 128 + d.val, by omega⟩) * Q (ix3 b t ⟨h.val * 384 + g.val * 128 + d.val, by omega⟩) := fun d => by
    rw [keys_apply, heads_apply]
  have e2 := scaled_apply (shapeCast S2x8192x2x3x128 (extf (F := Ideal) .f32 Q bitsLt_bf16_f32) shapeCasts_S2x8192x768_S2x8192x2x3x128)
    (shapeCast S2x8192x2x128 (extf (F := Ideal) .f32 K bitsLt_bf16_f32) shapeCasts_S2x8192x256_S2x8192x2x128) b h g t s
  exact e2.trans (congrArg (fun z : EReal => z * Ideal.log (Ideal.ofBits FTy.f32 0x40000000#32)) (Finset.sum_congr rfl fun d _ => e d))

/-- Taking maxima along a list, from a real number, of real numbers gives a real number. -/
theorem foldl_real {ι : Type} (f : ι → EReal) (hf : ∀ i, ∃ x : ℝ, f i = x) (l : List ι) (x : ℝ) :
    ∃ y : ℝ, l.foldl (fun r i => max r (f i)) (x : EReal) = y := by
  induction l generalizing x with
  | nil => exact ⟨x, rfl⟩
  | cons a l ih =>
    obtain ⟨y, hy⟩ := hf a
    rw [List.foldl_cons, hy, ← (EReal.coe_strictMono.monotone.map_max)]
    exact ih _

/-- The same from minus infinity, of a list that is not empty. -/
theorem foldl_real_bot {ι : Type} (f : ι → EReal) (hf : ∀ i, ∃ x : ℝ, f i = x) (l : List ι) (a : ι) (ha : a ∈ l) :
    ∃ y : ℝ, l.foldl (fun r i => max r (f i)) ⊥ = y := by
  cases l with
  | nil => exact absurd ha List.not_mem_nil
  | cons b l =>
    obtain ⟨y, hy⟩ := hf b
    rw [List.foldl_cons, hy, max_eq_right bot_le]
    exact foldl_real f hf l y

theorem negInf : Ideal.ofBits .f32 0xFF800000#32 = ⊥ := by simp [Ideal.ofBits, Ideal.ieee]

theorem reduce_real {s t u : Shape} {axes : List (Fin s.rank)} (x : s.Idx → EReal) (hx : ∀ i, ∃ y : ℝ, x i = y) (init : u.Idx → EReal)
    (hi : ∀ i, init i = ⊥) (h : s.ReducesTo axes t) (hu : 0 < u.numel) (i : s.Idx) :
    ∃ y : ℝ, Host.reduce (fun a b : EReal => max a b) x init h hu (h.drop i) = y := by
  rw [Host.reduce_eq_foldl, hi]
  exact foldl_real_bot x hx _ i (List.mem_filter.2 ⟨List.mem_map.2 ⟨_, List.mem_finRange _, Equiv.symm_apply_apply _ _⟩, decide_eq_true rfl⟩)

theorem maximumf_real {s : Shape} (A B : FVec Ideal s .f32) (j : s.Idx) (hA : (A j : EReal) = ⊥) (hB : ∃ y : ℝ, (B j : EReal) = y) :
    ∃ y : ℝ, (maximumf A B j : EReal) = y := by
  obtain ⟨y, hy⟩ := hB
  exact ⟨y, (show max (A j : EReal) (B j) = y by rw [hA, hy, max_eq_right bot_le])⟩

theorem drop_eq (b h : Fin 2) (g : Fin 3) (t : Fin 8192) :
    reducesTo_S2x2x3x8192x8192_S2x2x3x8192_d4.drop (ix5 b h g t 0) = ix4 b h g t := by
  funext a
  fin_cases a <;> rfl

/-- Of real logits the number subtracted is real. -/
theorem top_real (L : S2x2x3x8192x8192.Idx → EReal) (hL : ∀ i, ∃ x : ℝ, L i = x) (b h : Fin 2) (g : Fin 3) (t : Fin 8192) :
    ∃ x : ℝ, (top L (ix4 b h g t) : EReal) = x := by
  refine maximumf_real _ _ _ negInf ?_
  rw [← drop_eq]
  exact reduce_real L hL (constant (F := Ideal) S_ .f32 0xFF800000#32) (fun _ => negInf) reducesTo_S2x2x3x8192x8192_S2x2x3x8192_d4 h_S_ _

theorem expo_apply (L : S2x2x3x8192x8192.Idx → EReal) (T : S2x2x3x8192.Idx → EReal) (b : Fin 2) (h : Fin 2) (g : Fin 3) (t s : Fin 8192) :
    (expo L T (ix5 b h g t s) : EReal) = Ideal.exp (L (ix5 b h g t s) - T (ix4 b h g t)) := by
  unfold expo
  pointwise

theorem probs_apply (E : S2x2x3x8192x8192.Idx → EReal) (b : Fin 2) (h : Fin 2) (g : Fin 3) (t s : Fin 8192) :
    (probs E (ix5 b h g t s) : EReal) = Ideal.div (E (ix5 b h g t s)) (∑ x : Fin 8192, E (ix5 b h g t x)) := by
  unfold probs
  pointwise

theorem mix_apply (P : S2x2x3x8192x8192.Idx → EReal) (V : S2x8192x256.Idx → EReal) (b : Fin 2) (h : Fin 2) (g : Fin 3) (t : Fin 8192) (d : Fin 128) :
    (mix P V (ix3 b t ⟨h.val * 384 + g.val * 128 + d.val, by omega⟩) : EReal)
      = ∑ s : Fin 8192, V (ix3 b s ⟨h.val * 128 + d.val, by omega⟩) * P (ix5 b h g t s) := by
  unfold mix
  pointwise

theorem gated_apply (O : S2x8192x768.Idx → EReal) (G : S2x8192x768.Idx → EReal) (b : Fin 2) (t : Fin 8192) (x : Fin 768) :
    (gated O G (ix3 b t x) : EReal) = O (ix3 b t x) * (G (ix3 b t x) * Ideal.div 1 (1 + Ideal.exp (-G (ix3 b t x)))) := by
  unfold gated
  pointwise

end Cert.ReferenceIdeal.At

end
-- ==== Proof.Element.lean ====
module

public import proofs.«01_k».proof.Proof.Body
public import proofs.«01_k».proof.Proof.Online
public import proofs.«01_k».proof.Proof.Reference

/-! An element of a block that the kernel writes, and the same element of the reference, as one expression: the
softmax-weighted sum of the values, times the gate. -/

@[expose] public section

noncomputable section

namespace Cert.KernelIdeal.Element

open Cert.KernelIdeal Cert.KernelIdeal.Gen Cert.KernelIdeal.Soft Cert.KernelIdeal.Outer Cert.KernelIdeal.Body
open Idealize.ShloMosaic Idealize.ShloMosaic.TcCoe Idealize.ShloMosaic.Tactic

theorem sc_apply (q : S1536x128.Idx → EReal) (K : S1x8192x128.Idx → EReal) (n : ℕ) (r : Fin 1536) (j : Fin 256) :
    sc q K n (ix2 r j) = ∑ d : Fin 128, q (ix2 r d) * ch K n (ix3 0 j d) := by
  unfold sc k0_pay92
  pointwise

/-- The rows of a block's queries: row `512 h + a` is query `a`'s head `h`. -/
theorem stack_apply (Q : S1x512x384.Idx → EReal) (a : Fin 512) (d : Fin 128) (h : Fin 3) :
    (k0_pay128 (F := Ideal) Q (ix2 ⟨512 * h.val + a.val, by omega⟩ d) : EReal) = Q (ix3 0 a ⟨128 * h.val + d.val, by omega⟩) := by
  unfold k0_pay128
  pointwise
  fin_cases h
  · rw [dif_pos (by show 512 * 0 + a.val < 512; omega)]
    congr 2 <;> apply Fin.ext <;> simp
  · rw [dif_neg (by show ¬ 512 * 1 + a.val < 512; omega), dif_pos (by show 512 * 1 + a.val - 512 < 512; omega)]
    congr 2 <;> apply Fin.ext <;> simp
  · rw [dif_neg (by show ¬ 512 * 2 + a.val < 512; omega), dif_neg (by show ¬ 512 * 2 + a.val - 512 < 512; omega)]
    congr 2 <;> apply Fin.ext <;> simp <;> omega

theorem close_apply (A L : S1536x128.Idx → EReal) (G : S1x512x384.Idx → EReal) (a : Fin 512) (d : Fin 128) (h : Fin 3) :
    (k0_pay2 (F := Ideal) A L G (ix3 0 a ⟨128 * h.val + d.val, by omega⟩) : EReal)
      = Ideal.div (A (ix2 ⟨512 * h.val + a.val, by omega⟩ d)) (∑ l : Fin 128, L (ix2 ⟨512 * h.val + a.val, by omega⟩ l))
        * (Ideal.ofBits FTy.f32 0x3F000000#32 * G (ix3 0 a ⟨128 * h.val + d.val, by omega⟩)
            * Ideal.tanh (Ideal.ofBits FTy.f32 0x3F000000#32 * G (ix3 0 a ⟨128 * h.val + d.val, by omega⟩))
          + Ideal.ofBits FTy.f32 0x3F000000#32 * G (ix3 0 a ⟨128 * h.val + d.val, by omega⟩)) := by
  unfold k0_pay2
  pointwise
  congr 1
  have e : ∀ (r r' : Fin 1536) (x x' : Fin 128), r = r' → x = x' →
      Ideal.div (A (ix2 r x)) (∑ l : Fin 128, L (ix2 r l)) = Ideal.div (A (ix2 r' x')) (∑ l : Fin 128, L (ix2 r' l)) := by
    rintro r _ x _ rfl rfl; rfl
  fin_cases h
  · rw [dif_pos (by show 128 * 0 + d.val < 128; omega)]
    exact e _ _ _ _ (Fin.ext (by simp)) (Fin.ext (by simp))
  · rw [dif_neg (by show ¬ 128 * 1 + d.val < 128; omega), dif_pos (by show 128 * 1 + d.val - 128 < 128; omega)]
    exact e _ _ _ _ (Fin.ext (by simp)) (Fin.ext (by simp))
  · rw [dif_neg (by show ¬ 128 * 2 + d.val < 128; omega), dif_neg (by show ¬ 128 * 2 + d.val - 128 < 128; omega)]
    exact e _ _ _ _ (Fin.ext (by simp)) (Fin.ext (by show 128 * 2 + d.val - 128 - 128 = d.val; omega))

/-! ## The gate -/

theorem half : Ideal.ofBits .f32 0x3F000000#32 = ((1 / 2 : ℝ) : EReal) := by
  simp [Ideal.ofBits, Ideal.ieee]
  rw [← EReal.coe_mul]; norm_num

/-- `h tanh h + h` with `h = x / 2` is `x / (1 + exp (- x))`, of reals. -/
theorem silu_real (x : ℝ) : 1 / 2 * x * Real.tanh (1 / 2 * x) + 1 / 2 * x = x * (1 / (1 + Real.exp (-x))) := by
  have hx : Real.exp (-x) = (Real.exp (1 / 2 * x) * Real.exp (1 / 2 * x))⁻¹ := by
    rw [← Real.exp_add, ← Real.exp_neg]; congr 1; ring
  have hE := Real.exp_pos (1 / 2 * x)
  rw [Real.tanh_eq_sinh_div_cosh, Real.sinh_eq, Real.cosh_eq, hx, Real.exp_neg]
  field_simp
  ring

/-- The same of any extended real but minus infinity. -/
theorem silu_eq (x : EReal) (hx : x ≠ ⊥) :
    Ideal.ofBits .f32 0x3F000000#32 * x * Ideal.tanh (Ideal.ofBits .f32 0x3F000000#32 * x) + Ideal.ofBits .f32 0x3F000000#32 * x
      = x * Ideal.div 1 (1 + Ideal.exp (-x)) := by
  rw [half]
  induction x with
  | bot => exact absurd rfl hx
  | top =>
    rw [EReal.coe_mul_top_of_pos (by norm_num), EReal.neg_top, show Ideal.tanh ⊤ = 1 from rfl, show Ideal.exp ⊥ = 0 from rfl, mul_one, add_zero,
      show (1 : EReal) = ((1 : ℝ) : EReal) from rfl, Ideal.div_coe one_ne_zero, ← EReal.coe_mul, EReal.top_mul_coe_of_pos (by norm_num)]
    rfl
  | coe x =>
    have hp := Real.exp_pos (-x)
    rw [← EReal.coe_neg, show Ideal.exp ((-x : ℝ) : EReal) = ((Real.exp (-x) : ℝ) : EReal) from rfl, ← EReal.coe_mul,
      show Ideal.tanh ((1 / 2 * x : ℝ) : EReal) = ((Real.tanh (1 / 2 * x) : ℝ) : EReal) from rfl, ← EReal.coe_mul, ← EReal.coe_add,
      show (1 : EReal) = ((1 : ℝ) : EReal) from rfl, ← EReal.coe_add, Ideal.div_coe (by positivity), ← EReal.coe_mul, ← EReal.coe_mul, silu_real, one_mul]

/-! ## The kernel's element -/

/-- A query's score with key `j`, of real queries and keys: the sum of the products of their 128 entries. -/
def score (k q : Fin 128 → EReal) : ℝ := ∑ e : Fin 128, (k e).toReal * (q e).toReal

theorem score_eq (k q : Fin 128 → EReal) (hk : ∀ e, ∃ x : ℝ, k e = x) (hq : ∀ e, ∃ x : ℝ, q e = x) :
    ∑ e : Fin 128, k e * q e = ((score k q : ℝ) : EReal) := by
  unfold score
  rw [← Online.coe_sum]
  refine Finset.sum_congr rfl fun e _ => ?_
  obtain ⟨x, hx⟩ := hk e
  obtain ⟨y, hy⟩ := hq e
  rw [hx, hy, EReal.toReal_coe, EReal.toReal_coe, EReal.coe_mul]

/-- Key `j`, which stands for the key `j` modulo 8192. -/
def pos (j : ℕ) : Fin 8192 := ⟨j % 8192, Nat.mod_lt _ (by decide)⟩

theorem block_apply (Q : S1x512x384.Idx → EReal) (K V : S1x8192x128.Idx → EReal) (G : S1x512x384.Idx → EReal)
    (hQ : ∀ i, ∃ x : ℝ, Q i = x) (hK : ∀ i, ∃ x : ℝ, K i = x) (hG : ∀ i, G i ≠ ⊥) (a : Fin 512) (d : Fin 128) (h : Fin 3) :
    out Q K V G (ix3 0 a ⟨128 * h.val + d.val, by omega⟩)
      = Online.attn 8192 (fun j => score (fun e => K (ix3 0 (pos j) e)) (fun e => Q (ix3 0 a ⟨128 * h.val + e.val, by omega⟩))) (fun j => V (ix3 0 (pos j) d))
        * (G (ix3 0 a ⟨128 * h.val + d.val, by omega⟩) * Ideal.div 1 (1 + Ideal.exp (-G (ix3 0 a ⟨128 * h.val + d.val, by omega⟩)))) := by
  unfold out
  rw [close_apply, silu_eq _ (hG _)]
  refine congrArg (fun z : EReal => z * _) ?_
  refine Online.row_eq _ K V _ d _ _ (fun n j => ?_) (fun n k => rfl)
  rw [← score_eq _ _ (fun e => hK _) (fun e => hQ _), sc_apply]
  refine Finset.sum_congr rfl fun e _ => ?_
  rw [stack_apply, mul_comm]
  rfl

/-! ## The reference's element -/

theorem ln_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]; norm_num
  rw [h]
  exact if_neg (by norm_num)

/-- The exponential of a logit less a real number, as a power of two. -/
theorem exp_eq (s μ : ℝ) : Ideal.exp ((s : EReal) * ((Real.log 2 : ℝ) : EReal) - (μ : EReal)) = (((2 : ℝ) ^ (s - μ / Real.log 2) : ℝ) : EReal) := by
  have hl : Real.log 2 ≠ 0 := (Real.log_pos (by norm_num)).ne'
  rw [← EReal.coe_mul, ← EReal.coe_sub, show ∀ x : ℝ, Ideal.exp (x : EReal) = ((Real.exp x : ℝ) : EReal) from fun _ => rfl, Real.rpow_def_of_pos two_pos]
  congr 2
  field_simp

/-- The reference's softmax of real scores, and its weighted sum. -/
theorem softmax_eq (N : ℕ) (hN : 0 < N) (s : ℕ → ℝ) (v : ℕ → EReal) (μ : ℝ) :
    ∑ x : Fin N, v x * Ideal.div (Ideal.exp ((s x : EReal) * ((Real.log 2 : ℝ) : EReal) - (μ : EReal)))
        (∑ y : Fin N, Ideal.exp ((s y : EReal) * ((Real.log 2 : ℝ) : EReal) - (μ : EReal)))
      = Online.attn N s v := by
  simp only [exp_eq]
  rw [Online.coe_sum, ← Finset.sum_range (M := ℝ) (n := N) (fun y : ℕ => (2 : ℝ) ^ (s y - μ / Real.log 2)), ← Online.attn_of_shift N hN s v (μ / Real.log 2)]
  have hz : 0 < ∑ y ∈ Finset.range N, (2 : ℝ) ^ (s y - μ / Real.log 2) := Online.total_pos N hN fun j => s j - μ / Real.log 2
  rw [Ideal.div_coe hz.ne', mul_comm, Online.mul_sum _ _ (by positivity)]
  refine (Finset.sum_range (M := EReal) (fun x : ℕ => v x * Ideal.div (((2 : ℝ) ^ (s x - μ / Real.log 2) : ℝ) : EReal)
    ((∑ y ∈ Finset.range N, (2 : ℝ) ^ (s y - μ / Real.log 2) : ℝ) : EReal))).symm.trans ?_
  refine Finset.sum_congr rfl fun x _ => ?_
  have hr : ∀ a b c : EReal, a * (b * c) = c * (b * a) := fun a b c => by rw [mul_comm, mul_comm b c, mul_assoc]
  rw [Ideal.div_coe hz.ne', hr]

/-- The same of arrays known to hold those numbers. -/
theorem softmax_of (N : ℕ) (hN : 0 < N) (s : ℕ → ℝ) (v : ℕ → EReal) (μ : ℝ) (P W : Fin N → EReal) (L : Fin N → EReal) (M : EReal) (hM : M = μ)
    (hL : ∀ x : Fin N, L x = (s x : EReal) * ((Real.log 2 : ℝ) : EReal)) (hW : ∀ x : Fin N, W x = v x)
    (hP : ∀ x : Fin N, P x = Ideal.div (Ideal.exp (L x - M)) (∑ y : Fin N, Ideal.exp (L y - M))) :
    ∑ x : Fin N, W x * P x = Online.attn N s v := by
  rw [← softmax_eq N hN s v μ]
  refine Finset.sum_congr rfl fun x _ => ?_
  rw [hP, hW, hM, hL, Finset.sum_congr rfl fun y _ => congrArg (fun z => Ideal.exp (z - (μ : EReal))) (hL y)]

set_option maxRecDepth 20000 in
open Cert.ReferenceIdeal.At in
theorem reference_apply (Q : Cert.ReferenceIdeal.S2x8192x768.Idx → EReal) (K V : Cert.ReferenceIdeal.S2x8192x256.Idx → EReal)
    (G : Cert.ReferenceIdeal.S2x8192x768.Idx → EReal) (hQ : ∀ i, ∃ x : ℝ, Q i = x) (hK : ∀ i, ∃ x : ℝ, K i = x)
    (b h : Fin 2) (g : Fin 3) (t : Fin 8192) (d : Fin 128) :
    (gated (mix (probs (expo (logits Q K) (top (logits Q K)))) V) G (ix3 b t ⟨h.val * 384 + g.val * 128 + d.val, by omega⟩) : EReal)
      = Online.attn 8192 (fun j => score (fun e => K (ix3 b (pos j) ⟨h.val * 128 + e.val, by omega⟩)) (fun e => Q (ix3 b t ⟨h.val * 384 + g.val * 128 + e.val, by omega⟩)))
          (fun j => V (ix3 b (pos j) ⟨h.val * 128 + d.val, by omega⟩))
        * (G (ix3 b t ⟨h.val * 384 + g.val * 128 + d.val, by omega⟩) * Ideal.div 1 (1 + Ideal.exp (-G (ix3 b t ⟨h.val * 384 + g.val * 128 + d.val, by omega⟩)))) := by
  have hp : ∀ x : Fin 8192, pos x.val = x := fun x => Fin.ext (Nat.mod_eq_of_lt x.isLt)
  have hL : ∀ (b h : Fin 2) (g : Fin 3) (t x : Fin 8192), (logits Q K (ix5 b h g t x) : EReal)
      = ((score (fun e => K (ix3 b (pos x.val) ⟨h.val * 128 + e.val, by omega⟩)) (fun e => Q (ix3 b t ⟨h.val * 384 + g.val * 128 + e.val, by omega⟩)) : ℝ) : EReal)
        * ((Real.log 2 : ℝ) : EReal) := fun b h g t x => by
    rw [logits_apply, ln_two, hp, score_eq _ _ (fun _ => hK _) (fun _ => hQ _)]
  have hR : ∀ i, ∃ x : ℝ, (logits Q K i : EReal) = x := fun i => by
    have e : i = ix5 (i 0) (i 1) (i 2) (i 3) (i 4) := by funext a; fin_cases a <;> rfl
    exact ⟨_, (congrArg (logits Q K) e).trans ((hL (i 0) (i 1) (i 2) (i 3) (i 4)).trans (EReal.coe_mul _ _).symm)⟩
  obtain ⟨μ, hμ⟩ := top_real (logits Q K) hR b h g t
  rw [gated_apply, mix_apply]
  refine congrArg (fun z : EReal => z * _) ?_
  refine softmax_of 8192 (by norm_num) _ _ μ _ _ (fun x => logits Q K (ix5 b h g t x)) _ hμ (fun x => hL b h g t x) (fun x => ?_) (fun x => ?_)
  · rw [hp]
  · refine (probs_apply _ b h g t x).trans ?_
    rw [expo_apply]
    exact congrArg _ (Finset.sum_congr rfl fun y _ => expo_apply _ _ b h g t y)

end Cert.KernelIdeal.Element

end
-- ==== Proof.Value.lean ====
module

public import proofs.«01_k».proof.Proof.Run
public import proofs.«01_k».proof.Proof.Element
public import Idealize.ShloMosaic.Lib.Pipeline.ValueKit

/-! The result array of the kernel, and that it is the reference's. -/

@[expose] public section

noncomputable section

namespace Cert.KernelIdeal.Value

open Cert.KernelIdeal Cert.KernelIdeal.Gen Cert.KernelIdeal.Soft Cert.KernelIdeal.Body Cert.KernelIdeal.Run
open Idealize.ShloMosaic Idealize.ShloMosaic.TcCoe Idealize.ShloMosaic.Tactic Idealize.ShloMosaic.Pipeline
open Cert.ReferenceIdeal.At

variable (m : (ℓ : Loc nD τ sig) → Buf (Elt Ideal) ℓ) (ρ : Dev nD → PrngReg)

/-- The reference of the kernel's own arguments. -/
def goal (c : Dev nD) : S2x8192x768.Idx → EReal :=
  gated (mix (probs (expo (logits (m ((c.tc : Thread nD τ).loc main_arg0)) (m ((c.tc : Thread nD τ).loc main_arg1)))
      (top (logits (m ((c.tc : Thread nD τ).loc main_arg0)) (m ((c.tc : Thread nD τ).loc main_arg1))))))
    (m ((c.tc : Thread nD τ).loc main_arg2))) (m ((c.tc : Thread nD τ).loc main_arg3))

/-! ## Where a block's elements lie -/

/-- Grid point `t`'s batch member, pair of heads and query tile. -/
def gb (t : Fin cfg0.N) : Fin 2 := grid0.coords t 0
def gh (t : Fin cfg0.N) : Fin 2 := grid0.coords t 1
def gi (t : Fin cfg0.N) : Fin 16 := grid0.coords t 2

theorem word {n : ℕ} (x : Fin n) (hn : n ≤ 16) : (BitVec.ofNat 32 x.val).toNat = x.val := by
  rw [BitVec.toNat_ofNat]
  exact Nat.mod_eq_of_lt (by omega)

/-- Element `(0, a, x)` of the queries', the gates' or the result's block lies at this place. -/
def wide (t : Fin cfg0.N) (a : Fin 512) (x : Fin 384) : S2x8192x768.Idx :=
  ix3 (gb t) ⟨512 * (gi t).val + a.val, by have := (gi t).isLt; omega⟩ ⟨384 * (gh t).val + x.val, by have := (gh t).isLt; omega⟩

/-- Element `(0, j, d)` of the keys' or the values' block lies at this place. -/
def narrow (t : Fin cfg0.N) (j : Fin 8192) (d : Fin 128) : S2x8192x256.Idx :=
  ix3 (gb t) j ⟨128 * (gh t).val + d.val, by have := (gh t).isLt; omega⟩

theorem wide_val (t : Fin cfg0.N) (a : Fin 512) (x : Fin 384) (k : Fin 3) :
    cc0_transform_0 (grid0.coords t) k * S1x512x384.size k + ((ix3 (0 : Fin 1) a x) k : ℕ) = (wide t a x k : ℕ) := by
  fin_cases k
  · show (BitVec.ofNat 32 (gb t).val).toNat * 1 + 0 = (gb t).val
    rw [word _ (by norm_num)]; omega
  · show (BitVec.ofNat 32 (gi t).val).toNat * 512 + a.val = 512 * (gi t).val + a.val
    rw [word _ (by norm_num)]; omega
  · show (BitVec.ofNat 32 (gh t).val).toNat * 384 + x.val = 384 * (gh t).val + x.val
    rw [word _ (by norm_num)]; omega

theorem narrow_val (t : Fin cfg0.N) (j : Fin 8192) (d : Fin 128) (k : Fin 3) :
    cc0_transform_1 (grid0.coords t) k * S1x8192x128.size k + ((ix3 (0 : Fin 1) j d) k : ℕ) = (narrow t j d k : ℕ) := by
  fin_cases k
  · show (BitVec.ofNat 32 (gb t).val).toNat * 1 + 0 = (gb t).val
    rw [word _ (by norm_num)]; omega
  · show 0 * 8192 + j.val = j.val
    omega
  · show (BitVec.ofNat 32 (gh t).val).toNat * 128 + d.val = 128 * (gh t).val + d.val
    rw [word _ (by norm_num)]; omega

theorem emb0 (t : Fin cfg0.N) (a : Fin 512) (x : Fin 384) : (win0_0.blk t).view.emb (ix3 0 a x) = wide t a x :=
  funext fun k => Fin.ext ((win0_0.rect_emb_val t (ix3 0 a x) k).trans (wide_val t a x k))
theorem emb1 (t : Fin cfg0.N) (j : Fin 8192) (d : Fin 128) : (win0_1.blk t).view.emb (ix3 0 j d) = narrow t j d :=
  funext fun k => Fin.ext ((win0_1.rect_emb_val t (ix3 0 j d) k).trans (narrow_val t j d k))
theorem emb2 (t : Fin cfg0.N) (j : Fin 8192) (d : Fin 128) : (win0_2.blk t).view.emb (ix3 0 j d) = narrow t j d :=
  funext fun k => Fin.ext ((win0_2.rect_emb_val t (ix3 0 j d) k).trans (narrow_val t j d k))
theorem emb3 (t : Fin cfg0.N) (a : Fin 512) (x : Fin 384) : (win0_3.blk t).view.emb (ix3 0 a x) = wide t a x :=
  funext fun k => Fin.ext ((win0_3.rect_emb_val t (ix3 0 a x) k).trans (wide_val t a x k))
theorem emb4 (t : Fin cfg0.N) (a : Fin 512) (x : Fin 384) : (win0_4.blk t).view.emb (ix3 0 a x) = wide t a x :=
  funext fun k => Fin.ext ((win0_4.rect_emb_val t (ix3 0 a x) k).trans (wide_val t a x k))

/-- The arguments as arrays of extended reals. -/
def aq (c : Dev nD) : S2x8192x768.Idx → EReal := m ((c.tc : Thread nD τ).loc main_arg0)
def ak (c : Dev nD) : S2x8192x256.Idx → EReal := m ((c.tc : Thread nD τ).loc main_arg1)
def av (c : Dev nD) : S2x8192x256.Idx → EReal := m ((c.tc : Thread nD τ).loc main_arg2)
def ag (c : Dev nD) : S2x8192x768.Idx → EReal := m ((c.tc : Thread nD τ).loc main_arg3)

/-- The blocks, as arrays of extended reals. -/
def bq (c : Dev nD) (t : Fin cfg0.N) : S1x512x384.Idx → EReal := iblk m c 0 t
def bk (c : Dev nD) (t : Fin cfg0.N) : S1x8192x128.Idx → EReal := iblk m c 1 t
def bv (c : Dev nD) (t : Fin cfg0.N) : S1x8192x128.Idx → EReal := iblk m c 2 t
def bg (c : Dev nD) (t : Fin cfg0.N) : S1x512x384.Idx → EReal := iblk m c 3 t

theorem bq_apply (c : Dev nD) (t : Fin cfg0.N) (a : Fin 512) (x : Fin 384) : bq m c t (ix3 0 a x) = aq m c (wide t a x) :=
  congrArg (aq m c) (emb0 t a x)
theorem bk_apply (c : Dev nD) (t : Fin cfg0.N) (j : Fin 8192) (d : Fin 128) : bk m c t (ix3 0 j d) = ak m c (narrow t j d) :=
  congrArg (ak m c) (emb1 t j d)
theorem bv_apply (c : Dev nD) (t : Fin cfg0.N) (j : Fin 8192) (d : Fin 128) : bv m c t (ix3 0 j d) = av m c (narrow t j d) :=
  congrArg (av m c) (emb2 t j d)
theorem bg_apply (c : Dev nD) (t : Fin cfg0.N) (a : Fin 512) (x : Fin 384) : bg m c t (ix3 0 a x) = ag m c (wide t a x) :=
  congrArg (ag m c) (emb3 t a x)

theorem wide_eq (t : Fin cfg0.N) (a : Fin 512) (g : Fin 3) (d : Fin 128) (hx : 128 * g.val + d.val < 384) : wide t a ⟨128 * g.val + d.val, hx⟩
    = ix3 (gb t) ⟨512 * (gi t).val + a.val, by have := (gi t).isLt; omega⟩ ⟨(gh t).val * 384 + g.val * 128 + d.val, by have := (gh t).isLt; omega⟩ := by
  unfold wide
  congr 1
  apply Fin.ext
  show 384 * (gh t).val + (128 * g.val + d.val) = (gh t).val * 384 + g.val * 128 + d.val
  omega

theorem narrow_eq (t : Fin cfg0.N) (j : Fin 8192) (d : Fin 128) : narrow t j d
    = ix3 (gb t) j ⟨(gh t).val * 128 + d.val, by have := (gh t).isLt; omega⟩ := by
  unfold narrow
  congr 1
  apply Fin.ext
  show 128 * (gh t).val + d.val = (gh t).val * 128 + d.val
  omega

/-- The block written at grid point `t` is the reference there. -/
theorem out_eq (c : Dev nD) (hq : ∀ i, ∃ x : ℝ, aq m c i = x) (hk : ∀ i, ∃ x : ℝ, ak m c i = x) (hg : ∀ i, ag m c i ≠ ⊥)
    (t : Fin cfg0.N) (a : Fin 512) (g : Fin 3) (d : Fin 128) :
    outAt m c t (ix3 0 a ⟨128 * g.val + d.val, by omega⟩) = goal m c (wide t a ⟨128 * g.val + d.val, by omega⟩) := by
  refine (Element.block_apply (bq m c t) (bk m c t) (bv m c t) (bg m c t) (fun i => hq ((win0_0.blk t).view.emb i))
    (fun i => hk ((win0_1.blk t).view.emb i)) (fun i => hg ((win0_3.blk t).view.emb i)) a d g).trans ?_
  simp only [bq_apply, bk_apply, bv_apply, bg_apply, wide_eq, narrow_eq]
  exact (Element.reference_apply (aq m c) (ak m c) (av m c) (ag m c) hq hk (gb t) (gh t) g _ d).symm

/-- The result array is the reference of the arguments. -/
theorem arr_eq (c : Dev nD) (hq : ∀ i, ∃ x : ℝ, aq m c i = x) (hk : ∀ i, ∃ x : ℝ, ak m c i = x) (hg : ∀ i, ag m c i ≠ ⊥) :
    (dats m 0 c).arrAt 4 cfg0.N = goal m c := by
  refine (dats m 0 c).arrAt_eq_of_covers 4 (goal m c) (by decide +kernel) fun t hf y => ?_
  blk_simp
  rw [after_4]
  have hy : y = ix3 (0 : Fin 1) (y 1) ⟨128 * (⟨(y 2).val / 128, Nat.div_lt_of_lt_mul (y 2).isLt⟩ : Fin 3).val
      + (⟨(y 2).val % 128, Nat.mod_lt _ (by decide)⟩ : Fin 128).val, by have : (y 2).val < 384 := (y 2).isLt; show 128 * ((y 2).val / 128) + (y 2).val % 128 < 384; omega⟩ := by
    funext k
    fin_cases k
    · exact Subsingleton.elim (α := Fin 1) _ _
    · rfl
    · exact Fin.ext (Nat.div_add_mod _ 128).symm
  rw [hy]
  exact (out_eq m c hq hk hg t _ _ _).trans (congrArg (goal m c) (emb4 t _ _).symm)

end Cert.KernelIdeal.Value

end
-- ==== Proof.Tame.lean ====
module

public import proofs.«01_k».proof.Defs
public import proofs.«01_k».proof.Proof.Gen.Pre_tame
public import Idealize.ShloMosaic.Lib.ReduceAll

/-! What the precondition says of the arguments: queries and keys are real, no gate is minus infinity. -/

@[expose] public section

noncomputable section

namespace Cert.Pre_tame

open Idealize.ShloMosaic Facts

theorem posInf : Ideal.ofBits .f32 0x7F800000#32 = ⊤ := by simp [Ideal.ofBits, Ideal.ieee]
theorem negInf : Ideal.ofBits .f32 0xFF800000#32 = ⊥ := by simp [Ideal.ofBits, Ideal.ieee]

theorem lt_of_bit {p : Prop} [Decidable p] (h : BitVec.ofBool (decide p) = 1#1) : p := by
  by_contra hp
  rw [decide_eq_false hp] at h
  exact absurd h (by decide)

theorem and_one {a b : BitVec 1} (h : a &&& b = 1#1) : a = 1#1 ∧ b = 1#1 := by
  revert a b
  decide

/-- A number whose magnitude is below infinity is real. -/
theorem real_of_abs {x : EReal} (h : max x (-x) < ⊤) : ∃ r : ℝ, x = r := by
  induction x with
  | bot => exact absurd h (by simp)
  | top => exact absurd h (by simp)
  | coe r => exact ⟨r, rfl⟩

instance : Subsingleton S_.Idx := ⟨fun a b => funext fun k => k.elim0⟩

variable [Facts]

/-- The precondition, read at every element. -/
theorem fn_one (Q : S2x8192x768.Idx → EReal) (K V : S2x8192x256.Idx → EReal) (G : S2x8192x768.Idx → EReal)
    (h : fn (F := Ideal) Q K V G (fun k => k.elim0) = 1#1) :
    (∀ i, ∃ x : ℝ, Q i = x) ∧ (∀ i, ∃ x : ℝ, K i = x) ∧ ∀ i, G i ≠ ⊥ := by
  dsimp only [fn] at h
  obtain ⟨hqk, hg⟩ := and_one h
  obtain ⟨hq, hk⟩ := and_one hqk
  refine ⟨fun i => ?_, fun i => ?_, fun i => ?_⟩
  · have e := lt_of_bit (p := max (Q i) (-Q i) < Ideal.ofBits .f32 0x7F800000#32) (Host.reduce_andi_all _ _ _ _ _ hq i)
    rw [posInf] at e
    exact real_of_abs e
  · have e := lt_of_bit (p := max (K i) (-K i) < Ideal.ofBits .f32 0x7F800000#32) (Host.reduce_andi_all _ _ _ _ _ hk i)
    rw [posInf] at e
    exact real_of_abs e
  · have e := lt_of_bit (p := Ideal.ofBits .f32 0xFF800000#32 < G i) (Host.reduce_andi_all _ _ _ _ _ hg i)
    rw [negInf] at e
    exact e.ne'

end Cert.Pre_tame
-- ==== Proof.InprojLaw.lean ====
module

public import Idealize.ShloMosaic.PureOps.Ideal

/-! What the input projection leaves at one element, over the extended reals: the root-mean-square norm of a row,
its products with the weights' columns, and for a head of the queries or of the keys the norm of that head and the
turn by its position. -/

@[expose] public section

noncomputable section

namespace Cert.InprojLaw

open Idealize.ShloMosaic

/-- The root-mean-square norm of a list whose length is the number `N`, times the gains. -/
def rms {n : ℕ} (N : EReal) (x g : Fin n → EReal) (e : Fin n) : EReal :=
  x e * Ideal.rsqrt (Ideal.div (∑ k, x k * x k) N + Ideal.ofBits FTy.f32 0x358637BD#32) * g e

/-- The product of a normed row and a column of the weights. -/
def proj (x g w : Fin 1024 → EReal) : EReal := ∑ e, rms (Ideal.ofBits FTy.f32 0x44800000#32) x g e * w e

/-- The place a coordinate of a head is turned with: the two halves of 32 of each 64 change places. -/
def partner (d : Fin 128) : Fin 128 := ⟨if d.val % 64 < 32 then d.val + 32 else d.val - 32, by split <;> omega⟩

/-- A head turned by its position. -/
def turn (y c s : Fin 128 → EReal) (d : Fin 128) : EReal := y d * c d + y (partner d) * s d

/-- A head normed and turned. -/
def head (y g c s : Fin 128 → EReal) (d : Fin 128) : EReal := turn (rms (Ideal.ofBits FTy.f32 0x43000000#32) y g) c s d

/-- The projection of one row at one column. -/
def col (x g : Fin 1024 → EReal) (w : Fin 1024 → Fin 4608 → EReal) (j : Fin 4608) : EReal := proj x g fun e => w e j

end Cert.InprojLaw

end
-- ==== Proof.InprojBlock.lean ====
module

public import proofs.«01_k».proof.Proof.Gen.InprojIdeal.Frame
public import proofs.«01_k».proof.Proof.InprojLaw
public import Idealize.ShloMosaic.Lib.Pointwise
public import Idealize.ShloMosaic.Lib.Pipeline.ValueKit

/-! The values that the input projection's kernel stores, at an index. -/

@[expose] public section

noncomputable section

namespace Cert.InprojIdeal.Block

open Cert.InprojIdeal Cert.InprojIdeal.Gen Cert.InprojLaw
open Idealize.ShloMosaic Idealize.ShloMosaic.TcCoe Idealize.ShloMosaic.Tactic

/-! ## The products -/

theorem row_apply (x : S512x1024.Idx → EReal) (g : S1x1024.Idx → EReal) (a : Fin 512) (e : Fin 1024) :
    (k0_pay3 (F := Ideal) x g (ix2 a e) : EReal)
      = rms (Ideal.ofBits FTy.f32 0x44800000#32) (fun k => x (ix2 a k)) (fun k => g (ix2 0 k)) e := by
  unfold k0_pay3 rms
  pointwise

theorem pool_apply (h : S512x1024.Idx → EReal) (w : S1x1024x1024.Idx → EReal) (a : Fin 512) (j : Fin 1024) :
    (k0_pay1 (F := Ideal) h (k0_pay24 (F := Ideal) w) (constant S512x1024 .f32 0x00000000#32) (ix2 a j) : EReal)
      = ∑ e : Fin 1024, h (ix2 a e) * w (ix3 0 e j) := by
  unfold k0_pay1 k0_pay24
  pointwise

theorem lru_apply (h : S512x1024.Idx → EReal) (w : S1x1024x1536.Idx → EReal) (a : Fin 512) (j : Fin 1536) :
    (k0_pay2 (F := Ideal) h w (ix2 a j) : EReal) = ∑ e : Fin 1024, h (ix2 a e) * w (ix3 0 e j) := by
  unfold k0_pay2
  pointwise

theorem value_apply (h : S512x1024.Idx → EReal) (w : S1x1024x256.Idx → EReal) (a : Fin 512) (j : Fin 256) :
    (k0_pay22 (F := Ideal) h w (ix2 a j) : EReal) = ∑ e : Fin 1024, h (ix2 a e) * w (ix3 0 e j) := by
  unfold k0_pay22
  pointwise

theorem gate_apply (h : S512x1024.Idx → EReal) (w : S1x1024x768.Idx → EReal) (a : Fin 512) (j : Fin 768) :
    (k0_pay23 (F := Ideal) h w (ix2 a j) : EReal) = ∑ e : Fin 1024, h (ix2 a e) * w (ix3 0 e j) := by
  unfold k0_pay23
  pointwise

theorem query_apply (x : S512x1024.Idx → EReal) (g : S1x1024.Idx → EReal) (w : S1x1024x768.Idx → EReal) (a : Fin 512) (j : Fin 768) :
    (k0_pay5 (F := Ideal) x g w (ix2 a j) : EReal) = ∑ e : Fin 1024, (k0_pay3 (F := Ideal) x g (ix2 a e) : EReal) * w (ix3 0 e j) := by
  unfold k0_pay5
  pointwise

theorem key_apply (h : S512x1024.Idx → EReal) (w : S1x1024x256.Idx → EReal) (a : Fin 512) (j : Fin 256) :
    (k0_pay17 (F := Ideal) h w (ix2 a j) : EReal) = ∑ e : Fin 1024, h (ix2 a e) * w (ix3 0 e j) := by
  unfold k0_pay17
  pointwise

/-! ## A head -/

/-- A head's columns, normed. -/
def normed (y : FVec Ideal S512x128 .f32) (g : FVec Ideal S1x128 .f32) : FVec Ideal S512x128 .f32 :=
  mulf (mulf y (broadcastTo S512x128 (rsqrt (addf (divf (shapeCast S512x1 (multiReduction .add [1] S512 (mulf y y) 0x00000000#32
      reduces_S512x128_S512 (.inl rfl) rfl) shapeCasts_S512_S512x1) (broadcast S512x1 (Scalar.ofBits .f32 0x43000000#32)))
    (broadcast S512x1 (Scalar.ofBits .f32 0x358637BD#32)))) broadcasts_S512x1_S512x128)) (broadcastTo S512x128 g broadcasts_S1x128_S512x128)

/-- Normed columns, turned. -/
def turned (c s y : FVec Ideal S512x128 .f32) : FVec Ideal S512x128 .f32 :=
  addf (mulf y c) (mulf (select k0_pay4 (dynamicRotate 1 96#32 none y rotates_S512x128_d1) (dynamicRotate 1 32#32 none y rotates_S512x128_d1)) s)

/-- A head as it is stored, times the number with bits `b`. -/
def stored (b : BitVec 32) (c s : FVec Ideal S512x128 .f32) (g : FVec Ideal S1x128 .f32) (y : FVec Ideal S512x128 .f32) : FVec Ideal S512x128 .bf16 :=
  truncf .bf16 (mulf (turned c s (normed y g)) (broadcast S512x128 (Scalar.ofBits .f32 b))) bitsLt_bf16_f32

theorem normed_apply (y : S512x128.Idx → EReal) (g : S1x128.Idx → EReal) (a : Fin 512) (d : Fin 128) :
    (normed y g (ix2 a d) : EReal) = rms (Ideal.ofBits FTy.f32 0x43000000#32) (fun k => y (ix2 a k)) (fun k => g (ix2 0 k)) d := by
  unfold normed rms
  pointwise

theorem mask_apply (a : Fin 512) (d : Fin 128) : k0_pay4 (ix2 a d) = if d.val % 64 < 32 then 1#1 else 0#1 := by
  have e : k0_pay4 (ix2 a d) = k0_pay4 (ix2 0 d) := rfl
  rw [e]
  clear e
  revert d
  decide +kernel

theorem partner_apply (y : S512x128.Idx → EReal) (a : Fin 512) (d : Fin 128) :
    (select k0_pay4 (dynamicRotate 1 96#32 none y rotates_S512x128_d1) (dynamicRotate 1 32#32 none y rotates_S512x128_d1) (ix2 a d) : EReal)
      = y (ix2 a (partner d)) := by
  pointwise
  rw [mask_apply]
  unfold Scalar.select partner
  split_ifs with h1 h2 h2
  · exact congrArg y (congrArg (ix2 a) (Fin.ext (show (d.val + 128 - 96) % 128 = d.val + 32 by omega)))
  · exact absurd rfl h2
  · exact absurd h2 (by decide)
  · exact congrArg y (congrArg (ix2 a) (Fin.ext (show (d.val + 128 - 32) % 128 = d.val - 32 by omega)))

theorem turned_apply (c s y : S512x128.Idx → EReal) (a : Fin 512) (d : Fin 128) :
    (turned c s y (ix2 a d) : EReal) = turn (fun k => y (ix2 a k)) (fun k => c (ix2 a k)) (fun k => s (ix2 a k)) d := by
  show y (ix2 a d) * c (ix2 a d) + (select k0_pay4 (dynamicRotate 1 96#32 none y rotates_S512x128_d1)
    (dynamicRotate 1 32#32 none y rotates_S512x128_d1) (ix2 a d) : EReal) * s (ix2 a d) = _
  rw [partner_apply]
  rfl

theorem head_apply (c s : S512x128.Idx → EReal) (g : S1x128.Idx → EReal) (y : S512x128.Idx → EReal) (a : Fin 512) (d : Fin 128) :
    (turned c s (normed y g) (ix2 a d) : EReal)
      = head (fun k => y (ix2 a k)) (fun k => g (ix2 0 k)) (fun k => c (ix2 a k)) (fun k => s (ix2 a k)) d := by
  refine (turned_apply c s (normed y g) a d).trans ?_
  unfold head
  congr 1
  funext k
  exact normed_apply y g a k

theorem stored_apply (b : BitVec 32) (c s : S512x128.Idx → EReal) (g : S1x128.Idx → EReal) (y : S512x128.Idx → EReal) (a : Fin 512) (d : Fin 128) :
    (stored b c s g y (ix2 a d) : EReal)
      = head (fun k => y (ix2 a k)) (fun k => g (ix2 0 k)) (fun k => c (ix2 a k)) (fun k => s (ix2 a k)) d * Ideal.ofBits FTy.f32 b := by
  rw [← head_apply]
  rfl

/-! ## The heads' stored values, each the head of its columns -/

section
variable (c s : FVec Ideal S512x128 .f32) (g : FVec Ideal S1x128 .f32) (z : FVec Ideal S512x768 .f32)

theorem query_0 (x : FVec Ideal S512x1024 .f32) (n : FVec Ideal S1x1024 .f32) (w : FVec Ideal S1x1024x768 .bf16) :
    k0_pay7 (F := Ideal) c s k0_pay4 g (k0_pay6 x n w) = stored 0x3E0293EE#32 c s g (extractStridedSlice S512x128 ![0, 0] (k0_pay5 x n w) slices_S512x768_o0_0_S512x128) := rfl
theorem query_1 : k0_pay8 (F := Ideal) c s k0_pay4 z g = stored 0x3E0293EE#32 c s g (extractStridedSlice S512x128 ![0, 128] z slices_S512x768_o0_128_S512x128) := rfl
theorem query_2 : k0_pay11 (F := Ideal) c s k0_pay4 (k0_pay9 z) g (k0_pay10 z) = stored 0x3E0293EE#32 c s g (extractStridedSlice S512x128 ![0, 256] z slices_S512x768_o0_256_S512x128) := rfl
theorem query_3 : k0_pay12 (F := Ideal) c s k0_pay4 z g = stored 0x3E0293EE#32 c s g (extractStridedSlice S512x128 ![0, 384] z slices_S512x768_o0_384_S512x128) := rfl
theorem query_4 : k0_pay13 (F := Ideal) c s k0_pay4 z g = stored 0x3E0293EE#32 c s g (extractStridedSlice S512x128 ![0, 512] z slices_S512x768_o0_512_S512x128) := rfl
theorem query_5 : k0_pay16 (F := Ideal) c s k0_pay4 (k0_pay14 z g) (k0_pay15 z g) 32#32 = stored 0x3E0293EE#32 c s g (extractStridedSlice S512x128 ![0, 640] z slices_S512x768_o0_640_S512x128) := rfl
theorem key_0 (h : FVec Ideal S512x1024 .bf16) (w : FVec Ideal S1x1024x256 .bf16) : k0_pay18 (F := Ideal) h c s k0_pay4 w g
    = stored 0x3F800000#32 c s g (extractStridedSlice S512x128 ![0, 0] (k0_pay17 h w) slices_S512x256_o0_0_S512x128) := rfl
theorem key_1 (h : FVec Ideal S512x1024 .bf16) (w : FVec Ideal S1x1024x256 .bf16) : k0_pay21 (F := Ideal) c s k0_pay4 (k0_pay19 h w) g (k0_pay20 h w)
    = stored 0x3F800000#32 c s g (extractStridedSlice S512x128 ![0, 128] (k0_pay17 h w) slices_S512x256_o0_128_S512x128) := rfl
end

/-! ## The blocks that the kernel writes -/

section
variable (x0 : S512x1024.Idx → EReal) (x1 : S1x1024.Idx → EReal) (x2 : S1x1024x4608.Idx → EReal) (x3 x4 : S1x128.Idx → EReal) (x5 x6 : S512x128.Idx → EReal)

/-- The projection of row `a` of a block, at column `j`. -/
def entry (a : Fin 512) (j : Fin 4608) : EReal := col (fun k => x0 (ix2 a k)) (fun k => x1 (ix2 0 k)) (fun e k => x2 (ix3 0 e k)) j

theorem ld0 : (View.ld (Val := Elt Ideal) (e' := .f32) x0 r0_0 : S512x1024.Idx → EReal) = x0 := View.ld_unit_zero (by decide) _ _
theorem ld1 : (View.ld (Val := Elt Ideal) (e' := .f32) x1 r0_1 : S1x1024.Idx → EReal) = x1 := View.ld_unit_zero (by decide) _ _
theorem ld2 (x : S512x128.Idx → EReal) : (View.ld (Val := Elt Ideal) (e' := .f32) x r0_2 : S512x128.Idx → EReal) = x := View.ld_unit_zero (by decide) _ _
theorem ld4 (x : S1x128.Idx → EReal) : (View.ld (Val := Elt Ideal) (e' := .f32) x r0_4 : S1x128.Idx → EReal) = x := View.ld_unit_zero (by decide) _ _

theorem sum_rows (a : Fin 512) (j : Fin 4608) (w : Fin 1024 → EReal) (hw : ∀ e, w e = x2 (ix3 0 e j)) :
    ∑ e : Fin 1024, (k0_pay3 (F := Ideal) (View.ld x0 r0_0) (View.ld x1 r0_1) (ix2 a e) : EReal) * w e = entry x0 x1 x2 a j := by
  unfold entry col proj
  refine Finset.sum_congr rfl fun e _ => ?_
  rw [hw, ld0, ld1, row_apply]

theorem pool_block (a : Fin 512) (j : Fin 1024) : (out0_7 (F := Ideal) x0 x1 x2 x3 x4 x5 x6 (ix2 a j) : EReal) = entry x0 x1 x2 a ⟨j.val, by omega⟩ := by
  unfold out0_7 k0_pay25
  rw [View.canon_unit_zero (by decide)]
  refine (pool_apply _ _ a j).trans (sum_rows x0 x1 x2 a _ _ fun e => ?_)
  pointwise

theorem lru_block (a : Fin 512) (j : Fin 1536) : (out0_8 (F := Ideal) x0 x1 x2 x3 x4 x5 x6 (ix2 a j) : EReal) = entry x0 x1 x2 a ⟨1024 + j.val, by omega⟩ := by
  unfold out0_8 k0_pay25
  rw [View.canon_unit_zero (by decide)]
  refine (lru_apply _ _ a j).trans (sum_rows x0 x1 x2 a _ _ fun e => ?_)
  pointwise

theorem value_block (a : Fin 512) (j : Fin 256) : (out0_11 (F := Ideal) x0 x1 x2 x3 x4 x5 x6 (ix2 a j) : EReal) = entry x0 x1 x2 a ⟨3584 + j.val, by omega⟩ := by
  unfold out0_11 k0_pay25
  rw [View.canon_unit_zero (by decide)]
  refine (value_apply _ _ a j).trans (sum_rows x0 x1 x2 a _ _ fun e => ?_)
  pointwise

theorem gate_block (a : Fin 512) (j : Fin 768) : (out0_12 (F := Ideal) x0 x1 x2 x3 x4 x5 x6 (ix2 a j) : EReal) = entry x0 x1 x2 a ⟨3840 + j.val, by omega⟩ := by
  unfold out0_12 k0_pay25
  rw [View.canon_unit_zero (by decide)]
  refine (gate_apply _ _ a j).trans (sum_rows x0 x1 x2 a _ _ fun e => ?_)
  pointwise

/-- The block of queries, by columns. -/
def queries : S512x768.Idx → EReal := fun y => head (fun k => entry x0 x1 x2 (y 0) ⟨2560 + ((y 1).val / 128 * 128 + k.val), by have : (y 1).val < 768 := (y 1).isLt; omega⟩)
  (fun k => x3 (ix2 0 k)) (fun k => x5 (ix2 (y 0) k)) (fun k => x6 (ix2 (y 0) k)) ⟨(y 1).val % 128, Nat.mod_lt _ (by decide)⟩ * Ideal.ofBits FTy.f32 0x3E0293EE#32

/-- The block of keys, by columns. -/
def keys : S512x256.Idx → EReal := fun y => head (fun k => entry x0 x1 x2 (y 0) ⟨3328 + ((y 1).val / 128 * 128 + k.val), by have : (y 1).val < 256 := (y 1).isLt; omega⟩)
  (fun k => x4 (ix2 0 k)) (fun k => x5 (ix2 (y 0) k)) (fun k => x6 (ix2 (y 0) k)) ⟨(y 1).val % 128, Nat.mod_lt _ (by decide)⟩

theorem zq_apply (a : Fin 512) (j : Fin 768) : (k0_pay5 (F := Ideal) (View.ld x0 r0_0) (View.ld x1 r0_1) (View.ld x2 r0_3) (ix2 a j) : EReal) = entry x0 x1 x2 a ⟨2560 + j.val, by omega⟩ := by
  refine (query_apply _ _ _ a j).trans (sum_rows x0 x1 x2 a _ _ fun e => ?_)
  pointwise

theorem zk_apply (a : Fin 512) (j : Fin 256) : (k0_pay17 (F := Ideal) (k0_pay3 (View.ld x0 r0_0) (View.ld x1 r0_1)) (View.ld x2 r0_11) (ix2 a j) : EReal) = entry x0 x1 x2 a ⟨3328 + j.val, by omega⟩ := by
  refine (key_apply _ _ a j).trans (sum_rows x0 x1 x2 a _ _ fun e => ?_)
  pointwise

/-- A stored head of the queries is the block of queries at its place. -/
theorem query_piece (y : S512x128.Idx → EReal) (h : Fin 6) (p : S512x768.Idx) (a : Fin 512) (d : Fin 128) (h0 : p 0 = a) (h1 : (p 1).val = 128 * h.val + d.val)
    (hy : ∀ k : Fin 128, y (ix2 a k) = entry x0 x1 x2 a ⟨2560 + (128 * h.val + k.val), by omega⟩) :
    (stored 0x3E0293EE#32 x5 x6 x3 y (ix2 a d) : EReal) = queries x0 x1 x2 x3 x5 x6 p := by
  rw [stored_apply]
  unfold queries
  have e1 : (⟨(p 1).val % 128, Nat.mod_lt _ (by decide)⟩ : Fin 128) = d := Fin.ext (by show (p 1).val % 128 = d.val; omega)
  have e2 (k : Fin 128) : y (ix2 a k) = entry x0 x1 x2 (p 0) ⟨2560 + ((p 1).val / 128 * 128 + k.val), by have : (p 1).val < 768 := (p 1).isLt; omega⟩ := by
    rw [hy, h0]
    exact congrArg (entry x0 x1 x2 a) (Fin.ext (show 2560 + (128 * h.val + k.val) = 2560 + ((p 1).val / 128 * 128 + k.val) by omega))
  rw [e1, h0, funext e2, h0]

theorem one_bits : Ideal.ofBits FTy.f32 0x3F800000#32 = 1 := by
  have e : (Ideal.ofBits FTy.f32 0x3F800000#32 : EReal) = ((8388608 * (2 ^ 23)⁻¹ : ℝ) : EReal) := by
    simp [Ideal.ofBits, Ideal.ieee]
  rw [e]
  norm_num

/-- A stored head of the keys is the block of keys at its place. -/
theorem key_piece (y : S512x128.Idx → EReal) (h : Fin 2) (p : S512x256.Idx) (a : Fin 512) (d : Fin 128) (h0 : p 0 = a) (h1 : (p 1).val = 128 * h.val + d.val)
    (hy : ∀ k : Fin 128, y (ix2 a k) = entry x0 x1 x2 a ⟨3328 + (128 * h.val + k.val), by omega⟩) :
    (stored 0x3F800000#32 x5 x6 x4 y (ix2 a d) : EReal) = keys x0 x1 x2 x4 x5 x6 p := by
  have e0 : Ideal.ofBits FTy.f32 0x3F800000#32 = 1 := one_bits
  rw [stored_apply, e0, mul_one]
  unfold keys
  have e1 : (⟨(p 1).val % 128, Nat.mod_lt _ (by decide)⟩ : Fin 128) = d := Fin.ext (by show (p 1).val % 128 = d.val; omega)
  have e2 (k : Fin 128) : y (ix2 a k) = entry x0 x1 x2 (p 0) ⟨3328 + ((p 1).val / 128 * 128 + k.val), by have : (p 1).val < 256 := (p 1).isLt; omega⟩ := by
    rw [hy, h0]
    exact congrArg (entry x0 x1 x2 a) (Fin.ext (show 3328 + (128 * h.val + k.val) = 3328 + ((p 1).val / 128 * 128 + k.val) by omega))
  rw [e1, h0, funext e2, h0]

/-- One of the heads' columns, at an index. -/
theorem slice_apply {n : ℕ} (z : (⟨2, ![512, n]⟩ : Shape).Idx → EReal) (o : ℕ) (hs : (⟨2, ![512, n]⟩ : Shape).Slices ![0, o] S512x128) (a : Fin 512) (k : Fin 128)
    (h : o + k.val < n) : extractStridedSlice S512x128 ![0, o] z hs (ix2 a k) = z (ix2 a ⟨o + k.val, h⟩) := by
  refine congrArg z (funext fun i => Fin.ext ?_)
  fin_cases i
  · exact Nat.zero_add _
  · rfl

theorem query_cut (h : Fin 6) (o : ℕ) (ho : o = 128 * h.val) (hs : S512x768.Slices ![0, o] S512x128) (inb : ∀ a, (![0, o] : Fin 2 → ℕ) a + S512x128.size a ≤ S512x768.size a)
    (x : S512x128.Idx) : (stored 0x3E0293EE#32 x5 x6 x3 (extractStridedSlice S512x128 ![0, o] (k0_pay5 (View.ld x0 r0_0) (View.ld x1 r0_1) (View.ld x2 r0_3)) hs) x : EReal)
      = queries x0 x1 x2 x3 x5 x6 ((Rect.unit (s := S512x768) ![0, o] S512x128.size inb).emb x) := by
  have hx : x = ix2 (x 0) (x 1) := by funext k; fin_cases k <;> rfl
  subst ho
  rw [hx]
  refine query_piece x0 x1 x2 x3 x5 x6 _ h _ (x 0) (x 1) ?_ ?_ fun k => ?_
  · exact Fin.ext (show 0 + 1 * (x 0).val = (x 0).val by omega)
  · show 128 * h.val + 1 * (x 1).val = 128 * h.val + (x 1).val
    omega
  · refine (slice_apply (n := 768) _ _ hs (x 0) k (by omega)).trans ?_
    exact zq_apply x0 x1 x2 (x 0) ⟨128 * h.val + k.val, by omega⟩

theorem key_cut (h : Fin 2) (o : ℕ) (ho : o = 128 * h.val) (hs : S512x256.Slices ![0, o] S512x128) (inb : ∀ a, (![0, o] : Fin 2 → ℕ) a + S512x128.size a ≤ S512x256.size a)
    (x : S512x128.Idx) : (stored 0x3F800000#32 x5 x6 x4 (extractStridedSlice S512x128 ![0, o] (k0_pay17 (k0_pay3 (View.ld x0 r0_0) (View.ld x1 r0_1)) (View.ld x2 r0_11)) hs) x : EReal)
      = keys x0 x1 x2 x4 x5 x6 ((Rect.unit (s := S512x256) ![0, o] S512x128.size inb).emb x) := by
  have hx : x = ix2 (x 0) (x 1) := by funext k; fin_cases k <;> rfl
  subst ho
  rw [hx]
  refine key_piece x0 x1 x2 x4 x5 x6 _ h _ (x 0) (x 1) ?_ ?_ fun k => ?_
  · exact Fin.ext (show 0 + 1 * (x 0).val = (x 0).val by omega)
  · show 128 * h.val + 1 * (x 1).val = 128 * h.val + (x 1).val
    omega
  · refine (slice_apply (n := 256) _ _ hs (x 0) k (by omega)).trans ?_
    exact zk_apply x0 x1 x2 (x 0) ⟨128 * h.val + k.val, by omega⟩

theorem query_block : (out0_9 (F := Ideal) x0 x1 x2 x3 x4 x5 x6 : S512x768.Idx → EReal) = queries x0 x1 x2 x3 x5 x6 := by
  funext y
  unfold out0_9 k0_pay26 k0_pay27
  rw [query_0, query_1, query_2, query_3, query_4, query_5, ld2, ld2, ld4]
  refine View.canon_apply_of_pieces (Val := Elt Ideal) (e := .bf16) (queries x0 x1 x2 x3 x5 x6) _ ?_ y (cover0_9 _ _ _ _ _ _ y)
  simp only [List.forall_mem_cons]
  exact ⟨query_cut x0 x1 x2 x3 x5 x6 5 640 rfl _ _, query_cut x0 x1 x2 x3 x5 x6 4 512 rfl _ _, query_cut x0 x1 x2 x3 x5 x6 3 384 rfl _ _,
    query_cut x0 x1 x2 x3 x5 x6 2 256 rfl _ _, query_cut x0 x1 x2 x3 x5 x6 1 128 rfl _ _, query_cut x0 x1 x2 x3 x5 x6 0 0 rfl _ _, fun _ h => absurd h List.not_mem_nil⟩

theorem key_block : (out0_10 (F := Ideal) x0 x1 x2 x3 x4 x5 x6 : S512x256.Idx → EReal) = keys x0 x1 x2 x4 x5 x6 := by
  funext y
  unfold out0_10 k0_pay26 k0_pay25
  rw [key_0, key_1, ld2, ld2, ld4]
  refine View.canon_apply_of_pieces (Val := Elt Ideal) (e := .bf16) (keys x0 x1 x2 x4 x5 x6) _ ?_ y (cover0_10 _ _ y)
  simp only [List.forall_mem_cons]
  exact ⟨key_cut x0 x1 x2 x4 x5 x6 1 128 rfl _ _, key_cut x0 x1 x2 x4 x5 x6 0 0 rfl _ _, fun _ h => absurd h List.not_mem_nil⟩

end

end Cert.InprojIdeal.Block

end
-- ==== Proof.InprojRef.lean ====
module

public import proofs.«01_k».proof.Proof.Gen.InprojReferenceIdeal.Run
public import proofs.«01_k».proof.Proof.InprojLaw
public import Idealize.ShloMosaic.Lib.Pointwise

/-! The results of the input projection's reference, at an index. -/

@[expose] public section

noncomputable section

namespace Cert.InprojReferenceIdeal.At

open Cert.InprojReferenceIdeal Cert.InprojReferenceIdeal.Gen Cert.InprojReferenceIdeal.Value
open Idealize.ShloMosaic Idealize.ShloMosaic.TcCoe Idealize.ShloMosaic.Tactic
open Cert.InprojLaw

/-- The rows, normed. -/
def rows (X : FVec Ideal S16384x1024 .f32) (G : FVec Ideal S1x1024 .f32) : FVec Ideal S16384x1024 .f32 :=
  mulf (mulf X (broadcastInDim S16384x1024 ![0, 1] bcast_S16384x1_S16384x1024_0_1 (Host.rsqrt (addf (Host.divf
      (broadcastInDim S16384x1 ![0] bcast_S16384_S16384x1_0 (Host.reduceAdd (mulf X X) (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 G)

/-- The first layer's weights. -/
def weights (W : FVec Ideal S4x1024x4608 .bf16) : FVec Ideal S1024x4608 .f32 :=
  extf .f32 (shapeCast _ (extractStridedSlice S1x1024x4608 ![0, 0, 0] W slices_S4x1024x4608_S1x1024x4608_0_0_0) shapeCasts_S1x1024x4608_S1024x4608) bitsLt_bf16_f32

/-- The whole projection. -/
def prods (H : FVec Ideal S16384x1024 .f32) (V : FVec Ideal S1024x4608 .f32) : FVec Ideal S16384x4608 .f32 :=
  Host.dotGeneral dot_S16384x1024_S1024x4608_S16384x4608_1_0_0_1_n_n none H V

/-- A position table, once for each batch member. -/
def table (C : FVec Ideal S8192x128 .f32) : FVec Ideal S16384x128 .f32 :=
  concatenate S16384x128 0 [⟨S8192x128, C⟩, ⟨S8192x128, C⟩] concatenates_S8192x128_S8192x128_S16384x128_d0

/-! ## The queries -/

def qheads (Z : FVec Ideal S16384x4608 .f32) : FVec Ideal S16384x6x128 .f32 :=
  shapeCast _ (extractStridedSlice S16384x768 ![0, 2560] Z slices_S16384x4608_S16384x768_0_2560) shapeCasts_S16384x768_S16384x6x128

def qnormed (Y : FVec Ideal S16384x6x128 .f32) (g : FVec Ideal S1x128 .f32) : FVec Ideal S16384x6x128 .f32 :=
  mulf (mulf Y (broadcastInDim S16384x6x128 ![0, 1, 2] bcast_S16384x6x1_S16384x6x128_0_1_2 (Host.rsqrt (addf (Host.divf
      (broadcastInDim S16384x6x1 ![0, 1] bcast_S16384x6_S16384x6x1_0_1 (Host.reduceAdd (mulf Y Y) (constant S_ .f32 0x00000000#32) reducesTo_S16384x6x128_S16384x6_d2 h_S_))
      (broadcastInDim S16384x6x1 ![] bcast_S_S16384x6x1 (constant S_ .f32 0x43000000#32)))
    (broadcastInDim S16384x6x1 ![] bcast_S_S16384x6x1 (constant S_ .f32 0x358637BD#32))))))
    (broadcastInDim S16384x6x128 ![0, 1, 2] bcast_S1x1x128_S16384x6x128_0_1_2 (broadcastInDim S1x1x128 ![2] bcast_S128_S1x1x128_2 (shapeCast _ g shapeCasts_S1x128_S128)))

def qswapped (Y : FVec Ideal S16384x6x128 .f32) : FVec Ideal S16384x6x128 .f32 :=
  concatenate S16384x6x128 2 [⟨S16384x6x32, extractStridedSlice S16384x6x32 ![0, 0, 32] Y slices_S16384x6x128_S16384x6x32_0_0_32⟩,
    ⟨S16384x6x32, extractStridedSlice S16384x6x32 ![0, 0, 0] Y slices_S16384x6x128_S16384x6x32_0_0_0⟩,
    ⟨S16384x6x32, extractStridedSlice S16384x6x32 ![0, 0, 96] Y slices_S16384x6x128_S16384x6x32_0_0_96⟩,
    ⟨S16384x6x32, extractStridedSlice S16384x6x32 ![0, 0, 64] Y slices_S16384x6x128_S16384x6x32_0_0_64⟩]
    concatenates_S16384x6x32_S16384x6x32_S16384x6x32_S16384x6x32_S16384x6x128_d2

def qspread (T : FVec Ideal S16384x128 .f32) : FVec Ideal S16384x6x128 .f32 :=
  broadcastInDim S16384x6x128 ![0, 1, 2] bcast_S16384x1x128_S16384x6x128_0_1_2 (broadcastInDim S16384x1x128 ![0, 2] bcast_S16384x128_S16384x1x128_0_2 T)

def qturned (Y : FVec Ideal S16384x6x128 .f32) (C S : FVec Ideal S16384x128 .f32) : FVec Ideal S16384x6x128 .f32 :=
  addf (mulf Y (qspread C)) (mulf (qswapped Y) (qspread S))

def qscaled (Y : FVec Ideal S16384x6x128 .f32) : FVec Ideal S16384x768 .bf16 :=
  truncf .bf16 (mulf (shapeCast _ Y shapeCasts_S16384x6x128_S16384x768) (broadcastInDim S16384x768 ![] bcast_S_S16384x768 (constant S_ .f32 0x3E0293EE#32))) bitsLt_bf16_f32

/-! ## The keys -/

def kheads (Z : FVec Ideal S16384x4608 .f32) : FVec Ideal S16384x2x128 .f32 :=
  shapeCast _ (extractStridedSlice S16384x256 ![0, 3328] Z slices_S16384x4608_S16384x256_0_3328) shapeCasts_S16384x256_S16384x2x128

def knormed (Y : FVec Ideal S16384x2x128 .f32) (g : FVec Ideal S1x128 .f32) : FVec Ideal S16384x2x128 .f32 :=
  mulf (mulf Y (broadcastInDim S16384x2x128 ![0, 1, 2] bcast_S16384x2x1_S16384x2x128_0_1_2 (Host.rsqrt (addf (Host.divf
      (broadcastInDim S16384x2x1 ![0, 1] bcast_S16384x2_S16384x2x1_0_1 (Host.reduceAdd (mulf Y Y) (constant S_ .f32 0x00000000#32) reducesTo_S16384x2x128_S16384x2_d2 h_S_))
      (broadcastInDim S16384x2x1 ![] bcast_S_S16384x2x1 (constant S_ .f32 0x43000000#32)))
    (broadcastInDim S16384x2x1 ![] bcast_S_S16384x2x1 (constant S_ .f32 0x358637BD#32))))))
    (broadcastInDim S16384x2x128 ![0, 1, 2] bcast_S1x1x128_S16384x2x128_0_1_2 (broadcastInDim S1x1x128 ![2] bcast_S128_S1x1x128_2 (shapeCast _ g shapeCasts_S1x128_S128)))

def kswapped (Y : FVec Ideal S16384x2x128 .f32) : FVec Ideal S16384x2x128 .f32 :=
  concatenate S16384x2x128 2 [⟨S16384x2x32, extractStridedSlice S16384x2x32 ![0, 0, 32] Y slices_S16384x2x128_S16384x2x32_0_0_32⟩,
    ⟨S16384x2x32, extractStridedSlice S16384x2x32 ![0, 0, 0] Y slices_S16384x2x128_S16384x2x32_0_0_0⟩,
    ⟨S16384x2x32, extractStridedSlice S16384x2x32 ![0, 0, 96] Y slices_S16384x2x128_S16384x2x32_0_0_96⟩,
    ⟨S16384x2x32, extractStridedSlice S16384x2x32 ![0, 0, 64] Y slices_S16384x2x128_S16384x2x32_0_0_64⟩]
    concatenates_S16384x2x32_S16384x2x32_S16384x2x32_S16384x2x32_S16384x2x128_d2

def kspread (T : FVec Ideal S16384x128 .f32) : FVec Ideal S16384x2x128 .f32 :=
  broadcastInDim S16384x2x128 ![0, 1, 2] bcast_S16384x1x128_S16384x2x128_0_1_2 (broadcastInDim S16384x1x128 ![0, 2] bcast_S16384x128_S16384x1x128_0_2 T)

def kturned (Y : FVec Ideal S16384x2x128 .f32) (C S : FVec Ideal S16384x128 .f32) : FVec Ideal S16384x2x128 .f32 :=
  addf (mulf Y (kspread C)) (mulf (kswapped Y) (kspread S))

def kflat (Y : FVec Ideal S16384x2x128 .f32) : FVec Ideal S16384x256 .bf16 :=
  truncf .bf16 (shapeCast _ Y shapeCasts_S16384x2x128_S16384x256) bitsLt_bf16_f32

/-! ## The results, as functions of the arguments -/

/-- The projection of all the rows. -/
def whole (X : FVec Ideal S16384x1024 .f32) (G : FVec Ideal S1x1024 .f32) (W : FVec Ideal S4x1024x4608 .bf16) : FVec Ideal S16384x4608 .f32 :=
  prods (rows X G) (weights W)

def outPool (Z : FVec Ideal S16384x4608 .f32) : FVec Ideal S16384x1024 .bf16 :=
  truncf .bf16 (extractStridedSlice S16384x1024 ![0, 0] Z slices_S16384x4608_S16384x1024_0_0) bitsLt_bf16_f32
def outLru (Z : FVec Ideal S16384x4608 .f32) : FVec Ideal S16384x1536 .bf16 :=
  truncf .bf16 (extractStridedSlice S16384x1536 ![0, 1024] Z slices_S16384x4608_S16384x1536_0_1024) bitsLt_bf16_f32
def outQ (Z : FVec Ideal S16384x4608 .f32) (g : FVec Ideal S1x128 .f32) (C S : FVec Ideal S8192x128 .f32) : FVec Ideal S16384x768 .bf16 :=
  qscaled (qturned (qnormed (qheads Z) g) (table C) (table S))
def outK (Z : FVec Ideal S16384x4608 .f32) (g : FVec Ideal S1x128 .f32) (C S : FVec Ideal S8192x128 .f32) : FVec Ideal S16384x256 .bf16 :=
  kflat (kturned (knormed (kheads Z) g) (table C) (table S))
def outV (Z : FVec Ideal S16384x4608 .f32) : FVec Ideal S16384x256 .bf16 :=
  truncf .bf16 (extractStridedSlice S16384x256 ![0, 3584] Z slices_S16384x4608_S16384x256_0_3584) bitsLt_bf16_f32
def outGate (Z : FVec Ideal S16384x4608 .f32) : FVec Ideal S16384x768 .bf16 :=
  truncf .bf16 (extractStridedSlice S16384x768 ![0, 3840] Z slices_S16384x4608_S16384x768_0_3840) bitsLt_bf16_f32

section
variable (m : (ℓ : Loc nD τ sig) → Buf (Elt Ideal) ℓ) (c : Dev nD)

theorem res_q : res_out2 (F := Ideal) m c = outQ (whole (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg5)) (m ((c.tc : Thread nD τ).loc main_arg6)) := rfl

theorem res_k : res_out3 (F := Ideal) m c = outK (whole (m ((c.tc : Thread nD τ).loc main_arg0)) (m ((c.tc : Thread nD τ).loc main_arg1)) (m ((c.tc : Thread nD τ).loc main_arg2)))
    (m ((c.tc : Thread nD τ).loc main_arg4)) (m ((c.tc : Thread nD τ).loc main_arg5)) (m ((c.tc : Thread nD τ).loc main_arg6)) := rfl
end

/-! ## At an index -/

theorem rows_apply (X : S16384x1024.Idx → EReal) (G : S1x1024.Idx → EReal) (n : Fin 16384) (e : Fin 1024) :
    (rows X G (ix2 n e) : EReal) = rms (Ideal.ofBits FTy.f32 0x44800000#32) (fun k => X (ix2 n k)) (fun k => G (ix2 0 k)) e := by
  unfold rows rms
  pointwise

theorem weights_apply (W : S4x1024x4608.Idx → EReal) (e : Fin 1024) (j : Fin 4608) : (weights W (ix2 e j) : EReal) = W (ix3 0 e j) := by
  unfold weights
  pointwise

theorem prods_apply (H : S16384x1024.Idx → EReal) (V : S1024x4608.Idx → EReal) (n : Fin 16384) (j : Fin 4608) :
    (prods H V (ix2 n j) : EReal) = ∑ e : Fin 1024, H (ix2 n e) * V (ix2 e j) := by
  unfold prods
  pointwise

theorem table_apply (C : S8192x128.Idx → EReal) (n : Fin 16384) (d : Fin 128) :
    (table C (ix2 n d) : EReal) = C (ix2 ⟨n.val % 8192, Nat.mod_lt _ (by decide)⟩ d) := by
  unfold table
  pointwise
  by_cases h1 : n.val < 8192
  · rw [dif_pos h1]
    exact congrArg C (congrArg (fun i => ix2 i d) (Fin.ext (Nat.mod_eq_of_lt h1).symm))
  · rw [dif_neg h1]
    exact congrArg C (congrArg (fun i => ix2 i d) (Fin.ext (show n.val - 8192 = n.val % 8192 by omega)))

theorem qheads_apply (Z : S16384x4608.Idx → EReal) (n : Fin 16384) (h : Fin 6) (d : Fin 128) :
    (qheads Z (ix3 n h d) : EReal) = Z (ix2 n ⟨2560 + (h.val * 128 + d.val), by omega⟩) := by
  unfold qheads
  pointwise

theorem qnormed_apply (Y : S16384x6x128.Idx → EReal) (g : S1x128.Idx → EReal) (n : Fin 16384) (h : Fin 6) (d : Fin 128) :
    (qnormed Y g (ix3 n h d) : EReal) = rms (Ideal.ofBits FTy.f32 0x43000000#32) (fun k => Y (ix3 n h k)) (fun k => g (ix2 0 k)) d := by
  unfold qnormed rms
  pointwise

/-- The four quarters of a head, read one by one, are the head at the partner's place. -/
theorem quarters (y : Fin 128 → EReal) (d : Fin 128) :
    (if h1 : d.val < 32 then y ⟨32 + d.val, by omega⟩
      else if h2 : d.val - 32 < 32 then y ⟨d.val - 32, by omega⟩
      else if h3 : d.val - 32 - 32 < 32 then y ⟨96 + (d.val - 32 - 32), by omega⟩
      else y ⟨64 + (d.val - 32 - 32 - 32), by omega⟩) = y (partner d) := by
  have e (k : ℕ) (hk : k < 128) (h : k = if d.val % 64 < 32 then d.val + 32 else d.val - 32) : y ⟨k, hk⟩ = y (partner d) :=
    congrArg y (Fin.ext h)
  split_ifs with h1 h2 h3
  · exact e _ _ (by rw [if_pos] <;> omega)
  · exact e _ _ (by rw [if_neg] <;> omega)
  · exact e _ _ (by rw [if_pos] <;> omega)
  · exact e _ _ (by rw [if_neg] <;> omega)

theorem qswapped_apply (Y : S16384x6x128.Idx → EReal) (n : Fin 16384) (h : Fin 6) (d : Fin 128) :
    (qswapped Y (ix3 n h d) : EReal) = Y (ix3 n h (partner d)) := by
  unfold qswapped
  pointwise
  exact quarters (fun k => Y (ix3 n h k)) d

theorem qspread_apply (T : S16384x128.Idx → EReal) (n : Fin 16384) (h : Fin 6) (d : Fin 128) : (qspread T (ix3 n h d) : EReal) = T (ix2 n d) := by
  unfold qspread
  pointwise

theorem qscaled_apply (Y : S16384x6x128.Idx → EReal) (n : Fin 16384) (h : Fin 6) (d : Fin 128) :
    (qscaled Y (ix2 n ⟨h.val * 128 + d.val, by omega⟩) : EReal) = Y (ix3 n h d) * Ideal.ofBits FTy.f32 0x3E0293EE#32 := by
  unfold qscaled
  pointwise

theorem kheads_apply (Z : S16384x4608.Idx → EReal) (n : Fin 16384) (h : Fin 2) (d : Fin 128) :
    (kheads Z (ix3 n h d) : EReal) = Z (ix2 n ⟨3328 + (h.val * 128 + d.val), by omega⟩) := by
  unfold kheads
  pointwise

theorem knormed_apply (Y : S16384x2x128.Idx → EReal) (g : S1x128.Idx → EReal) (n : Fin 16384) (h : Fin 2) (d : Fin 128) :
    (knormed Y g (ix3 n h d) : EReal) = rms (Ideal.ofBits FTy.f32 0x43000000#32) (fun k => Y (ix3 n h k)) (fun k => g (ix2 0 k)) d := by
  unfold knormed rms
  pointwise

theorem kswapped_apply (Y : S16384x2x128.Idx → EReal) (n : Fin 16384) (h : Fin 2) (d : Fin 128) :
    (kswapped Y (ix3 n h d) : EReal) = Y (ix3 n h (partner d)) := by
  unfold kswapped
  pointwise
  exact quarters (fun k => Y (ix3 n h k)) d

theorem kspread_apply (T : S16384x128.Idx → EReal) (n : Fin 16384) (h : Fin 2) (d : Fin 128) : (kspread T (ix3 n h d) : EReal) = T (ix2 n d) := by
  unfold kspread
  pointwise

theorem kflat_apply (Y : S16384x2x128.Idx → EReal) (n : Fin 16384) (h : Fin 2) (d : Fin 128) :
    (kflat Y (ix2 n ⟨h.val * 128 + d.val, by omega⟩) : EReal) = Y (ix3 n h d) := by
  unfold kflat
  pointwise

theorem whole_apply (X : S16384x1024.Idx → EReal) (G : S1x1024.Idx → EReal) (W : S4x1024x4608.Idx → EReal) (n : Fin 16384) (j : Fin 4608) :
    (whole X G W (ix2 n j) : EReal) = col (fun k => X (ix2 n k)) (fun k => G (ix2 0 k)) (fun e k => W (ix3 0 e k)) j := by
  refine (prods_apply _ _ n j).trans ?_
  unfold col proj
  refine Finset.sum_congr rfl fun e _ => ?_
  rw [weights_apply]
  exact congrArg (fun z : EReal => z * _) (rows_apply X G n e)

theorem outPool_apply (Z : S16384x4608.Idx → EReal) (n : Fin 16384) (j : Fin 1024) : (outPool Z (ix2 n j) : EReal) = Z (ix2 n ⟨j.val, by omega⟩) := by
  unfold outPool
  pointwise
theorem outLru_apply (Z : S16384x4608.Idx → EReal) (n : Fin 16384) (j : Fin 1536) : (outLru Z (ix2 n j) : EReal) = Z (ix2 n ⟨1024 + j.val, by omega⟩) := by
  unfold outLru
  pointwise
theorem outV_apply (Z : S16384x4608.Idx → EReal) (n : Fin 16384) (j : Fin 256) : (outV Z (ix2 n j) : EReal) = Z (ix2 n ⟨3584 + j.val, by omega⟩) := by
  unfold outV
  pointwise
theorem outGate_apply (Z : S16384x4608.Idx → EReal) (n : Fin 16384) (j : Fin 768) : (outGate Z (ix2 n j) : EReal) = Z (ix2 n ⟨3840 + j.val, by omega⟩) := by
  unfold outGate
  pointwise

theorem qturned_apply (Y : S16384x6x128.Idx → EReal) (C S : S8192x128.Idx → EReal) (n : Fin 16384) (h : Fin 6) (d : Fin 128) :
    (qturned Y (table C) (table S) (ix3 n h d) : EReal) = turn (fun k => Y (ix3 n h k)) (fun k => C (ix2 ⟨n.val % 8192, Nat.mod_lt _ (by decide)⟩ k))
      (fun k => S (ix2 ⟨n.val % 8192, Nat.mod_lt _ (by decide)⟩ k)) d := by
  show Y (ix3 n h d) * (qspread (table C) (ix3 n h d) : EReal) + (qswapped Y (ix3 n h d) : EReal) * (qspread (table S) (ix3 n h d) : EReal) = _
  rw [qspread_apply, qspread_apply, qswapped_apply, table_apply, table_apply]
  rfl

theorem kturned_apply (Y : S16384x2x128.Idx → EReal) (C S : S8192x128.Idx → EReal) (n : Fin 16384) (h : Fin 2) (d : Fin 128) :
    (kturned Y (table C) (table S) (ix3 n h d) : EReal) = turn (fun k => Y (ix3 n h k)) (fun k => C (ix2 ⟨n.val % 8192, Nat.mod_lt _ (by decide)⟩ k))
      (fun k => S (ix2 ⟨n.val % 8192, Nat.mod_lt _ (by decide)⟩ k)) d := by
  show Y (ix3 n h d) * (kspread (table C) (ix3 n h d) : EReal) + (kswapped Y (ix3 n h d) : EReal) * (kspread (table S) (ix3 n h d) : EReal) = _
  rw [kspread_apply, kspread_apply, kswapped_apply, table_apply, table_apply]
  rfl

theorem outQ_apply (Z : S16384x4608.Idx → EReal) (g : S1x128.Idx → EReal) (C S : S8192x128.Idx → EReal) (n : Fin 16384) (h : Fin 6) (d : Fin 128) :
    (outQ Z g C S (ix2 n ⟨h.val * 128 + d.val, by omega⟩) : EReal)
      = head (fun k => Z (ix2 n ⟨2560 + (h.val * 128 + k.val), by omega⟩)) (fun k => g (ix2 0 k)) (fun k => C (ix2 ⟨n.val % 8192, Nat.mod_lt _ (by decide)⟩ k))
        (fun k => S (ix2 ⟨n.val % 8192, Nat.mod_lt _ (by decide)⟩ k)) d * Ideal.ofBits FTy.f32 0x3E0293EE#32 := by
  refine (qscaled_apply _ n h d).trans (congrArg (fun z : EReal => z * _) ((qturned_apply _ C S n h d).trans ?_))
  unfold head
  congr 1
  funext e
  refine (qnormed_apply (qheads Z) g n h e).trans ?_
  congr 1
  funext k
  exact qheads_apply Z n h k

theorem outK_apply (Z : S16384x4608.Idx → EReal) (g : S1x128.Idx → EReal) (C S : S8192x128.Idx → EReal) (n : Fin 16384) (h : Fin 2) (d : Fin 128) :
    (outK Z g C S (ix2 n ⟨h.val * 128 + d.val, by omega⟩) : EReal)
      = head (fun k => Z (ix2 n ⟨3328 + (h.val * 128 + k.val), by omega⟩)) (fun k => g (ix2 0 k)) (fun k => C (ix2 ⟨n.val % 8192, Nat.mod_lt _ (by decide)⟩ k))
        (fun k => S (ix2 ⟨n.val % 8192, Nat.mod_lt _ (by decide)⟩ k)) d := by
  refine (kflat_apply _ n h d).trans ((kturned_apply _ C S n h d).trans ?_)
  unfold head
  congr 1
  funext e
  refine (knormed_apply (kheads Z) g n h e).trans ?_
  congr 1
  funext k
  exact kheads_apply Z n h k

end Cert.InprojReferenceIdeal.At

end
-- ==== Proof.InprojValue.lean ====
module

public import proofs.«01_k».proof.Proof.Gen.InprojIdeal.Value
public import proofs.«01_k».proof.Proof.InprojBlock
public import proofs.«01_k».proof.Proof.InprojRef
public import Idealize.ShloMosaic.Lib.Pipeline.ValueKit

/-! The six result arrays of the input projection's kernel, and that they are the reference's. -/

@[expose] public section

noncomputable section

namespace Cert.InprojIdeal.Arrays

open Cert.InprojIdeal Cert.InprojIdeal.Gen Cert.InprojIdeal.Block Cert.InprojLaw
open Idealize.ShloMosaic Idealize.ShloMosaic.TcCoe Idealize.ShloMosaic.Tactic Idealize.ShloMosaic.Pipeline
open Cert.InprojReferenceIdeal.At

variable (m : (ℓ : Loc nD τ sig) → Buf (Elt Ideal) ℓ) (c : Dev nD)

/-! ## The arguments, and the reference's results of them -/

def ax : S16384x1024.Idx → EReal := m ((c.tc : Thread nD τ).loc main_arg0)
def ag : S1x1024.Idx → EReal := m ((c.tc : Thread nD τ).loc main_arg1)
def aw : S4x1024x4608.Idx → EReal := m ((c.tc : Thread nD τ).loc main_arg2)
def aq : S1x128.Idx → EReal := m ((c.tc : Thread nD τ).loc main_arg3)
def ak : S1x128.Idx → EReal := m ((c.tc : Thread nD τ).loc main_arg4)
def ac : S8192x128.Idx → EReal := m ((c.tc : Thread nD τ).loc main_arg5)
def an : S8192x128.Idx → EReal := m ((c.tc : Thread nD τ).loc main_arg6)

def proj : Cert.InprojReferenceIdeal.S16384x4608.Idx → EReal := whole (ax m c) (ag m c) (aw m c)

def goalPool : S16384x1024.Idx → EReal := outPool (proj m c)
def goalLru : S16384x1536.Idx → EReal := outLru (proj m c)
def goalQ : S16384x768.Idx → EReal := outQ (proj m c) (aq m c) (ac m c) (an m c)
def goalK : S16384x256.Idx → EReal := outK (proj m c) (ak m c) (ac m c) (an m c)
def goalV : S16384x256.Idx → EReal := outV (proj m c)
def goalGate : S16384x768.Idx → EReal := outGate (proj m c)

/-! ## Where a block's elements lie -/

/-- Grid point `t`'s tile of rows. -/
def tile (t : Fin cfg0.N) : Fin 32 := grid0.coords t 0

/-- Row `a` of the tile at grid point `t`. -/
def row (t : Fin cfg0.N) (a : Fin 512) : Fin 16384 := ⟨512 * (tile t).val + a.val, by have := (tile t).isLt; omega⟩

/-- The same row's position in its batch member. -/
def pos (t : Fin cfg0.N) (a : Fin 512) : Fin 8192 := ⟨(row t a).val % 8192, Nat.mod_lt _ (by decide)⟩

theorem word (t : Fin cfg0.N) : (BitVec.ofNat 32 (tile t).val).toNat = (tile t).val := by
  rw [BitVec.toNat_ofNat]
  exact Nat.mod_eq_of_lt (by have := (tile t).isLt; omega)

theorem table_word : ∀ i : grid0.Coords, cc0_transform_5 i 0 = (i 0).val % 16 := by decide +kernel

theorem row_val (t : Fin cfg0.N) (a : Fin 512) : (BitVec.ofNat 32 (tile t).val).toNat * 512 + a.val = (row t a).val := by
  rw [word]
  show (tile t).val * 512 + a.val = 512 * (tile t).val + a.val
  omega

theorem pos_val (t : Fin cfg0.N) (a : Fin 512) : cc0_transform_5 (grid0.coords t) 0 * 512 + a.val = (pos t a).val := by
  rw [table_word]
  show (tile t).val % 16 * 512 + a.val = (512 * (tile t).val + a.val) % 8192
  omega

theorem emb0 (t : Fin cfg0.N) (a : Fin 512) (k : Fin 1024) : (win0_0.blk t).view.emb (ix2 a k) = ix2 (row t a) k := by
  funext i
  refine Fin.ext ((win0_0.rect_emb_val t (ix2 a k) i).trans ?_)
  fin_cases i
  · exact row_val t a
  · exact (show 0 * 1024 + k.val = k.val by omega)
theorem emb1 (t : Fin cfg0.N) (k : Fin 1024) : (win0_1.blk t).view.emb (ix2 0 k) = ix2 0 k := by
  funext i
  refine Fin.ext ((win0_1.rect_emb_val t (ix2 0 k) i).trans ?_)
  fin_cases i
  · rfl
  · exact (show 0 * 1024 + k.val = k.val by omega)
theorem emb2 (t : Fin cfg0.N) (e : Fin 1024) (j : Fin 4608) : (win0_2.blk t).view.emb (ix3 0 e j) = ix3 0 e j := by
  funext i
  refine Fin.ext ((win0_2.rect_emb_val t (ix3 0 e j) i).trans ?_)
  fin_cases i
  · rfl
  · exact (show 0 * 1024 + e.val = e.val by omega)
  · exact (show 0 * 4608 + j.val = j.val by omega)
theorem emb3 (t : Fin cfg0.N) (k : Fin 128) : (win0_3.blk t).view.emb (ix2 0 k) = ix2 0 k := by
  funext i
  refine Fin.ext ((win0_3.rect_emb_val t (ix2 0 k) i).trans ?_)
  fin_cases i
  · rfl
  · exact (show 0 * 128 + k.val = k.val by omega)
theorem emb4 (t : Fin cfg0.N) (k : Fin 128) : (win0_4.blk t).view.emb (ix2 0 k) = ix2 0 k := by
  funext i
  refine Fin.ext ((win0_4.rect_emb_val t (ix2 0 k) i).trans ?_)
  fin_cases i
  · rfl
  · exact (show 0 * 128 + k.val = k.val by omega)
theorem emb5 (t : Fin cfg0.N) (a : Fin 512) (k : Fin 128) : (win0_5.blk t).view.emb (ix2 a k) = ix2 (pos t a) k := by
  funext i
  refine Fin.ext ((win0_5.rect_emb_val t (ix2 a k) i).trans ?_)
  fin_cases i
  · exact pos_val t a
  · exact (show 0 * 128 + k.val = k.val by omega)
theorem emb6 (t : Fin cfg0.N) (a : Fin 512) (k : Fin 128) : (win0_6.blk t).view.emb (ix2 a k) = ix2 (pos t a) k := by
  funext i
  refine Fin.ext ((win0_6.rect_emb_val t (ix2 a k) i).trans ?_)
  fin_cases i
  · exact pos_val t a
  · exact (show 0 * 128 + k.val = k.val by omega)
theorem emb7 (t : Fin cfg0.N) (a : Fin 512) (k : Fin 1024) : (win0_7.blk t).view.emb (ix2 a k) = ix2 (row t a) k := by
  funext i
  refine Fin.ext ((win0_7.rect_emb_val t (ix2 a k) i).trans ?_)
  fin_cases i
  · exact row_val t a
  · exact (show 0 * 1024 + k.val = k.val by omega)
theorem emb8 (t : Fin cfg0.N) (a : Fin 512) (k : Fin 1536) : (win0_8.blk t).view.emb (ix2 a k) = ix2 (row t a) k := by
  funext i
  refine Fin.ext ((win0_8.rect_emb_val t (ix2 a k) i).trans ?_)
  fin_cases i
  · exact row_val t a
  · exact (show 0 * 1536 + k.val = k.val by omega)
theorem emb9 (t : Fin cfg0.N) (a : Fin 512) (k : Fin 768) : (win0_9.blk t).view.emb (ix2 a k) = ix2 (row t a) k := by
  funext i
  refine Fin.ext ((win0_9.rect_emb_val t (ix2 a k) i).trans ?_)
  fin_cases i
  · exact row_val t a
  · exact (show 0 * 768 + k.val = k.val by omega)
theorem emb10 (t : Fin cfg0.N) (a : Fin 512) (k : Fin 256) : (win0_10.blk t).view.emb (ix2 a k) = ix2 (row t a) k := by
  funext i
  refine Fin.ext ((win0_10.rect_emb_val t (ix2 a k) i).trans ?_)
  fin_cases i
  · exact row_val t a
  · exact (show 0 * 256 + k.val = k.val by omega)
theorem emb11 (t : Fin cfg0.N) (a : Fin 512) (k : Fin 256) : (win0_11.blk t).view.emb (ix2 a k) = ix2 (row t a) k := by
  funext i
  refine Fin.ext ((win0_11.rect_emb_val t (ix2 a k) i).trans ?_)
  fin_cases i
  · exact row_val t a
  · exact (show 0 * 256 + k.val = k.val by omega)
theorem emb12 (t : Fin cfg0.N) (a : Fin 512) (k : Fin 768) : (win0_12.blk t).view.emb (ix2 a k) = ix2 (row t a) k := by
  funext i
  refine Fin.ext ((win0_12.rect_emb_val t (ix2 a k) i).trans ?_)
  fin_cases i
  · exact row_val t a
  · exact (show 0 * 768 + k.val = k.val by omega)

/-! ## The blocks, as arrays of extended reals -/

def bx (t : Fin cfg0.N) : S512x1024.Idx → EReal := iblk m c 0 t
def bg (t : Fin cfg0.N) : S1x1024.Idx → EReal := iblk m c 1 t
def bw (t : Fin cfg0.N) : S1x1024x4608.Idx → EReal := iblk m c 2 t
def bq (t : Fin cfg0.N) : S1x128.Idx → EReal := iblk m c 3 t
def bk (t : Fin cfg0.N) : S1x128.Idx → EReal := iblk m c 4 t
def bc (t : Fin cfg0.N) : S512x128.Idx → EReal := iblk m c 5 t
def bs (t : Fin cfg0.N) : S512x128.Idx → EReal := iblk m c 6 t

theorem bx_apply (t : Fin cfg0.N) (a : Fin 512) (k : Fin 1024) : bx m c t (ix2 a k) = ax m c (ix2 (row t a) k) := congrArg (ax m c) (emb0 t a k)
theorem bg_apply (t : Fin cfg0.N) (k : Fin 1024) : bg m c t (ix2 0 k) = ag m c (ix2 0 k) := congrArg (ag m c) (emb1 t k)
theorem bw_apply (t : Fin cfg0.N) (e : Fin 1024) (j : Fin 4608) : bw m c t (ix3 0 e j) = aw m c (ix3 0 e j) := congrArg (aw m c) (emb2 t e j)
theorem bq_apply (t : Fin cfg0.N) (k : Fin 128) : bq m c t (ix2 0 k) = aq m c (ix2 0 k) := congrArg (aq m c) (emb3 t k)
theorem bk_apply (t : Fin cfg0.N) (k : Fin 128) : bk m c t (ix2 0 k) = ak m c (ix2 0 k) := congrArg (ak m c) (emb4 t k)
theorem bc_apply (t : Fin cfg0.N) (a : Fin 512) (k : Fin 128) : bc m c t (ix2 a k) = ac m c (ix2 (pos t a) k) := congrArg (ac m c) (emb5 t a k)
theorem bs_apply (t : Fin cfg0.N) (a : Fin 512) (k : Fin 128) : bs m c t (ix2 a k) = an m c (ix2 (pos t a) k) := congrArg (an m c) (emb6 t a k)

theorem entry_eq (t : Fin cfg0.N) (a : Fin 512) (j : Fin 4608) : entry (bx m c t) (bg m c t) (bw m c t) a j = proj m c (ix2 (row t a) j) := by
  refine Eq.trans ?_ (whole_apply (ax m c) (ag m c) (aw m c) (row t a) j).symm
  unfold Block.entry
  simp only [bx_apply, bg_apply, bw_apply]

theorem query_eq (t : Fin cfg0.N) (a : Fin 512) (j : Fin 768) :
    queries (bx m c t) (bg m c t) (bw m c t) (bq m c t) (bc m c t) (bs m c t) (ix2 a j) = goalQ m c (ix2 (row t a) j) := by
  have hj : j = ⟨(⟨j.val / 128, by omega⟩ : Fin 6).val * 128 + (⟨j.val % 128, by omega⟩ : Fin 128).val, by show j.val / 128 * 128 + j.val % 128 < 768; omega⟩ :=
    Fin.ext (show j.val = j.val / 128 * 128 + j.val % 128 by omega)
  refine Eq.trans ?_ ((outQ_apply (proj m c) (aq m c) (ac m c) (an m c) (row t a) ⟨j.val / 128, by omega⟩ ⟨j.val % 128, by omega⟩).symm.trans
    (congrArg (fun z => goalQ m c (ix2 (row t a) z)) hj.symm))
  show head (fun k => entry (bx m c t) (bg m c t) (bw m c t) a ⟨2560 + (j.val / 128 * 128 + k.val), _⟩) (fun k => bq m c t (ix2 0 k)) (fun k => bc m c t (ix2 a k))
    (fun k => bs m c t (ix2 a k)) ⟨j.val % 128, _⟩ * Ideal.ofBits FTy.f32 0x3E0293EE#32 = _
  simp only [entry_eq, bq_apply, bc_apply, bs_apply]
  rfl

theorem key_eq (t : Fin cfg0.N) (a : Fin 512) (j : Fin 256) :
    keys (bx m c t) (bg m c t) (bw m c t) (bk m c t) (bc m c t) (bs m c t) (ix2 a j) = goalK m c (ix2 (row t a) j) := by
  have hj : j = ⟨(⟨j.val / 128, by omega⟩ : Fin 2).val * 128 + (⟨j.val % 128, by omega⟩ : Fin 128).val, by show j.val / 128 * 128 + j.val % 128 < 256; omega⟩ :=
    Fin.ext (show j.val = j.val / 128 * 128 + j.val % 128 by omega)
  refine Eq.trans ?_ ((outK_apply (proj m c) (ak m c) (ac m c) (an m c) (row t a) ⟨j.val / 128, by omega⟩ ⟨j.val % 128, by omega⟩).symm.trans
    (congrArg (fun z => goalK m c (ix2 (row t a) z)) hj.symm))
  show head (fun k => entry (bx m c t) (bg m c t) (bw m c t) a ⟨3328 + (j.val / 128 * 128 + k.val), _⟩) (fun k => bk m c t (ix2 0 k)) (fun k => bc m c t (ix2 a k))
    (fun k => bs m c t (ix2 a k)) ⟨j.val % 128, _⟩ = _
  simp only [entry_eq, bk_apply, bc_apply, bs_apply]
  rfl

/-! ## The result arrays -/

theorem ix2_eta {p q : ℕ} (y : (⟨2, ![p, q]⟩ : Shape).Idx) : y = ix2 (y 0) (y 1) := by
  funext k
  fin_cases k <;> rfl

theorem arr_pool : (dats m 0 c).arrAt 7 cfg0.N = goalPool m c := by
  refine (dats m 0 c).arrAt_eq_of_covers 7 (goalPool m c) (by decide +kernel) fun t hf y => ?_
  blk_simp
  rw [after0_7, ix2_eta y]
  exact (pool_block (bx m c t) (bg m c t) (bw m c t) (bq m c t) (bk m c t) (bc m c t) (bs m c t) _ _).trans ((entry_eq m c t _ _).trans
    ((outPool_apply (proj m c) _ _).symm.trans (congrArg (goalPool m c) (emb7 t _ _).symm)))

theorem arr_lru : (dats m 0 c).arrAt 8 cfg0.N = goalLru m c := by
  refine (dats m 0 c).arrAt_eq_of_covers 8 (goalLru m c) (by decide +kernel) fun t hf y => ?_
  blk_simp
  rw [after0_8, ix2_eta y]
  exact (lru_block (bx m c t) (bg m c t) (bw m c t) (bq m c t) (bk m c t) (bc m c t) (bs m c t) _ _).trans ((entry_eq m c t _ _).trans
    ((outLru_apply (proj m c) _ _).symm.trans (congrArg (goalLru m c) (emb8 t _ _).symm)))

theorem arr_q : (dats m 0 c).arrAt 9 cfg0.N = goalQ m c := by
  refine (dats m 0 c).arrAt_eq_of_covers 9 (goalQ m c) (by decide +kernel) fun t hf y => ?_
  blk_simp
  rw [after0_9, ix2_eta y]
  exact (congrFun (query_block (bx m c t) (bg m c t) (bw m c t) (bq m c t) (bk m c t) (bc m c t) (bs m c t)) _).trans
    ((query_eq m c t _ _).trans (congrArg (goalQ m c) (emb9 t _ _).symm))

theorem arr_k : (dats m 0 c).arrAt 10 cfg0.N = goalK m c := by
  refine (dats m 0 c).arrAt_eq_of_covers 10 (goalK m c) (by decide +kernel) fun t hf y => ?_
  blk_simp
  rw [after0_10, ix2_eta y]
  exact (congrFun (key_block (bx m c t) (bg m c t) (bw m c t) (bq m c t) (bk m c t) (bc m c t) (bs m c t)) _).trans
    ((key_eq m c t _ _).trans (congrArg (goalK m c) (emb10 t _ _).symm))

theorem arr_v : (dats m 0 c).arrAt 11 cfg0.N = goalV m c := by
  refine (dats m 0 c).arrAt_eq_of_covers 11 (goalV m c) (by decide +kernel) fun t hf y => ?_
  blk_simp
  rw [after0_11, ix2_eta y]
  exact (value_block (bx m c t) (bg m c t) (bw m c t) (bq m c t) (bk m c t) (bc m c t) (bs m c t) _ _).trans ((entry_eq m c t _ _).trans
    ((outV_apply (proj m c) _ _).symm.trans (congrArg (goalV m c) (emb11 t _ _).symm)))

theorem arr_gate : (dats m 0 c).arrAt 12 cfg0.N = goalGate m c := by
  refine (dats m 0 c).arrAt_eq_of_covers 12 (goalGate m c) (by decide +kernel) fun t hf y => ?_
  blk_simp
  rw [after0_12, ix2_eta y]
  exact (gate_block (bx m c t) (bg m c t) (bw m c t) (bq m c t) (bk m c t) (bc m c t) (bs m c t) _ _).trans ((entry_eq m c t _ _).trans
    ((outGate_apply (proj m c) _ _).symm.trans (congrArg (goalGate m c) (emb12 t _ _).symm)))

end Cert.InprojIdeal.Arrays

end
-- ==== Proof.OutprojLaw.lean ====
module

public import Idealize.ShloMosaic.Lib.Pointwise
public import Idealize.ShloMosaic.Lib.Pipeline.ValueKit

/-! What the output projection with its pooling computes, as sums of extended reals. -/

@[expose] public section

noncomputable section

namespace Cert.OutprojLaw

open Idealize.ShloMosaic Idealize.ShloMosaic.TcCoe Idealize.ShloMosaic.Tactic

abbrev Wide : Shape := ⟨2, ![16384, 1024]⟩
abbrev Mixers : Shape := ⟨4, ![4, 4, 128, 128]⟩
abbrev Scales : Shape := ⟨2, ![1, 512]⟩

/-- Row `p` of batch member `b`. -/
def row (b : Fin 2) (p : Fin 8192) : Fin 16384 := ⟨8192 * b.val + p.val, by omega⟩

/-- Column `k` of a batch member with eight rows of zeros before its first row and after its last. -/
def padded (z : Wide.Idx → EReal) (b : Fin 2) (k : Fin 512) (n : ℕ) : EReal :=
  if h : 8 ≤ n ∧ n < 8200 then z (ix2 (row b ⟨n - 8, by omega⟩) ⟨k.val, by omega⟩) else 0

/-- The sum over the window of half length `h` about position `p`, eight rows of padding before position zero. -/
def windowSum (V : ℕ → EReal) (h p : ℕ) : EReal := ∑ j ∈ Finset.range (2 * h), V (p + 8 - h + j)

/-- How many positions the window holds. -/
def count (h p : ℕ) : ℤ := min (p + h) 8192 - max (p - h) 0

/-- The window's mean less the row itself. -/
def centred (V : ℕ → EReal) (h p : ℕ) : EReal := Ideal.div (windowSum V h p) (((count h p : ℤ) : ℝ) : EReal) - V (p + 8)

/-- Column `128 g + d` of the pooling's result at position `p` of batch member `b`. -/
def pooling (z : Wide.Idx → EReal) (P : Mixers.Idx → EReal) (s : Scales.Idx → EReal) (b : Fin 2) (p : Fin 8192) (g : Fin 4) (d : Fin 128) : EReal :=
  (∑ k : Fin 128, centred (padded z b ⟨128 * g.val + k.val, by omega⟩) (2 ^ g.val) p.val * P (ix4 0 g k d)) * s (ix2 0 ⟨128 * g.val + d.val, by omega⟩)
    * (z (ix2 (row b p) ⟨512 + (128 * g.val + d.val), by omega⟩)
      * Ideal.div 1 (1 + Ideal.exp (-z (ix2 (row b p) ⟨512 + (128 * g.val + d.val), by omega⟩))))

abbrev Lanes : Shape := ⟨2, ![16384, 768]⟩
abbrev Weights : Shape := ⟨3, ![4, 2048, 1024]⟩

/-- Element `k` of a row's pooling, recurrence and attention side by side. -/
def beside (z : Wide.Idx → EReal) (l t : Lanes.Idx → EReal) (P : Mixers.Idx → EReal) (s : Scales.Idx → EReal) (b : Fin 2) (p : Fin 8192) (k : Fin 2048) : EReal :=
  if h : k.val < 512 then pooling z P s b p ⟨k.val / 128, by omega⟩ ⟨k.val % 128, Nat.mod_lt _ (by decide)⟩
  else if h' : k.val < 1280 then l (ix2 (row b p) ⟨k.val - 512, by omega⟩)
  else t (ix2 (row b p) ⟨k.val - 1280, by omega⟩)

/-- The projection added to the layer's input. -/
def result (x z : Wide.Idx → EReal) (l t : Lanes.Idx → EReal) (P : Mixers.Idx → EReal) (s : Scales.Idx → EReal) (W : Weights.Idx → EReal)
    (b : Fin 2) (p : Fin 8192) (d : Fin 1024) : EReal :=
  x (ix2 (row b p) d) + ∑ k : Fin 2048, beside z l t P s b p k * W (ix3 0 k d)

/-- The sum over all columns is the sum over the pooling's and the sum over the others. -/
theorem sum_split (f : Fin 2048 → EReal) :
    ∑ k, f k = (∑ k : Fin 1536, f ⟨512 + k.val, by omega⟩) + ∑ k : Fin 512, f ⟨k.val, by omega⟩ :=
  (Fin.sum_univ_add (a := 512) (b := 1536) f).trans (add_comm _ _)

theorem count_ne (h p : ℕ) (hp : p < 8192) (hh : 0 < h) : ((count h p : ℤ) : ℝ) ≠ 0 := by
  unfold count
  refine Int.cast_ne_zero.mpr ?_
  omega

/-- A product with the reciprocal of the count is the quotient by it. -/
theorem mul_weight (h p : ℕ) (hp : p < 8192) (hh : 0 < h) (x : EReal) :
    x * Ideal.div 1 (((count h p : ℤ) : ℝ) : EReal) = Ideal.div x (((count h p : ℤ) : ℝ) : EReal) := by
  rw [Ideal.div_coe (count_ne h p hp hh), Ideal.div_coe (count_ne h p hp hh), one_mul]

/-! ## The count in words -/

theorem word_toInt (n : ℕ) (hn : n < 10000) : (BitVec.ofNat 32 n).toInt = n := by
  rw [BitVec.toInt_eq_toNat_of_lt] <;> rw [BitVec.toNat_ofNat, Nat.mod_eq_of_lt (by omega)]
  omega

theorem count_word (h p : ℕ) (hp : p < 8192) (hh : h ≤ 8) :
    (IntOp.minsi (BitVec.ofNat 32 p + BitVec.ofNat 32 h) 8192#32 - IntOp.maxsi (BitVec.ofNat 32 p - BitVec.ofNat 32 h) 0#32).toInt = count h p := by
  have e1 : (BitVec.ofNat 32 p + BitVec.ofNat 32 h).toInt = p + h := by
    rw [BitVec.toInt_add, word_toInt p (by omega), word_toInt h (by omega)]
    exact Int.bmod_eq_of_le (by omega) (by omega)
  have e2 : (BitVec.ofNat 32 p - BitVec.ofNat 32 h).toInt = p - h := by
    rw [BitVec.toInt_sub, word_toInt p (by omega), word_toInt h (by omega)]
    exact Int.bmod_eq_of_le (by omega) (by omega)
  have e3 : (8192#32).toInt = 8192 := by decide
  have e4 : (0#32).toInt = 0 := by decide
  rw [BitVec.toInt_sub]
  unfold IntOp.minsi IntOp.maxsi count
  simp only [BitVec.slt_eq_decide, e1, e2, e3, e4]
  split_ifs with h1 h2 h2 <;> simp only [e1, e2, e3, e4] <;> simp only [decide_eq_true_eq] at h1 h2 <;>
    (rw [Int.bmod_eq_of_le (by omega) (by omega)]; omega)

/-- The same of the bounds clipped on both sides. -/
theorem count_clip (h p : ℕ) (hp : p < 8192) (hh : h ≤ 8) :
    (IntOp.minsi 8192#32 (IntOp.maxsi 0#32 (BitVec.ofNat 32 p + BitVec.ofNat 32 h))
      - IntOp.minsi 8192#32 (IntOp.maxsi 0#32 (BitVec.ofNat 32 p - BitVec.ofNat 32 h))).toInt = count h p := by
  have e1 : (BitVec.ofNat 32 p + BitVec.ofNat 32 h).toInt = p + h := by
    rw [BitVec.toInt_add, word_toInt p (by omega), word_toInt h (by omega)]
    exact Int.bmod_eq_of_le (by omega) (by omega)
  have e2 : (BitVec.ofNat 32 p - BitVec.ofNat 32 h).toInt = p - h := by
    rw [BitVec.toInt_sub, word_toInt p (by omega), word_toInt h (by omega)]
    exact Int.bmod_eq_of_le (by omega) (by omega)
  have m1 : ∀ x y : BitVec 32, (IntOp.minsi x y).toInt = min x.toInt y.toInt := fun x y => by
    unfold IntOp.minsi
    rw [BitVec.slt_eq_decide]
    split_ifs with h <;> simp only [decide_eq_true_eq] at h <;> omega
  have m2 : ∀ x y : BitVec 32, (IntOp.maxsi x y).toInt = max x.toInt y.toInt := fun x y => by
    unfold IntOp.maxsi
    rw [BitVec.slt_eq_decide]
    split_ifs with h <;> simp only [decide_eq_true_eq] at h <;> omega
  rw [BitVec.toInt_sub, m1, m1, m2, m2, e1, e2, show (8192#32).toInt = 8192 by decide, show (0#32).toInt = 0 by decide]
  unfold count
  rw [Int.bmod_eq_of_le (by omega) (by omega)]
  omega

end Cert.OutprojLaw
-- ==== Proof.OutprojBlock.lean ====
module

public import proofs.«01_k».proof.Proof.Gen.OutprojIdeal.Value
public import proofs.«01_k».proof.Proof.Element
public import proofs.«01_k».proof.Proof.OutprojLaw
public import proofs.«01_k».proof.Proof.InprojBlock
public import Idealize.ShloMosaic.Lib.KernelVsHost
public import Idealize.ShloMosaic.Lib.Pointwise
public import Idealize.ShloMosaic.Lib.Pipeline.ValueKit

/-! The values that the output projection's kernel stores, at an index. -/

@[expose] public section

noncomputable section

namespace Cert.OutprojIdeal.Block

open Cert.OutprojIdeal Cert.OutprojIdeal.Gen Cert.OutprojLaw
open Idealize.ShloMosaic Idealize.ShloMosaic.TcCoe Idealize.ShloMosaic.Tactic

/-! ## A chunk of 128 rows of one group, as it is stored -/

/-- Rows, each with the row `k` above it added. -/
def doubled (k : BitVec 32) (X : FVec Ideal S160x128 .f32) : FVec Ideal S160x128 .f32 :=
  addf X (dynamicRotate 0 k none X rotates_S160x128_d0)

/-- The sums over group `g`'s window, at every row. -/
def window : Fin 4 → FVec Ideal S160x128 .f32 → FVec Ideal S160x128 .f32
  | 0, X => doubled 1#32 X
  | 1, X => dynamicRotate 0 159#32 none (doubled 2#32 (doubled 1#32 X)) rotates_S160x128_d0
  | 2, X => dynamicRotate 0 157#32 none (doubled 4#32 (doubled 2#32 (doubled 1#32 X))) rotates_S160x128_d0
  | 3, X => dynamicRotate 0 153#32 none (doubled 8#32 (doubled 4#32 (doubled 2#32 (doubled 1#32 X)))) rotates_S160x128_d0

/-- Half the length of group `g`'s window. -/
def half (g : Fin 4) : BitVec 32 := BitVec.ofNat 32 (2 ^ g.val)

/-- The positions of a chunk's rows in their batch member. -/
def times (v : BitVec 32) (c : Fin 8) : IVec S128x1 32 :=
  addi (broadcast S128x1 (Scalar.addi v (BitVec.ofNat 32 (128 * c.val)))) (iota .tc S128x1 32 [0] iota_S128x1_d0_w32)

/-- One over the number of positions in the window. -/
def weight (h : BitVec 32) (T : IVec S128x1 32) : FVec Ideal S128x1 .f32 :=
  divf (broadcast S128x1 (Scalar.ofBits .f32 0x3F800000#32)) (sitofp .f32 (subi (minsi (addi T (broadcast S128x1 h)) (broadcast S128x1 8192#32))
    (maxsi (subi T (broadcast S128x1 h)) (broadcast S128x1 0#32))))

/-- The window's mean less the row itself. -/
def pooled (X W : FVec Ideal S160x128 .f32) (r : FVec Ideal S128x1 .f32) : FVec Ideal S128x128 .f32 :=
  subf (mulf (extractStridedSlice S128x128 ![16, 0] W slices_S160x128_o16_0_S128x128) (broadcastTo S128x128 r broadcasts_S128x1_S128x128))
    (extractStridedSlice S128x128 ![16, 0] X slices_S160x128_o16_0_S128x128)

/-- Mixed, scaled and gated. -/
def gated (Y : FVec Ideal S128x128 .f32) (P : FVec Ideal S1x1x128x128 .bf16) (G : FVec Ideal S128x128 .bf16) (s : FVec Ideal S1x128 .f32) :
    FVec Ideal S128x128 .f32 :=
  mulf (mulf (matmul dot_S128x128_S128x128_S128x128_1_0_0_1_n_n none (truncf .bf16 Y bitsLt_bf16_f32) (shapeCast S128x128 P shapeCasts_S1x1x128x128_S128x128)
      (constant S128x128 .f32 0x00000000#32)) (broadcastTo S128x128 s broadcasts_S1x128_S128x128))
    (addf (mulf (mulf (broadcast S128x128 (Scalar.ofBits .f32 0x3F000000#32)) (extf .f32 G bitsLt_bf16_f32))
        (tanh (mulf (broadcast S128x128 (Scalar.ofBits .f32 0x3F000000#32)) (extf .f32 G bitsLt_bf16_f32))))
      (mulf (broadcast S128x128 (Scalar.ofBits .f32 0x3F000000#32)) (extf .f32 G bitsLt_bf16_f32)))

def stored (g : Fin 4) (c : Fin 8) (v : BitVec 32) (X : FVec Ideal S160x128 .f32) (P : FVec Ideal S1x1x128x128 .bf16) (G : FVec Ideal S128x128 .bf16)
    (s : FVec Ideal S1x128 .f32) : FVec Ideal S128x128 .bf16 :=
  shapeCast S128x128 (truncf .bf16 (gated (pooled X (window g X) (weight (half g) (times v c))) P G s) bitsLt_bf16_f32) shapeCasts_S128x128_S128x128

/-! ## Its elements -/

/-- Column `d`, by the row's number. -/
def col (X : S160x128.Idx → EReal) (d : Fin 128) (n : ℕ) : EReal := X (ix2 ⟨n % 160, Nat.mod_lt _ (by decide)⟩ d)

theorem rotate_col (k : BitVec 32) (X : S160x128.Idx → EReal) (d : Fin 128) (n i : ℕ) (h : (n % 160 + 160 - k.toNat % 160) % 160 = i % 160) :
    col (dynamicRotate 0 k none X rotates_S160x128_d0) d n = col X d i := by
  unfold col
  refine dynamicRotate_apply 0 k X rotates_S160x128_d0 _ _ fun b => ?_
  fin_cases b
  · exact h.symm
  · rfl

theorem doubled_col (k : BitVec 32) (X : S160x128.Idx → EReal) (d : Fin 128) (n i : ℕ) (h : (n % 160 + 160 - k.toNat % 160) % 160 = i % 160) :
    col (doubled k X) d n = col X d n + col X d i := by
  rw [← rotate_col k X d n i h]
  rfl

theorem d1 (X : S160x128.Idx → EReal) (d : Fin 128) (n : ℕ) : col (doubled 1#32 X) d (n + 1) = col X d (n + 1) + col X d n :=
  doubled_col _ _ _ _ _ (by rw [show (1#32).toNat = 1 from rfl]; omega)
theorem d2 (X : S160x128.Idx → EReal) (d : Fin 128) (n : ℕ) : col (doubled 2#32 X) d (n + 2) = col X d (n + 2) + col X d n :=
  doubled_col _ _ _ _ _ (by rw [show (2#32).toNat = 2 from rfl]; omega)
theorem d4 (X : S160x128.Idx → EReal) (d : Fin 128) (n : ℕ) : col (doubled 4#32 X) d (n + 4) = col X d (n + 4) + col X d n :=
  doubled_col _ _ _ _ _ (by rw [show (4#32).toNat = 4 from rfl]; omega)
theorem d8 (X : S160x128.Idx → EReal) (d : Fin 128) (n : ℕ) : col (doubled 8#32 X) d (n + 8) = col X d (n + 8) + col X d n :=
  doubled_col _ _ _ _ _ (by rw [show (8#32).toNat = 8 from rfl]; omega)

theorem window_col (g : Fin 4) (X : S160x128.Idx → EReal) (d : Fin 128) (a : ℕ) :
    col (window g X) d (a + 16) = windowSum (fun n => col X d (n + 8)) (2 ^ g.val) a := by
  unfold windowSum
  fin_cases g
  · show col (doubled 1#32 X) d (a + 15 + 1) = _
    rw [d1]
    simp [Finset.sum_range_succ, Nat.add_assoc, Nat.add_sub_assoc]
    abel
  · refine (rotate_col 159#32 (doubled 2#32 (doubled 1#32 X)) d (a + 16) (a + 17) (by rw [show (159#32).toNat = 159 from rfl]; omega)).trans ?_
    rw [show a + 17 = a + 15 + 2 from rfl, d2, show a + 15 + 2 = a + 16 + 1 from rfl, d1, show a + 15 = a + 14 + 1 from rfl, d1]
    simp [Finset.sum_range_succ, Nat.add_assoc, Nat.add_sub_assoc]
    abel
  · refine (rotate_col 157#32 (doubled 4#32 (doubled 2#32 (doubled 1#32 X))) d (a + 16) (a + 15 + 4) (by rw [show (157#32).toNat = 157 from rfl]; omega)).trans ?_
    rw [d4, show a + 15 + 4 = a + 17 + 2 from rfl, d2, show a + 17 + 2 = a + 18 + 1 from rfl, d1, show a + 17 = a + 16 + 1 from rfl, d1,
      show a + 15 = a + 13 + 2 from rfl, d2, show a + 13 + 2 = a + 14 + 1 from rfl, d1, show a + 13 = a + 12 + 1 from rfl, d1]
    simp [Finset.sum_range_succ, Nat.add_assoc, Nat.add_sub_assoc]
    abel
  · refine (rotate_col 153#32 (doubled 8#32 (doubled 4#32 (doubled 2#32 (doubled 1#32 X)))) d (a + 16) (a + 15 + 8) (by rw [show (153#32).toNat = 153 from rfl]; omega)).trans ?_
    rw [d8, show a + 15 + 8 = a + 19 + 4 from rfl, d4, show a + 15 = a + 11 + 4 from rfl, d4,
      show a + 19 + 4 = a + 21 + 2 from rfl, d2, show a + 19 = a + 17 + 2 from rfl, d2, show a + 11 + 4 = a + 13 + 2 from rfl, d2, show a + 11 = a + 9 + 2 from rfl, d2,
      show a + 21 + 2 = a + 22 + 1 from rfl, d1, show a + 21 = a + 20 + 1 from rfl, d1, show a + 17 + 2 = a + 18 + 1 from rfl, d1, show a + 17 = a + 16 + 1 from rfl, d1,
      show a + 13 + 2 = a + 14 + 1 from rfl, d1, show a + 13 = a + 12 + 1 from rfl, d1, show a + 9 + 2 = a + 10 + 1 from rfl, d1, show a + 9 = a + 8 + 1 from rfl, d1]
    simp [Finset.sum_range_succ, Nat.add_assoc, Nat.add_sub_assoc]
    abel

theorem weight_apply (h p : ℕ) (hp : p < 8192) (hh : h ≤ 8) (T : IVec S128x1 32) (a : Fin 128) (hT : T (ix2 a 0) = BitVec.ofNat 32 p) :
    (weight (BitVec.ofNat 32 h) T (ix2 a 0) : EReal) = Ideal.div 1 (((count h p : ℤ) : ℝ) : EReal) := by
  show Ideal.div (Ideal.ofBits FTy.f32 0x3F800000#32) ((((IntOp.minsi (T (ix2 a 0) + BitVec.ofNat 32 h) 8192#32
    - IntOp.maxsi (T (ix2 a 0) - BitVec.ofNat 32 h) 0#32).toInt : ℤ) : ℝ) : EReal) = _
  rw [hT, count_word h p hp hh, Cert.InprojIdeal.Block.one_bits]

theorem pooled_apply (X W : S160x128.Idx → EReal) (r : S128x1.Idx → EReal) (a d : Fin 128) :
    (pooled X W r (ix2 a d) : EReal) = col W d (a.val + 16) * r (ix2 a 0) - col X d (a.val + 16) := by
  have e : ∀ Y : S160x128.Idx → EReal, col Y d (a.val + 16) = Y (ix2 ⟨16 + a.val, by omega⟩ d) := fun Y => by
    unfold col
    exact congrArg (fun z => Y (ix2 z d)) (Fin.ext (show (a.val + 16) % 160 = 16 + a.val by omega))
  rw [e, e]
  unfold pooled
  pointwise

theorem gated_apply (Y : S128x128.Idx → EReal) (P : S1x1x128x128.Idx → EReal) (G : S128x128.Idx → EReal) (s : S1x128.Idx → EReal) (a d : Fin 128)
    (hG : G (ix2 a d) ≠ ⊥) :
    (gated Y P G s (ix2 a d) : EReal) = (∑ k : Fin 128, Y (ix2 a k) * P (ix4 0 0 k d)) * s (ix2 0 d)
      * (G (ix2 a d) * Ideal.div 1 (1 + Ideal.exp (-G (ix2 a d)))) := by
  rw [← Cert.KernelIdeal.Element.silu_eq _ hG]
  unfold gated
  pointwise

theorem stored_apply (g : Fin 4) (c : Fin 8) (v : BitVec 32) (X : S160x128.Idx → EReal) (P : S1x1x128x128.Idx → EReal) (G : S128x128.Idx → EReal)
    (s : S1x128.Idx → EReal) (a d : Fin 128) (hG : G (ix2 a d) ≠ ⊥) (t : ℕ) (hv : v = BitVec.ofNat 32 t) (ht : t + (128 * c.val + a.val) < 8192) :
    (stored g c v X P G s (ix2 a d) : EReal)
      = (∑ k : Fin 128, (Ideal.div (windowSum (fun n => col X k (n + 8)) (2 ^ g.val) a.val) (((count (2 ^ g.val) (t + (128 * c.val + a.val)) : ℤ) : ℝ) : EReal)
          - col X k (a.val + 16)) * P (ix4 0 0 k d)) * s (ix2 0 d)
        * (G (ix2 a d) * Ideal.div 1 (1 + Ideal.exp (-G (ix2 a d)))) := by
  have hg : 0 < 2 ^ g.val ∧ 2 ^ g.val ≤ 8 := by revert g; decide
  have e : (stored g c v X P G s (ix2 a d) : EReal) = gated (pooled X (window g X) (weight (half g) (times v c))) P G s (ix2 a d) := by
    unfold stored
    pointwise
  rw [e, gated_apply _ _ _ _ _ _ hG]
  congr 2
  refine Finset.sum_congr rfl fun k _ => ?_
  rw [pooled_apply, window_col, ← mul_weight _ _ ht hg.1]
  have hT : times v c (ix2 a 0) = BitVec.ofNat 32 (t + (128 * c.val + a.val)) := by
    have e : times v c (ix2 a 0) = v + BitVec.ofNat 32 (128 * c.val) + BitVec.ofNat 32 a.val := by
      unfold times
      pointwise
      rfl
    rw [e, hv, ← BitVec.ofNat_add, ← BitVec.ofNat_add, Nat.add_assoc]
  rw [show half g = BitVec.ofNat 32 (2 ^ g.val) from rfl, weight_apply _ _ ht hg.2 _ a hT]

/-! ## The 32 stores of the pooling's scratch -/

theorem inX (g : Fin 4) (c : Fin 8) : ∀ a, (![128 * c.val, 128 * g.val] : Fin 2 → ℕ) a + S160x128.size a ≤ S1056x512.size a := by
  revert g c; decide
theorem inY (g : Fin 4) (c : Fin 8) : ∀ a, (![128 * c.val, 128 * g.val] : Fin 2 → ℕ) a + S128x128.size a ≤ S1024x512.size a := by
  revert g c; decide
theorem inP (g : Fin 4) : ∀ a, (![0, g.val, 0, 0] : Fin 4 → ℕ) a + S1x1x128x128.size a ≤ S1x4x128x128.size a := by
  revert g; decide
theorem inG (g : Fin 4) (c : Fin 8) : ∀ a, (![128 * c.val, 512 + 128 * g.val] : Fin 2 → ℕ) a + S128x128.size a ≤ S1024x1024.size a := by
  revert g c; decide
theorem inS (g : Fin 4) : ∀ a, (![0, 128 * g.val] : Fin 2 → ℕ) a + S1x128.size a ≤ S1x512.size a := by
  revert g; decide

section
variable (c : Dev nD) (i : grid0.Coords)
  (a2 : Memref sig .tc .vmem S1024x1024 .bf16) (h2 : a2.IsWhole) (a3 : Memref sig .tc .vmem S16x512 .bf16) (h3 : a3.IsWhole)
  (a4 : Memref sig .tc .vmem S16x512 .bf16) (h4 : a4.IsWhole) (a7 : Memref sig .tc .vmem S1x4x128x128 .bf16) (h7 : a7.IsWhole)
  (a8 : Memref sig .tc .vmem S1x512 .f32) (h8 : a8.IsWhole)
  (x1 : Vec Ideal S1024x1024 .bf16) (x2 x3 : Vec Ideal S16x512 .bf16) (x6 : Vec Ideal S1x4x128x128 .bf16) (x7 : Vec Ideal S1x512 .f32)

/-- What the pooling's scratch is given for chunk `p.1` of group `p.2`. -/
def piece (p : Fin 8 × Fin 4) : View.Piece (Elt Ideal) S1024x512 .bf16 :=
  ⟨Rect.unit ![128 * p.1.val, 128 * p.2.val] S128x128.size (inY p.2 p.1),
    stored p.2 p.1 (kernelRun0_A.sl.v10 i)
      (scM0_0.view.readCov (kernelRun0_A.sl.HS0_3 (F := Ideal) c i a2 h2 a3 h3 a4 h4 x1 x2 x3)
        (Rect.unit (s := S1056x512) ![128 * p.1.val, 128 * p.2.val] S160x128.size (inX p.2 p.1)).toLoadRect)
      (View.readAt (Elt Ideal) a7.view (Rect.unit (s := S1x4x128x128) ![0, p.2.val, 0, 0] S1x1x128x128.size (inP p.2)).toLoadRect (h7.unread x6))
      (View.readAt (Elt Ideal) a2.view (Rect.unit (s := S1024x1024) ![128 * p.1.val, 512 + 128 * p.2.val] S128x128.size (inG p.2 p.1)).toLoadRect (h2.unread x1))
      (View.readAt (Elt Ideal) a8.view (Rect.unit (s := S1x512) ![0, 128 * p.2.val] S1x128.size (inS p.2)).toLoadRect (h8.unread x7))⟩

/-- The stores, the last first. -/
def order : List (Fin 8 × Fin 4) :=
  [(7, 3), (7, 2), (7, 1), (7, 0), (6, 3), (6, 2), (6, 1), (6, 0), (5, 3), (5, 2), (5, 1), (5, 0), (4, 3), (4, 2), (4, 1), (4, 0),
   (3, 3), (3, 2), (3, 1), (3, 0), (2, 3), (2, 2), (2, 1), (2, 0), (1, 3), (1, 2), (1, 1), (1, 0), (0, 3), (0, 2), (0, 1), (0, 0)]

theorem order_mem (p : Fin 8 × Fin 4) : p ∈ order := by revert p; decide

set_option maxRecDepth 100000 in
theorem pieces_eq : kernelRun0_A.sl.HS1_32 (F := Ideal) c i a2 h2 a3 h3 a4 h4 a7 h7 a8 h8 scM0_0 x1 x2 x3 x6 x7
    = order.map (piece c i a2 h2 a3 h3 a4 h4 a7 h7 a8 h8 x1 x2 x3 x6 x7) := by
  sl_kernel_rfl
end

end Cert.OutprojIdeal.Block
-- ==== Proof.OutprojTile.lean ====
module

public import proofs.«01_k».proof.Proof.OutprojBlock
public import Idealize.ShloMosaic.Lib.WholeRead

/-! What the output projection's kernel leaves in its scratches and its result of one tile of rows. -/

@[expose] public section

noncomputable section

namespace Cert.OutprojIdeal.Tile

open Cert.OutprojIdeal Cert.OutprojIdeal.Gen Cert.OutprojIdeal.Block Cert.OutprojLaw
open Idealize.ShloMosaic Idealize.ShloMosaic.TcCoe Idealize.ShloMosaic.Tactic

theorem ix2_eta {p q : ℕ} (y : (⟨2, ![p, q]⟩ : Shape).Idx) : y = ix2 (y 0) (y 1) := by
  funext k
  fin_cases k <;> rfl

/-! ## The grid point's own words -/

/-- The first position of the tile in its batch member. -/
def start (i : grid0.Coords) : ℕ := (i 0).val % 8 * 1024

theorem start_word : ∀ i : grid0.Coords, kernelRun0_A.sl.v10 i = BitVec.ofNat 32 (start i) := by decide +kernel

theorem start_le (i : grid0.Coords) : start i ≤ 7168 := by unfold start; omega

/-- One but for a batch member's first tile. -/
theorem before_apply (i : grid0.Coords) : (k0_pay2 (F := Ideal) i : EReal) = if 0 < start i then 1 else 0 := by
  have e : ∀ i : grid0.Coords, (Scalar.extui (Scalar.cmpi .sgt (kernelRun0_A.sl.v10 i) 0#32) : BitVec 32).toInt
      = if 0 < start i then 1 else 0 := by decide +kernel
  refine (show (k0_pay2 (F := Ideal) i : EReal)
    = ((((Scalar.extui (Scalar.cmpi .sgt (kernelRun0_A.sl.v10 i) 0#32) : BitVec 32).toInt : ℤ) : ℝ) : EReal) from rfl).trans ?_
  rw [e i]
  split_ifs <;> simp

/-- One but for a batch member's last tile. -/
theorem after_apply (i : grid0.Coords) : (k0_pay3 (F := Ideal) i : EReal) = if start i + 1024 < 8192 then 1 else 0 := by
  have e : ∀ i : grid0.Coords, (Scalar.extui (Scalar.cmpi .slt (Scalar.addi (kernelRun0_A.sl.v10 i) 1024#32) 8192#32) : BitVec 32).toInt
      = if start i + 1024 < 8192 then 1 else 0 := by decide +kernel
  refine (show (k0_pay3 (F := Ideal) i : EReal)
    = ((((Scalar.extui (Scalar.cmpi .slt (Scalar.addi (kernelRun0_A.sl.v10 i) 1024#32) 8192#32) : BitVec 32).toInt : ℤ) : ℝ) : EReal) from rfl).trans ?_
  rw [e i]
  split_ifs <;> simp

/-- Row `a` of the tile. -/
def at_ (i : grid0.Coords) (a : Fin 1024) : Fin 8192 := ⟨start i + a.val, by have := start_le i; omega⟩

theorem ld_col (E : S1056x512.Idx → EReal) (g : Fin 4) (e : Fin 8) (k : Fin 128) (n : ℕ) (hn : n < 160) :
    col (View.ld (Val := Elt Ideal) (e' := .f32) E (Rect.unit (s := S1056x512) ![128 * e.val, 128 * g.val] S160x128.size (inX g e))) k n
      = E (ix2 ⟨128 * e.val + n, by omega⟩ ⟨128 * g.val + k.val, by omega⟩) := by
  refine congrArg E (funext fun q => Fin.ext ?_)
  fin_cases q
  · show 128 * e.val + 1 * (n % 160) = 128 * e.val + n
    omega
  · show 128 * g.val + 1 * k.val = 128 * g.val + k.val
    omega

theorem half_le : ∀ g : Fin 4, 0 < 2 ^ g.val ∧ 2 ^ g.val ≤ 8 := by decide

/-- A stored chunk's element, from what its loads read. -/
theorem stored_pooling (i : grid0.Coords) (z : Wide.Idx → EReal) (P : Mixers.Idx → EReal) (s : Scales.Idx → EReal) (b : Fin 2) (g : Fin 4) (e : Fin 8)
    (X : S160x128.Idx → EReal) (p : S1x1x128x128.Idx → EReal) (G : S128x128.Idx → EReal) (w : S1x128.Idx → EReal) (a d : Fin 128)
    (hX : ∀ (k : Fin 128) (n : ℕ), 8 ≤ n → n < 152 → col X k n = padded z b ⟨128 * g.val + k.val, by omega⟩ (start i + (128 * e.val + n) - 8))
    (eP : ∀ k : Fin 128, p (ix4 0 0 k d) = P (ix4 0 g k d))
    (eG : G (ix2 a d) = z (ix2 (row b (at_ i ⟨128 * e.val + a.val, by omega⟩)) ⟨512 + (128 * g.val + d.val), by omega⟩))
    (eS : w (ix2 0 d) = s (ix2 0 ⟨128 * g.val + d.val, by omega⟩)) (hG : ∀ r q, 512 ≤ q.val → z (ix2 r q) ≠ ⊥) :
    (stored g e (kernelRun0_A.sl.v10 i) X p G w (ix2 a d) : EReal) = pooling z P s b (at_ i ⟨128 * e.val + a.val, by omega⟩) g d := by
  have hs' := start_le i
  have hg := half_le g
  refine (stored_apply g e _ X p G w a d (by rw [eG]; exact hG _ _ (Nat.le_add_right _ _)) (start i) (start_word i) (by omega)).trans ?_
  rw [eG, eS]
  unfold pooling centred
  simp only [eP]
  congr 2
  refine Finset.sum_congr rfl fun k _ => ?_
  have eW : windowSum (fun n => col X k (n + 8)) (2 ^ g.val) a.val
      = windowSum (padded z b ⟨128 * g.val + k.val, by omega⟩) (2 ^ g.val) (start i + (128 * e.val + a.val)) := by
    unfold windowSum
    refine Finset.sum_congr rfl fun j hj => ?_
    have hj' := Finset.mem_range.mp hj
    refine (hX k _ (by omega) (by omega)).trans (congrArg _ ?_)
    omega
  rw [hX k _ (by omega) (by omega), eW, show start i + (128 * e.val + (a.val + 16)) - 8 = start i + (128 * e.val + a.val) + 8 by omega]
  rfl

/-! ## The scratches -/

section
variable (c : Dev nD) (i : grid0.Coords)
  (a2 : Memref sig .tc .vmem S1024x1024 .bf16) (h2 : a2.IsWhole) (a3 : Memref sig .tc .vmem S16x512 .bf16) (h3 : a3.IsWhole)
  (a4 : Memref sig .tc .vmem S16x512 .bf16) (h4 : a4.IsWhole) (a7 : Memref sig .tc .vmem S1x4x128x128 .bf16) (h7 : a7.IsWhole)
  (a8 : Memref sig .tc .vmem S1x512 .f32) (h8 : a8.IsWhole)
  (x1 : S1024x1024.Idx → EReal) (x2 x3 : S16x512.Idx → EReal) (x6 : S1x4x128x128.Idx → EReal) (x7 : S1x512.Idx → EReal)

/-- The tile's rows with sixteen rows before and after. -/
def extended : S1056x512.Idx → EReal := View.canon (Val := Elt Ideal) (kernelRun0_A.sl.HS0_3 (F := Ideal) c i a2 h2 a3 h3 a4 h4 x1 x2 x3)

/-- The same by cases. -/
def rows (y : S1056x512.Idx) : EReal :=
  if h : (y 0).val < 16 then x2 (ix2 ⟨(y 0).val, h⟩ (y 1)) * k0_pay2 (F := Ideal) i
  else if h' : (y 0).val < 1040 then x1 (ix2 ⟨(y 0).val - 16, by omega⟩ ⟨(y 1).val, by have := (y 1).isLt; exact lt_of_lt_of_le this (by decide)⟩)
  else x3 (ix2 ⟨(y 0).val - 1040, by have := (y 0).isLt; have : (y 0).val < 1056 := this; omega⟩ (y 1)) * k0_pay3 (F := Ideal) i

theorem rows_before (y : S1056x512.Idx) (a : Fin 16) (k : Fin 512) (h0 : (y 0).val = a.val) (h1 : (y 1).val = k.val) :
    rows i x1 x2 x3 y = x2 (ix2 a k) * k0_pay2 (F := Ideal) i := by
  unfold rows
  rw [dif_pos (by omega)]
  exact congrArg (fun z => x2 z * _) (congrArg₂ ix2 (Fin.ext h0) (Fin.ext h1))

theorem rows_tile (y : S1056x512.Idx) (a : Fin 1024) (k : Fin 512) (h0 : (y 0).val = 16 + a.val) (h1 : (y 1).val = k.val) :
    rows i x1 x2 x3 y = x1 (ix2 a ⟨k.val, by omega⟩) := by
  unfold rows
  rw [dif_neg (by omega), dif_pos (by omega)]
  exact congrArg x1 (congrArg₂ ix2 (Fin.ext (show (y 0).val - 16 = a.val by omega)) (Fin.ext h1))

theorem rows_after (y : S1056x512.Idx) (a : Fin 16) (k : Fin 512) (h0 : (y 0).val = 1040 + a.val) (h1 : (y 1).val = k.val) :
    rows i x1 x2 x3 y = x3 (ix2 a k) * k0_pay3 (F := Ideal) i := by
  unfold rows
  rw [dif_neg (by omega), dif_neg (by omega)]
  exact congrArg (fun z => x3 z * _) (congrArg₂ ix2 (Fin.ext (show (y 0).val - 1040 = a.val by omega)) (Fin.ext h1))

theorem extended_cover (y : S1056x512.Idx) : ∃ p ∈ kernelRun0_A.sl.HS0_3 (F := Ideal) c i a2 h2 a3 h3 a4 h4 x1 x2 x3, y ∈ p.1.set := by
  have h0 : (y 0).val < 1056 := (y 0).isLt
  have h1 : (y 1).val < 512 := (y 1).isLt
  unfold kernelRun0_A.sl.HS0_3
  by_cases ha : (y 0).val < 16
  · refine ⟨_, List.mem_cons_of_mem _ (List.mem_cons_of_mem _ List.mem_cons_self), ?_⟩
    refine (Rect.mem_set_unit (inb := inb_S1056x512_S16x512_0_0)).mpr fun a => ?_
    fin_cases a
    · exact ⟨Nat.zero_le _, by show (y 0).val < 0 + 16; omega⟩
    · exact ⟨Nat.zero_le _, by show (y 1).val < 0 + 512; omega⟩
  by_cases hb : (y 0).val < 1040
  · refine ⟨_, List.mem_cons_of_mem _ List.mem_cons_self, ?_⟩
    refine (Rect.mem_set_unit (inb := inb_S1056x512_S1024x512_16_0)).mpr fun a => ?_
    fin_cases a
    · exact ⟨by show 16 ≤ (y 0).val; omega, by show (y 0).val < 16 + 1024; omega⟩
    · exact ⟨Nat.zero_le _, by show (y 1).val < 0 + 512; omega⟩
  · refine ⟨_, List.mem_cons_self, ?_⟩
    refine (Rect.mem_set_unit (inb := inb_S1056x512_S16x512_1040_0)).mpr fun a => ?_
    fin_cases a
    · exact ⟨by show 1040 ≤ (y 0).val; omega, by show (y 0).val < 1040 + 16; omega⟩
    · exact ⟨Nat.zero_le _, by show (y 1).val < 0 + 512; omega⟩

theorem halo_apply (w : EReal) (X : S16x512.Idx → EReal) (a : Fin 16) (k : Fin 512) :
    (k0_pay7 (F := Ideal) w X (ix2 a k) : EReal) = X (ix2 a k) * w := by
  unfold k0_pay7
  pointwise

theorem main_apply (X : S1024x512.Idx → EReal) (a : Fin 1024) (k : Fin 512) : (k0_pay8 (F := Ideal) X (ix2 a k) : EReal) = X (ix2 a k) := by
  unfold k0_pay8
  pointwise

theorem extended_eq (y : S1056x512.Idx) : extended c i a2 h2 a3 h3 a4 h4 x1 x2 x3 y = rows i x1 x2 x3 y := by
  refine View.canon_apply_of_pieces (Val := Elt Ideal) (e := .f32) (rows i x1 x2 x3) _ ?_ y (extended_cover c i a2 h2 a3 h3 a4 h4 x1 x2 x3 y)
  unfold kernelRun0_A.sl.HS0_3
  simp only [List.forall_mem_cons]
  refine ⟨fun x => ?_, fun x => ?_, fun x => ?_, fun _ h => absurd h List.not_mem_nil⟩
  · refine Eq.trans ?_ (rows_after i x1 x2 x3 _ (x 0) (x 1) (show 1040 + 1 * (x 0).val = 1040 + (x 0).val by omega) (show 0 + 1 * (x 1).val = (x 1).val by omega)).symm
    rw [show x = ix2 (x 0) (x 1) from ix2_eta x]
    refine (halo_apply _ _ (x 0) (x 1)).trans (congrArg (fun z : EReal => z * _) ?_)
    refine (Memref.IsWhole.readAt_unread (Val := Elt Ideal) h4 x3 _ _).trans (congrArg x3 (funext fun b => Fin.ext ?_))
    fin_cases b
    · exact (show 0 + 1 * (x 0).val = (x 0).val by omega)
    · exact (show 0 + 1 * (x 1).val = (x 1).val by omega)
  · refine Eq.trans ?_ (rows_tile i x1 x2 x3 _ (x 0) (x 1) (show 16 + 1 * (x 0).val = 16 + (x 0).val by omega) (show 0 + 1 * (x 1).val = (x 1).val by omega)).symm
    rw [show x = ix2 (x 0) (x 1) from ix2_eta x]
    refine (main_apply _ (x 0) (x 1)).trans ?_
    refine (Memref.IsWhole.readAt_unread (Val := Elt Ideal) h2 x1 _ _).trans (congrArg x1 (funext fun b => Fin.ext ?_))
    fin_cases b
    · exact (show 0 + 1 * (x 0).val = (x 0).val by omega)
    · exact (show 0 + 1 * (x 1).val = (x 1).val by omega)
  · refine Eq.trans ?_ (rows_before i x1 x2 x3 _ (x 0) (x 1) (show 0 + 1 * (x 0).val = (x 0).val by omega) (show 0 + 1 * (x 1).val = (x 1).val by omega)).symm
    rw [show x = ix2 (x 0) (x 1) from ix2_eta x]
    refine (halo_apply _ _ (x 0) (x 1)).trans (congrArg (fun z : EReal => z * _) ?_)
    refine (Memref.IsWhole.readAt_unread (Val := Elt Ideal) h3 x2 _ _).trans (congrArg x2 (funext fun b => Fin.ext ?_))
    fin_cases b
    · exact (show 0 + 1 * (x 0).val = (x 0).val by omega)
    · exact (show 0 + 1 * (x 1).val = (x 1).val by omega)
/-! ## In terms of the whole arrays -/

variable (z : Wide.Idx → EReal) (P : Mixers.Idx → EReal) (s : Scales.Idx → EReal) (b : Fin 2)

/-- The blocks hold the whole arrays' elements. -/
structure Holds : Prop where
  tile : ∀ (a k : Fin 1024), x1 (ix2 a k) = z (ix2 (row b (at_ i a)) k)
  before : ∀ (a : Fin 16) (k : Fin 512) (p : Fin 8192), p.val + 16 = start i + a.val → x2 (ix2 a k) = z (ix2 (row b p) ⟨k.val, by omega⟩)
  after : ∀ (a : Fin 16) (k : Fin 512) (p : Fin 8192), p.val = start i + 1024 + a.val → x3 (ix2 a k) = z (ix2 (row b p) ⟨k.val, by omega⟩)
  mixers : ∀ (g : Fin 4) (k d : Fin 128), x6 (ix4 0 g k d) = P (ix4 0 g k d)
  scales : ∀ q : Fin 512, x7 (ix2 0 q) = s (ix2 0 q)

variable (H : Holds i x1 x2 x3 x6 x7 z P s b)
include H

theorem extended_padded (n : Fin 1056) (k : Fin 512) (hn : 8 ≤ n.val) (hn' : n.val < 1048) :
    extended c i a2 h2 a3 h3 a4 h4 x1 x2 x3 (ix2 n k) = padded z b k (start i + n.val - 8) := by
  have hs : start i % 1024 = 0 := Nat.mul_mod_left _ _
  have hs' := start_le i
  rw [extended_eq]
  unfold padded
  by_cases ha : n.val < 16
  · rw [rows_before i x1 x2 x3 _ ⟨n.val, ha⟩ k rfl rfl, before_apply]
    by_cases h : 0 < start i
    · rw [if_pos h, dif_pos (by omega), mul_one]
      exact H.before _ _ _ (show start i + n.val - 8 - 8 + 16 = start i + n.val by omega)
    · rw [if_neg h, dif_neg (by omega), mul_zero]
  by_cases hb : n.val < 1040
  · rw [rows_tile i x1 x2 x3 _ ⟨n.val - 16, by omega⟩ k (show n.val = 16 + (n.val - 16) by omega) rfl, dif_pos (by omega), H.tile]
    exact congrArg (fun y => z (ix2 (row b y) _)) (Fin.ext (show start i + (n.val - 16) = start i + n.val - 8 - 8 by omega))
  · rw [rows_after i x1 x2 x3 _ ⟨n.val - 1040, by omega⟩ k (show n.val = 1040 + (n.val - 1040) by omega) rfl, after_apply]
    by_cases h : start i + 1024 < 8192
    · rw [if_pos h, dif_pos (by omega), mul_one]
      exact H.after _ _ _ (show start i + n.val - 8 - 8 = start i + 1024 + (n.val - 1040) by omega)
    · rw [if_neg h, dif_neg (by omega), mul_zero]

theorem chunk_col (g : Fin 4) (e : Fin 8) (k : Fin 128) (n : ℕ) (hn : 8 ≤ n) (hn' : n < 152) :
    col (scM0_0.view.readCov (kernelRun0_A.sl.HS0_3 (F := Ideal) c i a2 h2 a3 h3 a4 h4 x1 x2 x3)
        (Rect.unit (s := S1056x512) ![128 * e.val, 128 * g.val] S160x128.size (inX g e)).toLoadRect) k n
      = padded z b ⟨128 * g.val + k.val, by omega⟩ (start i + (128 * e.val + n) - 8) := by
  rw [View.readCov_eq_canon_ld _ _ _ (extended_cover c i a2 h2 a3 h3 a4 h4 x1 x2 x3), ld_col _ g e k n (by omega)]
  exact extended_padded c i a2 h2 a3 h3 a4 h4 x1 x2 x3 x6 x7 z P s b H ⟨128 * e.val + n, by omega⟩ ⟨128 * g.val + k.val, by omega⟩
    (show 8 ≤ 128 * e.val + n by omega) (show 128 * e.val + n < 1048 by omega)

theorem piece_apply (hG : ∀ r q, 512 ≤ q.val → z (ix2 r q) ≠ ⊥) (g : Fin 4) (e : Fin 8) (a d : Fin 128) :
    ((piece c i a2 h2 a3 h3 a4 h4 a7 h7 a8 h8 x1 x2 x3 x6 x7 (e, g)).2 (ix2 a d) : EReal)
      = pooling z P s b (at_ i ⟨128 * e.val + a.val, by omega⟩) g d := by
  have hs' := start_le i
  have eG : (View.readAt (Elt Ideal) a2.view (Rect.unit (s := S1024x1024) ![128 * e.val, 512 + 128 * g.val] S128x128.size (inG g e)).toLoadRect (h2.unread x1) (ix2 a d) : EReal)
      = z (ix2 (row b (at_ i ⟨128 * e.val + a.val, by omega⟩)) ⟨512 + (128 * g.val + d.val), by omega⟩) := by
    refine (Memref.IsWhole.readAt_unread (Val := Elt Ideal) h2 x1 _ _).trans (Eq.trans ?_ (H.tile _ _))
    refine congrArg x1 (funext fun q => Fin.ext ?_)
    fin_cases q
    · show 128 * e.val + 1 * a.val = 128 * e.val + a.val
      omega
    · show 512 + 128 * g.val + 1 * d.val = 512 + (128 * g.val + d.val)
      omega
  have eP : ∀ k : Fin 128, (View.readAt (Elt Ideal) a7.view (Rect.unit (s := S1x4x128x128) ![0, g.val, 0, 0] S1x1x128x128.size (inP g)).toLoadRect (h7.unread x6)
      (ix4 0 0 k d) : EReal) = P (ix4 0 g k d) := fun k => by
    refine (Memref.IsWhole.readAt_unread (Val := Elt Ideal) h7 x6 _ _).trans (Eq.trans ?_ (H.mixers g k d))
    refine congrArg x6 (funext fun q => Fin.ext ?_)
    fin_cases q
    · rfl
    · rfl
    · show 0 + 1 * k.val = k.val
      omega
    · show 0 + 1 * d.val = d.val
      omega
  have eS : (View.readAt (Elt Ideal) a8.view (Rect.unit (s := S1x512) ![0, 128 * g.val] S1x128.size (inS g)).toLoadRect (h8.unread x7) (ix2 0 d) : EReal)
      = s (ix2 0 ⟨128 * g.val + d.val, by omega⟩) := by
    refine (Memref.IsWhole.readAt_unread (Val := Elt Ideal) h8 x7 _ _).trans (Eq.trans ?_ (H.scales _))
    refine congrArg x7 (funext fun q => Fin.ext ?_)
    fin_cases q
    · rfl
    · show 128 * g.val + 1 * d.val = 128 * g.val + d.val
      omega
  unfold Block.piece
  exact stored_pooling i z P s b g e _ _ _ _ a d (chunk_col c i a2 h2 a3 h3 a4 h4 x1 x2 x3 x6 x7 z P s b H g e) eP eG eS hG

/-- The pooling's scratch. -/
def filled (y : S1024x512.Idx) : EReal := pooling z P s b (at_ i (y 0)) ⟨(y 1).val / 128, by have : (y 1).val < 512 := (y 1).isLt; omega⟩ ⟨(y 1).val % 128, Nat.mod_lt _ (by decide)⟩

omit H in
theorem filled_cover (y : S1024x512.Idx) : ∃ p ∈ kernelRun0_A.sl.HS1_32 (F := Ideal) c i a2 h2 a3 h3 a4 h4 a7 h7 a8 h8 scM0_0 x1 x2 x3 x6 x7, y ∈ p.1.set := by
  have h0 : (y 0).val < 1024 := (y 0).isLt
  have h1 : (y 1).val < 512 := (y 1).isLt
  rw [pieces_eq]
  refine ⟨_, List.mem_map_of_mem (order_mem (⟨(y 0).val / 128, by omega⟩, ⟨(y 1).val / 128, by omega⟩)), ?_⟩
  refine (Rect.mem_set_unit (inb := inY _ _)).mpr fun a => ?_
  fin_cases a
  · exact ⟨by show 128 * ((y 0).val / 128) ≤ (y 0).val; omega, by show (y 0).val < 128 * ((y 0).val / 128) + 128; omega⟩
  · exact ⟨by show 128 * ((y 1).val / 128) ≤ (y 1).val; omega, by show (y 1).val < 128 * ((y 1).val / 128) + 128; omega⟩

theorem filled_eq (hG : ∀ r q, 512 ≤ q.val → z (ix2 r q) ≠ ⊥) (y : S1024x512.Idx) :
    View.canon (Val := Elt Ideal) (kernelRun0_A.sl.HS1_32 (F := Ideal) c i a2 h2 a3 h3 a4 h4 a7 h7 a8 h8 scM0_0 x1 x2 x3 x6 x7) y = filled i z P s b y := by
  refine View.canon_apply_of_pieces (Val := Elt Ideal) (e := .bf16) (filled i z P s b) _ ?_ y (filled_cover c i a2 h2 a3 h3 a4 h4 a7 h7 a8 h8 x1 x2 x3 x6 x7 y)
  rw [pieces_eq]
  intro q hq x
  obtain ⟨⟨e, g⟩, -, rfl⟩ := List.mem_map.mp hq
  have hx0 : (x 0).val < 128 := (x 0).isLt
  have hx1 : (x 1).val < 128 := (x 1).isLt
  have hx : x = ix2 ⟨(x 0).val, hx0⟩ ⟨(x 1).val, hx1⟩ := ix2_eta x
  refine (congrArg (Block.piece c i a2 h2 a3 h3 a4 h4 a7 h7 a8 h8 x1 x2 x3 x6 x7 (e, g)).2 hx).trans
    ((piece_apply c i a2 h2 a3 h3 a4 h4 a7 h7 a8 h8 x1 x2 x3 x6 x7 z P s b H hG g e ⟨(x 0).val, hx0⟩ ⟨(x 1).val, hx1⟩).trans ?_)
  unfold filled
  congr 1
  · exact Fin.ext (show start i + (128 * e.val + (x 0).val) = start i + (128 * e.val + 1 * (x 0).val) by omega)
  · exact Fin.ext (show g.val = (128 * g.val + 1 * (x 1).val) / 128 by omega)
  · exact Fin.ext (show (x 1).val = (128 * g.val + 1 * (x 1).val) % 128 by omega)

end

/-! ## The other two branches' scratch -/

section
variable (c : Dev nD) (a5 : Memref sig .tc .vmem S1024x768 .bf16) (h5 : a5.IsWhole) (a6 : Memref sig .tc .vmem S1024x768 .bf16) (h6 : a6.IsWhole)
  (x4 x5 : S1024x768.Idx → EReal)

/-- Side by side. -/
def both (y : S1024x1536.Idx) : EReal :=
  if h : (y 1).val < 768 then x4 (ix2 (y 0) ⟨(y 1).val, h⟩) else x5 (ix2 (y 0) ⟨(y 1).val - 768, by have : (y 1).val < 1536 := (y 1).isLt; omega⟩)

theorem both_left (y : S1024x1536.Idx) (a : Fin 1024) (k : Fin 768) (h0 : (y 0).val = a.val) (h1 : (y 1).val = k.val) : both x4 x5 y = x4 (ix2 a k) := by
  unfold both
  rw [dif_pos (by omega)]
  exact congrArg x4 (congrArg₂ ix2 (Fin.ext h0) (Fin.ext h1))

theorem both_right (y : S1024x1536.Idx) (a : Fin 1024) (k : Fin 768) (h0 : (y 0).val = a.val) (h1 : (y 1).val = 768 + k.val) : both x4 x5 y = x5 (ix2 a k) := by
  unfold both
  rw [dif_neg (by omega)]
  exact congrArg x5 (congrArg₂ ix2 (Fin.ext h0) (Fin.ext (show (y 1).val - 768 = k.val by omega)))

theorem both_cover (y : S1024x1536.Idx) : ∃ p ∈ kernelRun0_A.sl.HS2_2 (F := Ideal) c a5 h5 a6 h6 x4 x5, y ∈ p.1.set := by
  have h0 : (y 0).val < 1024 := (y 0).isLt
  have h1 : (y 1).val < 1536 := (y 1).isLt
  unfold kernelRun0_A.sl.HS2_2
  by_cases hb : (y 1).val < 768
  · refine ⟨_, List.mem_cons_of_mem _ List.mem_cons_self, ?_⟩
    refine (Rect.mem_set_unit (inb := inb_S1024x1536_S1024x768_0_0)).mpr fun a => ?_
    fin_cases a
    · exact ⟨Nat.zero_le _, by show (y 0).val < 0 + 1024; omega⟩
    · exact ⟨Nat.zero_le _, by show (y 1).val < 0 + 768; omega⟩
  · refine ⟨_, List.mem_cons_self, ?_⟩
    refine (Rect.mem_set_unit (inb := inb_S1024x1536_S1024x768_0_768)).mpr fun a => ?_
    fin_cases a
    · exact ⟨Nat.zero_le _, by show (y 0).val < 0 + 1024; omega⟩
    · exact ⟨by show 768 ≤ (y 1).val; omega, by show (y 1).val < 768 + 768; omega⟩

theorem copy_apply (X : S1024x768.Idx → EReal) (x : S1024x768.Idx) : (k0_pay4 (F := Ideal) X x : EReal) = X x := by
  rw [show x = ix2 (x 0) (x 1) from ix2_eta x]
  unfold k0_pay4
  pointwise

theorem both_eq (y : S1024x1536.Idx) : View.canon (Val := Elt Ideal) (kernelRun0_A.sl.HS2_2 (F := Ideal) c a5 h5 a6 h6 x4 x5) y = both x4 x5 y := by
  refine View.canon_apply_of_pieces (Val := Elt Ideal) (e := .bf16) (both x4 x5) _ ?_ y (both_cover c a5 h5 a6 h6 x4 x5 y)
  unfold kernelRun0_A.sl.HS2_2
  simp only [List.forall_mem_cons]
  refine ⟨fun x => ?_, fun x => ?_, fun _ h => absurd h List.not_mem_nil⟩
  · refine Eq.trans ?_ (both_right x4 x5 _ (x 0) (x 1) (show 0 + 1 * (x 0).val = (x 0).val by omega) (show 768 + 1 * (x 1).val = 768 + (x 1).val by omega)).symm
    refine (copy_apply _ x).trans ((Memref.IsWhole.readAt_unread (Val := Elt Ideal) h6 x5 _ _).trans (congrArg x5 (funext fun q => Fin.ext ?_)))
    fin_cases q
    · exact (show 0 + 1 * (x 0).val = (x 0).val by omega)
    · exact (show 0 + 1 * (x 1).val = (x 1).val by omega)
  · refine Eq.trans ?_ (both_left x4 x5 _ (x 0) (x 1) (show 0 + 1 * (x 0).val = (x 0).val by omega) (show 0 + 1 * (x 1).val = (x 1).val by omega)).symm
    refine (copy_apply _ x).trans ((Memref.IsWhole.readAt_unread (Val := Elt Ideal) h5 x4 _ _).trans (congrArg x4 (funext fun q => Fin.ext ?_)))
    fin_cases q
    · exact (show 0 + 1 * (x 0).val = (x 0).val by omega)
    · exact (show 0 + 1 * (x 1).val = (x 1).val by omega)
end

/-! ## The result's block -/

section
variable (m : (ℓ : Loc nD τ sig) → Buf (Elt Ideal) ℓ) (c : Dev nD) (t : Fin cfg0.N)

theorem corner : (![0, 0] : Fin 2 → ℕ) = fun _ => 0 := by
  funext q
  fin_cases q <;> rfl

theorem sums_apply (A : S1024x1024.Idx → EReal) (y : S1024x512.Idx → EReal) (w : S1x512x1024.Idx → EReal) (x : S1024x1024.Idx → EReal) (a d : Fin 1024) :
    (k0_pay1 (F := Ideal) A y w x (ix2 a d) : EReal) = x (ix2 a d) + (A (ix2 a d) + ∑ k : Fin 512, y (ix2 a k) * w (ix3 0 k d)) := by
  unfold k0_pay1
  pointwise

theorem first_apply (y : S1024x1536.Idx → EReal) (w : S1x1536x1024.Idx → EReal) (a d : Fin 1024) :
    (k0_pay6 (F := Ideal) y w (ix2 a d) : EReal) = ∑ k : Fin 1536, y (ix2 a k) * w (ix3 0 k d) := by
  unfold k0_pay6
  pointwise

theorem block_apply (z : Wide.Idx → EReal) (P : Mixers.Idx → EReal) (s : Scales.Idx → EReal) (b : Fin 2)
    (H : Holds (grid0.coords t) (iblk m c 1 t) (iblk m c 2 t) (iblk m c 3 t) (iblk m c 6 t) (iblk m c 7 t) z P s b)
    (hG : ∀ r q, 512 ≤ q.val → z (ix2 r q) ≠ ⊥) (x0 : S1024x1024.Idx → EReal) (e0 : iblk m c 0 t = x0) (x4 x5 : S1024x768.Idx → EReal)
    (e4 : iblk m c 4 t = x4) (e5 : iblk m c 5 t = x5) (w : S1x2048x1024.Idx → EReal) (e8 : iblk m c 8 t = w) (a d : Fin 1024) :
    (outsAt0 m c t (ix2 a d) : EReal) = x0 (ix2 a d) + ((∑ k : Fin 1536, both x4 x5 (ix2 a k) * w (ix3 0 ⟨512 + k.val, by omega⟩ d))
      + ∑ k : Fin 512, filled (grid0.coords t) z P s b (ix2 a k) * w (ix3 0 ⟨k.val, by omega⟩ d)) := by
  subst e0 e4 e5 e8
  unfold outsAt0 out0_A_9
  delta kernelRun0_A
  dsimp only
  delta kernelRun0_A.sl.v1449 kernelRun0_A.sl.r
  dsimp only
  rw [View.read_writes_junk_eq_canon, View.canon_unit_zero corner]
  refine (sums_apply _ _ _ _ a d).trans ?_
  rw [first_apply]
  refine congrArg₂ (fun u v : EReal => u + v) ?_ (congrArg₂ (fun u v : EReal => u + v) (Finset.sum_congr rfl fun k _ => congrArg₂ (fun u v : EReal => u * v) ?_ ?_)
    (Finset.sum_congr rfl fun k _ => congrArg₂ (fun u v : EReal => u * v) ?_ ?_))
  · refine (Memref.IsWhole.readAt_unread (Val := Elt Ideal) (hs0_0 t) (iblk m c 0 t) _ _).trans (congrArg (iblk m c 0 t) (funext fun q => Fin.ext ?_))
    fin_cases q
    · exact (show 0 + 1 * a.val = a.val by omega)
    · exact (show 0 + 1 * d.val = d.val by omega)
  · delta kernelRun0_A.sl.v26
    dsimp only
    rw [View.readCov_eq_canon_ld _ _ _ (both_cover c _ _ _ _ (iblk m c 4 t) (iblk m c 5 t)), View.ld_unit_zero corner]
    exact both_eq c _ _ _ _ (iblk m c 4 t) (iblk m c 5 t) (ix2 a k)
  · refine (Memref.IsWhole.readAt_unread (Val := Elt Ideal) (hs0_8 t) (iblk m c 8 t) _ _).trans (congrArg (iblk m c 8 t) (funext fun q => Fin.ext ?_))
    fin_cases q
    · rfl
    · exact (show 512 + 1 * k.val = 512 + k.val by omega)
    · exact (show 0 + 1 * d.val = d.val by omega)
  · rw [View.readCov_eq_canon_ld _ _ _ (filled_cover c _ _ _ _ _ _ _ _ _ _ _ (iblk m c 1 t) (iblk m c 2 t) (iblk m c 3 t) (iblk m c 6 t) (iblk m c 7 t)),
      View.ld_unit_zero corner]
    exact filled_eq c _ _ _ _ _ _ _ _ _ _ _ _ _ _ _ _ z P s b H hG (ix2 a k)
  · refine (Memref.IsWhole.readAt_unread (Val := Elt Ideal) (hs0_8 t) (iblk m c 8 t) _ _).trans (congrArg (iblk m c 8 t) (funext fun q => Fin.ext ?_))
    fin_cases q
    · rfl
    · exact (show 0 + 1 * k.val = k.val by omega)
    · exact (show 0 + 1 * d.val = d.val by omega)

end

end Cert.OutprojIdeal.Tile
-- ==== Proof.OutprojRef.lean ====
module

public import proofs.«01_k».proof.Proof.Gen.OutprojReferenceIdeal.Run
public import proofs.«01_k».proof.Proof.OutprojLaw
public import Idealize.ShloMosaic.Lib.Pointwise

/-! What the output projection's reference computes, at an index. -/

@[expose] public section

noncomputable section

namespace Cert.OutprojReferenceIdeal.At

open Cert.OutprojReferenceIdeal Cert.OutprojReferenceIdeal.Gen Cert.OutprojReferenceIdeal.Value Cert.OutprojLaw
open Idealize.ShloMosaic Idealize.ShloMosaic.TcCoe Idealize.ShloMosaic.Tactic

/-! ## The pooling -/

def batches (z : FVec Ideal S16384x1024 .bf16) : FVec Ideal S2x8192x1024 .f32 := shapeCast _ (extf .f32 z bitsLt_bf16_f32) shapeCasts_S16384x1024_S2x8192x1024

def units (z : FVec Ideal S16384x1024 .bf16) : FVec Ideal S2x8192x512 .f32 :=
  extractStridedSlice S2x8192x512 ![0, 0, 0] (batches z) slices_S2x8192x1024_S2x8192x512_0_0_0

def gates (z : FVec Ideal S16384x1024 .bf16) : FVec Ideal S2x8192x512 .f32 :=
  extractStridedSlice S2x8192x512 ![0, 0, 512] (batches z) slices_S2x8192x1024_S2x8192x512_0_0_512

def surrounded (U : FVec Ideal S2x8192x512 .f32) : FVec Ideal S2x8208x512 .f32 :=
  pad S2x8208x512 ![0, 8, 0] ![0, 8, 0] ![0, 0, 0] U (sitofp .f32 (constantI S_ 32 0#32)) pads_S2x8192x512_S2x8208x512_000_880_000 h_S_

def mixers (P : FVec Ideal S4x4x128x128 .bf16) : FVec Ideal S4x128x128 .f32 :=
  extf .f32 (shapeCast _ (extractStridedSlice S1x4x128x128 ![0, 0, 0, 0] P slices_S4x4x128x128_S1x4x128x128_0_0_0_0) shapeCasts_S1x4x128x128_S4x128x128) bitsLt_bf16_f32

theorem shifts (o : Fin 17) (g : Fin 4) : S2x8208x512.Slices ![0, o.val, 128 * g.val] S2x8192x128 := by revert o g; decide
theorem groups (g : Fin 4) : S2x8192x512.Slices ![0, 0, 128 * g.val] S2x8192x128 := by revert g; decide
theorem mats (g : Fin 4) : S4x128x128.Slices ![g.val, 0, 0] S1x128x128 := by revert g; decide

/-- The rows added up, each shifted by one of the offsets. -/
def totals (Z : FVec Ideal S2x8208x512 .f32) (g : Fin 4) (l : List (Fin 17)) : FVec Ideal S2x8192x128 .f32 :=
  l.foldl (fun t o => addf t (extractStridedSlice S2x8192x128 ![0, o.val, 128 * g.val] Z (shifts o g)))
    (broadcastInDim S2x8192x128 ![] bcast_S_S2x8192x128 (constant S_ .f32 0x00000000#32))

/-- The offsets of group `g`'s window. -/
def offsets : Fin 4 → List (Fin 17)
  | 0 => [7, 8]
  | 1 => [6, 7, 8, 9]
  | 2 => [4, 5, 6, 7, 8, 9, 10, 11]
  | 3 => [0, 1, 2, 3, 4, 5, 6, 7, 8, 9, 10, 11, 12, 13, 14, 15]

/-- Positions clipped to the batch member. -/
def clipped (T : IVec S8192 32) : IVec S8192 32 :=
  minsi (broadcastInDim S8192 ![] bcast_S_S8192 (id (constantI S_ 32 8192#32))) (maxsi (broadcastInDim S8192 ![] bcast_S_S8192 (id (constantI S_ 32 0#32))) T)

def counts (h : BitVec 32) : FVec Ideal S8192 .f32 :=
  sitofp .f32 (subi (clipped (addi (iotaInDim S8192 32 0) (broadcastInDim S8192 ![] bcast_S_S8192 (constantI S_ 32 h))))
    (clipped (subi (iotaInDim S8192 32 0) (broadcastInDim S8192 ![] bcast_S_S8192 (constantI S_ 32 h)))))

def less (U : FVec Ideal S2x8192x512 .f32) (g : Fin 4) : FVec Ideal S2x8192x128 .f32 :=
  subf (Host.divf (totals (surrounded U) g (offsets g)) (broadcastInDim S2x8192x128 ![0, 1, 2] bcast_S1x8192x1_S2x8192x128_0_1_2
      (broadcastInDim S1x8192x1 ![1] bcast_S8192_S1x8192x1_1 (counts (BitVec.ofNat 32 (2 ^ g.val))))))
    (extractStridedSlice S2x8192x128 ![0, 0, 128 * g.val] U (groups g))

def mixed (U : FVec Ideal S2x8192x512 .f32) (M : FVec Ideal S4x128x128 .f32) (g : Fin 4) : FVec Ideal S2x8192x128 .f32 :=
  Host.dotGeneral dot_S2x8192x128_S128x128_S2x8192x128_2_0_01_1_n_n none (less U g)
    (shapeCast S128x128 (extractStridedSlice S1x128x128 ![g.val, 0, 0] M (mats g)) shapeCasts_S1x128x128_S128x128)

def joined (f : Fin 4 → FVec Ideal S2x8192x128 .f32) : FVec Ideal S2x8192x512 .f32 :=
  concatenate S2x8192x512 2 [⟨S2x8192x128, f 0⟩, ⟨S2x8192x128, f 1⟩, ⟨S2x8192x128, f 2⟩, ⟨S2x8192x128, f 3⟩]
    concatenates_S2x8192x128_S2x8192x128_S2x8192x128_S2x8192x128_S2x8192x512_d2

theorem joined_eq (V0 : Valuation τ sig (Elt Ideal)) :
    res_main_v137 V0 = joined (mixed (units (V0 (Proc.devRef .tc main_arg1))) (mixers (V0 (Proc.devRef .tc main_arg4)))) := rfl

theorem batches_apply (z : S16384x1024.Idx → EReal) (b : Fin 2) (p : Fin 8192) (k : Fin 1024) :
    (batches z (ix3 b p k) : EReal) = z (ix2 (row b p) k) := by
  unfold batches
  pointwise
  exact congrArg (fun y => z (ix2 y k)) (Fin.ext (show b.val * 8192 + p.val = 8192 * b.val + p.val by omega))

theorem units_apply (z : S16384x1024.Idx → EReal) (b : Fin 2) (p : Fin 8192) (k : Fin 512) :
    (units z (ix3 b p k) : EReal) = z (ix2 (row b p) ⟨k.val, by omega⟩) := by
  refine Eq.trans ?_ (batches_apply z b p _)
  unfold units
  pointwise

theorem gates_apply (z : S16384x1024.Idx → EReal) (b : Fin 2) (p : Fin 8192) (k : Fin 512) :
    (gates z (ix3 b p k) : EReal) = z (ix2 (row b p) ⟨512 + k.val, by omega⟩) := by
  refine Eq.trans ?_ (batches_apply z b p _)
  unfold gates
  pointwise

theorem surrounded_apply (z : S16384x1024.Idx → EReal) (b : Fin 2) (n : Fin 8208) (k : Fin 512) :
    (surrounded (units z) (ix3 b n k) : EReal) = padded z b k n.val := by
  unfold surrounded padded
  pointwise
  by_cases h : 8 ≤ n.val ∧ n.val < 8200
  · rw [dif_pos h, dif_pos (⟨h.1, by omega⟩ : 8 ≤ n.val ∧ n.val - 8 < 8192)]
    exact units_apply z b ⟨n.val - 8, by omega⟩ k
  · rw [dif_neg h, dif_neg (fun hc : 8 ≤ n.val ∧ n.val - 8 < 8192 => h ⟨hc.1, by omega⟩)]
    show (((0#32).toInt : ℝ) : EReal) = 0
    simp

theorem totals_apply (Z : S2x8208x512.Idx → EReal) (g : Fin 4) (l : List (Fin 17)) (b : Fin 2) (p : Fin 8192) (d : Fin 128) :
    (totals Z g l (ix3 b p d) : EReal) = (l.map fun o => Z (ix3 b ⟨o.val + p.val, by omega⟩ ⟨128 * g.val + d.val, by omega⟩)).sum := by
  have e : ∀ (l : List (Fin 17)) (t : FVec Ideal S2x8192x128 .f32),
      (l.foldl (fun t o => addf t (extractStridedSlice S2x8192x128 ![0, o.val, 128 * g.val] Z (shifts o g))) t (ix3 b p d) : EReal)
        = t (ix3 b p d) + (l.map fun o => Z (ix3 b ⟨o.val + p.val, by omega⟩ ⟨128 * g.val + d.val, by omega⟩)).sum := by
    intro l
    induction l with
    | nil => exact fun t => (add_zero _).symm
    | cons o l ih =>
      intro t
      rw [List.foldl_cons, ih, List.map_cons, List.sum_cons, ← add_assoc]
      congr 1
      pointwise
  refine (e l _).trans ((congrArg (fun y : EReal => y + _) ?_).trans (zero_add _))
  pointwise

theorem counts_apply (h : ℕ) (hh : h ≤ 8) (p : Fin 8192) : (counts (BitVec.ofNat 32 h) (ix1 p) : EReal) = (((count h p.val : ℤ) : ℝ) : EReal) := by
  rw [← count_clip h p.val p.isLt hh]
  rfl

theorem half_le : ∀ g : Fin 4, 0 < 2 ^ g.val ∧ 2 ^ g.val ≤ 8 := by decide

theorem window_sum (V : ℕ → EReal) (g : Fin 4) (p : ℕ) : ((offsets g).map fun o => V (o.val + p)).sum = windowSum V (2 ^ g.val) p := by
  unfold windowSum
  simp only [fun o : Fin 17 => Nat.add_comm o.val p]
  fin_cases g <;> simp [offsets, Finset.sum_range_succ, Nat.add_sub_assoc, add_assoc]

theorem less_apply (z : S16384x1024.Idx → EReal) (g : Fin 4) (b : Fin 2) (p : Fin 8192) (d : Fin 128) :
    (less (units z) g (ix3 b p d) : EReal) = centred (padded z b ⟨128 * g.val + d.val, by omega⟩) (2 ^ g.val) p.val := by
  have e : (less (units z) g (ix3 b p d) : EReal) = Ideal.div (totals (surrounded (units z)) g (offsets g) (ix3 b p d)) (counts (BitVec.ofNat 32 (2 ^ g.val)) (ix1 p))
      - units z (ix3 b p ⟨128 * g.val + d.val, by omega⟩) := by
    unfold less
    pointwise
  rw [e, totals_apply, counts_apply _ (half_le g).2]
  simp only [surrounded_apply]
  rw [window_sum, units_apply]
  unfold centred padded
  rw [dif_pos (by omega)]
  rfl

theorem mixed_apply (U : S2x8192x512.Idx → EReal) (M : S4x128x128.Idx → EReal) (g : Fin 4) (b : Fin 2) (p : Fin 8192) (d : Fin 128) :
    (mixed U M g (ix3 b p d) : EReal) = ∑ k : Fin 128, less U g (ix3 b p k) * M (ix3 g k d) := by
  unfold mixed
  pointwise

theorem mixers_apply (P : S4x4x128x128.Idx → EReal) (g : Fin 4) (k d : Fin 128) : (mixers P (ix3 g k d) : EReal) = P (ix4 0 g k d) := by
  unfold mixers
  pointwise

theorem joined_apply (f : Fin 4 → S2x8192x128.Idx → EReal) (b : Fin 2) (p : Fin 8192) (g : Fin 4) (d : Fin 128) :
    (joined f (ix3 b p ⟨128 * g.val + d.val, by omega⟩) : EReal) = f g (ix3 b p d) := by
  unfold joined
  pointwise
  have hd := d.isLt
  have e : ∀ (g : Fin 4) (x y : Fin 128), x = y → (f g (ix3 b p x) : EReal) = f g (ix3 b p y) := fun g x y h => congrArg (fun y => f g (ix3 b p y)) h
  fin_cases g
  · rw [dif_pos (show 128 * 0 + d.val < 128 by omega)]
    exact e 0 _ _ (Fin.ext (show 128 * 0 + d.val = d.val by omega))
  · rw [dif_neg (show ¬ 128 * 1 + d.val < 128 by omega), dif_pos (show 128 * 1 + d.val - 128 < 128 by omega)]
    exact e 1 _ _ (Fin.ext (show 128 * 1 + d.val - 128 = d.val by omega))
  · rw [dif_neg (show ¬ 128 * 2 + d.val < 128 by omega), dif_neg (show ¬ 128 * 2 + d.val - 128 < 128 by omega), dif_pos (show 128 * 2 + d.val - 128 - 128 < 128 by omega)]
    exact e 2 _ _ (Fin.ext (show 128 * 2 + d.val - 128 - 128 = d.val by omega))
  · rw [dif_neg (show ¬ 128 * 3 + d.val < 128 by omega), dif_neg (show ¬ 128 * 3 + d.val - 128 < 128 by omega), dif_neg (show ¬ 128 * 3 + d.val - 128 - 128 < 128 by omega)]
    exact e 3 _ _ (Fin.ext (show 128 * 3 + d.val - 128 - 128 - 128 = d.val by omega))

/-! ## The whole -/

/-- The pooling, scaled and gated. -/
def pooledOut (z : FVec Ideal S16384x1024 .bf16) (P : FVec Ideal S4x4x128x128 .bf16) (s : FVec Ideal S1x512 .f32) : FVec Ideal S16384x512 .f32 :=
  shapeCast _ (mulf (mulf (joined (mixed (units z) (mixers P))) (broadcastInDim S2x8192x512 ![0, 1, 2] bcast_S1x1x512_S2x8192x512_0_1_2
      (broadcastInDim S1x1x512 ![1, 2] bcast_S1x512_S1x1x512_1_2 s)))
    (mulf (gates z) (Host.divf (broadcastInDim S2x8192x512 ![] bcast_S_S2x8192x512 (constant S_ .f32 0x3F800000#32))
      (addf (broadcastInDim S2x8192x512 ![] bcast_S_S2x8192x512 (constant S_ .f32 0x3F800000#32)) (Host.exp (Host.negf (gates z)))))))
    shapeCasts_S2x8192x512_S16384x512

def all (y : FVec Ideal S16384x512 .f32) (l t : FVec Ideal S16384x768 .bf16) : FVec Ideal S16384x2048 .f32 :=
  concatenate S16384x2048 1 [⟨S16384x512, y⟩, ⟨S16384x768, extf .f32 l bitsLt_bf16_f32⟩, ⟨S16384x768, extf .f32 t bitsLt_bf16_f32⟩]
    concatenates_S16384x512_S16384x768_S16384x768_S16384x2048_d1

/-- The reference's result. -/
def whole (x : FVec Ideal S16384x1024 .f32) (z : FVec Ideal S16384x1024 .bf16) (l t : FVec Ideal S16384x768 .bf16) (P : FVec Ideal S4x4x128x128 .bf16)
    (s : FVec Ideal S1x512 .f32) (W : FVec Ideal S4x2048x1024 .bf16) : FVec Ideal S16384x1024 .f32 :=
  addf x (Host.dotGeneral dot_S16384x2048_S2048x1024_S16384x1024_1_0_0_1_n_n none (all (pooledOut z P s) l t)
    (extf .f32 (shapeCast _ (extractStridedSlice S1x2048x1024 ![0, 0, 0] W slices_S4x2048x1024_S1x2048x1024_0_0_0) shapeCasts_S1x2048x1024_S2048x1024) bitsLt_bf16_f32))

theorem pooledOut_apply (z : S16384x1024.Idx → EReal) (P : S4x4x128x128.Idx → EReal) (s : S1x512.Idx → EReal) (b : Fin 2) (p : Fin 8192) (g : Fin 4) (d : Fin 128) :
    (pooledOut z P s (ix2 (row b p) ⟨128 * g.val + d.val, by omega⟩) : EReal) = pooling z P s b p g d := by
  have e : ∀ q : Fin 512, (pooledOut z P s (ix2 (row b p) q) : EReal) = joined (mixed (units z) (mixers P)) (ix3 b p q) * s (ix2 0 q)
      * (gates z (ix3 b p q) * Ideal.div 1 (1 + Ideal.exp (-gates z (ix3 b p q)))) := fun q => by
    have eb : (⟨(row b p).val / 8192, by have := (row b p).isLt; omega⟩ : Fin 2) = b := Fin.ext (show (8192 * b.val + p.val) / 8192 = b.val by omega)
    have ep : (⟨(row b p).val % 8192, Nat.mod_lt _ (by decide)⟩ : Fin 8192) = p := Fin.ext (show (8192 * b.val + p.val) % 8192 = p.val by omega)
    unfold pooledOut
    pointwise
    rw [eb, ep]
  rw [e, joined_apply, mixed_apply, gates_apply]
  unfold pooling
  simp only [less_apply, mixers_apply]

theorem all_apply (y : S16384x512.Idx → EReal) (l t : S16384x768.Idx → EReal) (r : Fin 16384) (k : Fin 2048) :
    (all y l t (ix2 r k) : EReal) = if h : k.val < 512 then y (ix2 r ⟨k.val, h⟩) else if h' : k.val < 1280 then l (ix2 r ⟨k.val - 512, by omega⟩)
      else t (ix2 r ⟨k.val - 1280, by omega⟩) := by
  unfold all
  pointwise
  by_cases h : k.val < 512
  · rw [dif_pos h, dif_pos h]
  rw [dif_neg h, dif_neg h]
  by_cases h' : k.val < 1280
  · rw [dif_pos h', dif_pos (show k.val - 512 < 768 by omega)]
  rw [dif_neg h', dif_neg (show ¬ k.val - 512 < 768 by omega)]
  exact congrArg (fun q => t (ix2 r q)) (Fin.ext (show k.val - 512 - 768 = k.val - 1280 by omega))

theorem whole_apply (x : S16384x1024.Idx → EReal) (z : S16384x1024.Idx → EReal) (l t : S16384x768.Idx → EReal) (P : S4x4x128x128.Idx → EReal)
    (s : S1x512.Idx → EReal) (W : S4x2048x1024.Idx → EReal) (b : Fin 2) (p : Fin 8192) (d : Fin 1024) :
    (whole x z l t P s W (ix2 (row b p) d) : EReal) = result x z l t P s W b p d := by
  have e : (whole x z l t P s W (ix2 (row b p) d) : EReal) = x (ix2 (row b p) d) + ∑ k : Fin 2048, all (pooledOut z P s) l t (ix2 (row b p) k) * W (ix3 0 k d) := by
    unfold whole
    pointwise
  rw [e]
  unfold result
  congr 1
  refine Finset.sum_congr rfl fun k _ => congrArg (fun y : EReal => y * _) ?_
  rw [all_apply]
  unfold beside
  by_cases h : k.val < 512
  · rw [dif_pos h, dif_pos h, ← pooledOut_apply]
    exact congrArg (fun y => pooledOut z P s (ix2 (row b p) y)) (Fin.ext (show k.val = 128 * (k.val / 128) + k.val % 128 by omega))
  · rw [dif_neg h, dif_neg h]

end Cert.OutprojReferenceIdeal.At
-- ==== Proof.OutprojValue.lean ====
module

public import proofs.«01_k».proof.Proof.Gen.OutprojIdeal.Value
public import proofs.«01_k».proof.Proof.OutprojTile
public import proofs.«01_k».proof.Proof.OutprojRef
public import proofs.«01_k».proof.Proof.Gen.Pre_tame_gates
public import proofs.«01_k».proof.Proof.Tame
public import Idealize.ShloMosaic.Lib.Pipeline.ValueKit
public import Idealize.ShloMosaic.Lib.ReduceAll

/-! The result array of the output projection's kernel, and that it is the reference's. -/

@[expose] public section

noncomputable section

namespace Cert.Pre_tame_gates

open Idealize.ShloMosaic Facts

instance : Subsingleton S_.Idx := ⟨fun a b => funext fun k => k.elim0⟩

variable [Facts]

/-- The precondition, read at every gate. -/
theorem fn_one (x z : S16384x1024.Idx → EReal) (l t : S16384x768.Idx → EReal) (P : S4x4x128x128.Idx → EReal) (s : S1x512.Idx → EReal)
    (W : S4x2048x1024.Idx → EReal) (h : fn (F := Ideal) x z l t P s W (fun k => k.elim0) = 1#1) (r : Fin 16384) (q : Fin 1024) (hq : 512 ≤ q.val) :
    z (ix2 r q) ≠ ⊥ := by
  dsimp only [fn] at h
  have e := Cert.Pre_tame.lt_of_bit (p := Ideal.ofBits .f32 0xFF800000#32 < _) (Host.reduce_andi_all _ _ _ _ _ h (ix2 r ⟨q.val - 512, by omega⟩))
  rw [Cert.Pre_tame.negInf] at e
  have ei : z (ix2 r q) = extractStridedSlice S16384x512 ![0, 512] z slices_S16384x1024_S16384x512_0_512 (ix2 r ⟨q.val - 512, by omega⟩) := by
    refine congrArg z (funext fun i => Fin.ext ?_)
    fin_cases i
    · exact (show r.val = 0 + r.val by omega)
    · exact (show q.val = 512 + (q.val - 512) by omega)
  rw [ei]
  exact e.ne'

end Cert.Pre_tame_gates

namespace Cert.OutprojIdeal.Arrays

open Cert.OutprojIdeal Cert.OutprojIdeal.Gen Cert.OutprojIdeal.Tile Cert.OutprojLaw
open Idealize.ShloMosaic Idealize.ShloMosaic.TcCoe Idealize.ShloMosaic.Tactic Idealize.ShloMosaic.Pipeline
open Cert.OutprojReferenceIdeal.At (whole whole_apply)

variable (m : (ℓ : Loc nD τ sig) → Buf (Elt Ideal) ℓ) (c : Dev nD)

/-! ## The arguments, and the reference's result of them -/

def ax : S16384x1024.Idx → EReal := m ((c.tc : Thread nD τ).loc main_arg0)
def az : S16384x1024.Idx → EReal := m ((c.tc : Thread nD τ).loc main_arg1)
def al : S16384x768.Idx → EReal := m ((c.tc : Thread nD τ).loc main_arg2)
def ay : S16384x768.Idx → EReal := m ((c.tc : Thread nD τ).loc main_arg3)
def ap : S4x4x128x128.Idx → EReal := m ((c.tc : Thread nD τ).loc main_arg4)
def asc : S1x512.Idx → EReal := m ((c.tc : Thread nD τ).loc main_arg5)
def aw : S4x2048x1024.Idx → EReal := m ((c.tc : Thread nD τ).loc main_arg6)

def goal : S16384x1024.Idx → EReal := whole (ax m c) (az m c) (al m c) (ay m c) (ap m c) (asc m c) (aw m c)

/-! ## Where a block's elements lie -/

/-- Grid point `t`'s tile of rows. -/
def tile (t : Fin cfg0.N) : Fin 16 := grid0.coords t 0

/-- The batch member it belongs to. -/
def member (t : Fin cfg0.N) : Fin 2 := ⟨(tile t).val / 8, by have := (tile t).isLt; omega⟩

/-- Row `a` of the tile at grid point `t`. -/
abbrev line (t : Fin cfg0.N) (a : Fin 1024) : Fin 16384 := row (member t) (at_ (grid0.coords t) a)

theorem start_val (t : Fin cfg0.N) : start (grid0.coords t) = (tile t).val % 8 * 1024 := rfl

theorem line_val (t : Fin cfg0.N) (a : Fin 1024) : (BitVec.ofNat 32 (tile t).val).toNat * 1024 + a.val = (line t a).val := by
  have := (tile t).isLt
  rw [BitVec.toNat_ofNat, Nat.mod_eq_of_lt (by omega)]
  show (tile t).val * 1024 + a.val = 8192 * ((tile t).val / 8) + ((tile t).val % 8 * 1024 + a.val)
  omega

theorem table_before : ∀ i : grid0.Coords, cc0_transform_2 i 0 = 64 * (i 0).val - 1 := by decide +kernel
theorem table_after : ∀ i : grid0.Coords, cc0_transform_3 i 0 = min (64 * ((i 0).val + 1)) 1023 := by decide +kernel

theorem before_val (t : Fin cfg0.N) (a : Fin 16) (p : Fin 8192) (h : p.val + 16 = start (grid0.coords t) + a.val) :
    cc0_transform_2 (grid0.coords t) 0 * 16 + a.val = (row (member t) p).val := by
  rw [table_before]
  rw [start_val] at h
  show (64 * (tile t).val - 1) * 16 + a.val = 8192 * ((tile t).val / 8) + p.val
  omega

theorem after_val (t : Fin cfg0.N) (a : Fin 16) (p : Fin 8192) (h : p.val = start (grid0.coords t) + 1024 + a.val) :
    cc0_transform_3 (grid0.coords t) 0 * 16 + a.val = (row (member t) p).val := by
  rw [table_after]
  rw [start_val] at h
  have := p.isLt
  have := (tile t).isLt
  show min (64 * ((tile t).val + 1)) 1023 * 16 + a.val = 8192 * ((tile t).val / 8) + p.val
  omega

theorem emb0 (t : Fin cfg0.N) (a : Fin 1024) (k : Fin 1024) : (win0_0.blk t).view.emb (ix2 a k) = ix2 (line t a) k := by
  funext i
  refine Fin.ext ((win0_0.rect_emb_val t (ix2 a k) i).trans ?_)
  fin_cases i
  · exact line_val t a
  · exact (show 0 * 1024 + k.val = k.val by omega)
theorem emb1 (t : Fin cfg0.N) (a : Fin 1024) (k : Fin 1024) : (win0_1.blk t).view.emb (ix2 a k) = ix2 (line t a) k := by
  funext i
  refine Fin.ext ((win0_1.rect_emb_val t (ix2 a k) i).trans ?_)
  fin_cases i
  · exact line_val t a
  · exact (show 0 * 1024 + k.val = k.val by omega)
theorem emb2 (t : Fin cfg0.N) (a : Fin 16) (k : Fin 512) (p : Fin 8192) (h : p.val + 16 = start (grid0.coords t) + a.val) :
    (win0_2.blk t).view.emb (ix2 a k) = ix2 (row (member t) p) ⟨k.val, by omega⟩ := by
  funext i
  refine Fin.ext ((win0_2.rect_emb_val t (ix2 a k) i).trans ?_)
  fin_cases i
  · exact before_val t a p h
  · exact (show 0 * 512 + k.val = k.val by omega)
theorem emb3 (t : Fin cfg0.N) (a : Fin 16) (k : Fin 512) (p : Fin 8192) (h : p.val = start (grid0.coords t) + 1024 + a.val) :
    (win0_3.blk t).view.emb (ix2 a k) = ix2 (row (member t) p) ⟨k.val, by omega⟩ := by
  funext i
  refine Fin.ext ((win0_3.rect_emb_val t (ix2 a k) i).trans ?_)
  fin_cases i
  · exact after_val t a p h
  · exact (show 0 * 512 + k.val = k.val by omega)
theorem emb4 (t : Fin cfg0.N) (a : Fin 1024) (k : Fin 768) : (win0_4.blk t).view.emb (ix2 a k) = ix2 (line t a) k := by
  funext i
  refine Fin.ext ((win0_4.rect_emb_val t (ix2 a k) i).trans ?_)
  fin_cases i
  · exact line_val t a
  · exact (show 0 * 768 + k.val = k.val by omega)
theorem emb5 (t : Fin cfg0.N) (a : Fin 1024) (k : Fin 768) : (win0_5.blk t).view.emb (ix2 a k) = ix2 (line t a) k := by
  funext i
  refine Fin.ext ((win0_5.rect_emb_val t (ix2 a k) i).trans ?_)
  fin_cases i
  · exact line_val t a
  · exact (show 0 * 768 + k.val = k.val by omega)
theorem emb6 (t : Fin cfg0.N) (g : Fin 4) (k d : Fin 128) : (win0_6.blk t).view.emb (ix4 0 g k d) = ix4 0 g k d := by
  funext i
  refine Fin.ext ((win0_6.rect_emb_val t (ix4 0 g k d) i).trans ?_)
  fin_cases i
  · rfl
  · exact (show 0 * 4 + g.val = g.val by omega)
  · exact (show 0 * 128 + k.val = k.val by omega)
  · exact (show 0 * 128 + d.val = d.val by omega)
theorem emb7 (t : Fin cfg0.N) (q : Fin 512) : (win0_7.blk t).view.emb (ix2 0 q) = ix2 0 q := by
  funext i
  refine Fin.ext ((win0_7.rect_emb_val t (ix2 0 q) i).trans ?_)
  fin_cases i
  · rfl
  · exact (show 0 * 512 + q.val = q.val by omega)
theorem emb8 (t : Fin cfg0.N) (k : Fin 2048) (d : Fin 1024) : (win0_8.blk t).view.emb (ix3 0 k d) = ix3 0 k d := by
  funext i
  refine Fin.ext ((win0_8.rect_emb_val t (ix3 0 k d) i).trans ?_)
  fin_cases i
  · rfl
  · exact (show 0 * 2048 + k.val = k.val by omega)
  · exact (show 0 * 1024 + d.val = d.val by omega)
theorem emb9 (t : Fin cfg0.N) (a : Fin 1024) (d : Fin 1024) : (win0_9.blk t).view.emb (ix2 a d) = ix2 (line t a) d := by
  funext i
  refine Fin.ext ((win0_9.rect_emb_val t (ix2 a d) i).trans ?_)
  fin_cases i
  · exact line_val t a
  · exact (show 0 * 1024 + d.val = d.val by omega)

/-! ## The blocks, as arrays of extended reals -/

def bx (t : Fin cfg0.N) : S1024x1024.Idx → EReal := iblk m c 0 t
def bl (t : Fin cfg0.N) : S1024x768.Idx → EReal := iblk m c 4 t
def bt (t : Fin cfg0.N) : S1024x768.Idx → EReal := iblk m c 5 t
def bw (t : Fin cfg0.N) : S1x2048x1024.Idx → EReal := iblk m c 8 t

theorem bx_apply (t : Fin cfg0.N) (a : Fin 1024) (k : Fin 1024) : bx m c t (ix2 a k) = ax m c (ix2 (line t a) k) := congrArg (ax m c) (emb0 t a k)
theorem bl_apply (t : Fin cfg0.N) (a : Fin 1024) (k : Fin 768) : bl m c t (ix2 a k) = al m c (ix2 (line t a) k) := congrArg (al m c) (emb4 t a k)
theorem bt_apply (t : Fin cfg0.N) (a : Fin 1024) (k : Fin 768) : bt m c t (ix2 a k) = ay m c (ix2 (line t a) k) := congrArg (ay m c) (emb5 t a k)
theorem bw_apply (t : Fin cfg0.N) (k : Fin 2048) (d : Fin 1024) : bw m c t (ix3 0 k d) = aw m c (ix3 0 k d) := congrArg (aw m c) (emb8 t k d)

theorem holds (t : Fin cfg0.N) : Holds (grid0.coords t) (iblk m c 1 t) (iblk m c 2 t) (iblk m c 3 t) (iblk m c 6 t) (iblk m c 7 t)
    (az m c) (ap m c) (asc m c) (member t) where
  tile a k := congrArg (az m c) (emb1 t a k)
  before a k p h := congrArg (az m c) (emb2 t a k p h)
  after a k p h := congrArg (az m c) (emb3 t a k p h)
  mixers g k d := congrArg (ap m c) (emb6 t g k d)
  scales q := congrArg (asc m c) (emb7 t q)

/-! ## The two scratches side by side are the reference's row -/

theorem beside_pool (z : Wide.Idx → EReal) (l u : Lanes.Idx → EReal) (P : Mixers.Idx → EReal) (s : Scales.Idx → EReal) (b : Fin 2) (i : grid0.Coords)
    (a : Fin 1024) (k : Fin 512) : filled i z P s b (ix2 a k) = beside z l u P s b (at_ i a) ⟨k.val, by omega⟩ := by
  unfold filled beside
  rw [dif_pos (show k.val < 512 from k.isLt)]
  rfl

theorem beside_rest (t : Fin cfg0.N) (a : Fin 1024) (k : Fin 1536) :
    both (bl m c t) (bt m c t) (ix2 a k)
      = beside (az m c) (al m c) (ay m c) (ap m c) (asc m c) (member t) (at_ (grid0.coords t) a) ⟨512 + k.val, by omega⟩ := by
  unfold beside
  rw [dif_neg (show ¬ 512 + k.val < 512 by omega)]
  by_cases h : k.val < 768
  · rw [dif_pos (show 512 + k.val < 1280 by omega)]
    refine (both_left _ _ (ix2 a k) a ⟨k.val, h⟩ rfl rfl).trans ((bl_apply m c t a ⟨k.val, h⟩).trans ?_)
    exact congrArg (fun q => al m c (ix2 (line t a) q)) (Fin.ext (show k.val = 512 + k.val - 512 by omega))
  · rw [dif_neg (show ¬ 512 + k.val < 1280 by omega)]
    refine (both_right _ _ (ix2 a k) a ⟨k.val - 768, by omega⟩ rfl (show k.val = 768 + (k.val - 768) by omega)).trans ((bt_apply m c t a ⟨k.val - 768, by omega⟩).trans ?_)
    exact congrArg (fun q => ay m c (ix2 (line t a) q)) (Fin.ext (show k.val - 768 = 512 + k.val - 1280 by omega))

theorem result_eq (t : Fin cfg0.N) (a d : Fin 1024) :
    bx m c t (ix2 a d) + ((∑ k : Fin 1536, both (bl m c t) (bt m c t) (ix2 a k) * bw m c t (ix3 0 ⟨512 + k.val, by omega⟩ d))
        + ∑ k : Fin 512, filled (grid0.coords t) (az m c) (ap m c) (asc m c) (member t) (ix2 a k) * bw m c t (ix3 0 ⟨k.val, by omega⟩ d))
      = goal m c (ix2 (line t a) d) := by
  refine Eq.trans ?_ (whole_apply (ax m c) (az m c) (al m c) (ay m c) (ap m c) (asc m c) (aw m c) (member t) (at_ (grid0.coords t) a) d).symm
  unfold result
  rw [sum_split, bx_apply]
  simp only [beside_rest, beside_pool (az m c) (al m c) (ay m c), bw_apply]

/-! ## The result array -/

theorem arr_eq (hG : ∀ r q, 512 ≤ q.val → az m c (ix2 r q) ≠ ⊥) : (dats m 0 c).arrAt 9 cfg0.N = goal m c := by
  refine (dats m 0 c).arrAt_eq_of_covers 9 (goal m c) (by decide +kernel) fun t hf y => ?_
  blk_simp
  rw [after0_9, Tile.ix2_eta y]
  exact (block_apply m c t (az m c) (ap m c) (asc m c) (member t) (holds m c t) hG (bx m c t) rfl (bl m c t) (bt m c t) rfl rfl (bw m c t) rfl _ _).trans
    ((result_eq m c t _ _).trans (congrArg (goal m c) (emb9 t _ _).symm))

end Cert.OutprojIdeal.Arrays

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tame
public import proofs.«01_k».proof.Proof.KernelRun
public import proofs.«01_k».proof.Proof.Run
public import proofs.«01_k».proof.Proof.Value
public import proofs.«01_k».proof.Proof.Tame
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojReferenceIdeal
public import proofs.«01_k».proof.Proof.Gen.InprojReferenceIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojReferenceIdeal
public import proofs.«01_k».proof.Proof.Gen.OutprojReferenceIdeal.Run
public import proofs.«01_k».proof.Proof.Gen.Pre_tame_gates
public import proofs.«01_k».proof.Proof.InprojValue
public import proofs.«01_k».proof.Proof.OutprojValue
public import Idealize.ShloMosaic.Adequacy
public import Idealize.ShloMosaic.Init

@[expose] public section

noncomputable section

namespace Cert.Proof

open Idealize.ShloMosaic Idealize.SL.Sem

/-- The reference, which runs no kernel, leaves every semaphore counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, sem_eq_zero_of_no_sems rfl r.2⟩) (Cert.ReferenceIdeal.Value.run m g)

/-- The kernel's result and the reference's are one function of the arguments. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hpre hm
  have hall (c : Dev Cert.KernelIdeal.nD) := Cert.Pre_tame.fn_one _ _ _ _ (congrFun (hpre c) _)
  refine ⟨fun c => Cert.KernelIdeal.Value.goal m c, ?_, ?_⟩
  · refine (θ_run Cert.KernelIdeal.defs _ _).mono (fun r h c => ⟨?_, ?_, ?_, ?_, ?_⟩) (Cert.KernelIdeal.Run.run_main m g)
    · exact ((h.1 c).1 4).trans (Cert.KernelIdeal.Value.arr_eq m c (hall c).1 (hall c).2.1 (hall c).2.2)
    · exact ((h.1 c).1 0).trans (((Cert.KernelIdeal.Run.dats m 0 c).arrAt_in 0 rfl _).trans (Cert.KernelIdeal.Run.A_eq m c 0))
    · exact ((h.1 c).1 1).trans (((Cert.KernelIdeal.Run.dats m 0 c).arrAt_in 1 rfl _).trans (Cert.KernelIdeal.Run.A_eq m c 1))
    · exact ((h.1 c).1 2).trans (((Cert.KernelIdeal.Run.dats m 0 c).arrAt_in 2 rfl _).trans (Cert.KernelIdeal.Run.A_eq m c 2))
    · exact ((h.1 c).1 3).trans (((Cert.KernelIdeal.Run.dats m 0 c).arrAt_in 3 rfl _).trans (Cert.KernelIdeal.Run.A_eq m c 3))
  · refine (θ_run Cert.ReferenceIdeal.defs _ _).mono (fun r h c => ⟨(h c).1.trans ?_, (h c).2⟩) (Cert.ReferenceIdeal.Value.run m' g')
    refine (Cert.ReferenceIdeal.At.res_eq m' c).trans ?_
    obtain ⟨h0, h1, h2, h3⟩ := hm c
    unfold Cert.KernelIdeal.Value.goal
    rw [h0, h1, h2, h3]

/-- The input projection's reference, which runs no kernel, leaves its arguments and every semaphore counter as they were. -/
theorem frame_inproj_reference (m : (ℓ : Loc Cert.InprojReferenceIdeal.nD Cert.InprojReferenceIdeal.τ Cert.InprojReferenceIdeal.sig) → Buf (Elt Ideal) ℓ)
    (g : Dev Cert.InprojReferenceIdeal.nD → PrngReg) :
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6))
      ∧ r.2.sem = fun _ => 0) :=
  (θ_run Cert.InprojReferenceIdeal.defs _ _).mono (fun r h => ⟨fun c => (h c).2.2.2.2.2.2, sem_eq_zero_of_no_sems rfl r.2⟩) (Cert.InprojReferenceIdeal.Value.run m g)

/-- The input projection's six results and its reference's are the same functions of the arguments. -/
theorem algebraic_inproj : Cert.algebraic_InprojIdeal_InprojReferenceIdeal (hInprojIdeal := Cert.InprojIdeal.Gen.facts)
    (hInprojReferenceIdeal := Cert.InprojReferenceIdeal.Gen.facts) := by
  intro m g m' g' _ hm
  refine ⟨fun c => Cert.InprojIdeal.Arrays.goalPool m c, fun c => Cert.InprojIdeal.Arrays.goalLru m c, fun c => Cert.InprojIdeal.Arrays.goalQ m c,
    fun c => Cert.InprojIdeal.Arrays.goalK m c, fun c => Cert.InprojIdeal.Arrays.goalV m c, fun c => Cert.InprojIdeal.Arrays.goalGate m c, ?_, ?_⟩
  · refine (θ_run Cert.InprojIdeal.defs _ _).mono (fun r h c => ?_) (Cert.InprojIdeal.Value.run_blocks m g)
    obtain ⟨h0, h1, h2, h3, h4, h5, h6⟩ := h c
    exact ⟨h0.trans (Cert.InprojIdeal.Arrays.arr_pool m c), h1.trans (Cert.InprojIdeal.Arrays.arr_lru m c), h2.trans (Cert.InprojIdeal.Arrays.arr_q m c),
      h3.trans (Cert.InprojIdeal.Arrays.arr_k m c), h4.trans (Cert.InprojIdeal.Arrays.arr_v m c), h5.trans (Cert.InprojIdeal.Arrays.arr_gate m c), h6⟩
  · refine (θ_run Cert.InprojReferenceIdeal.defs _ _).mono (fun r h c => ?_) (Cert.InprojReferenceIdeal.Value.run m' g')
    obtain ⟨h0, h1, h2, h3, h4, h5, h6⟩ := h c
    obtain ⟨e0, e1, e2, e3, e4, e5, e6⟩ := hm c
    refine ⟨h0.trans ?_, h1.trans ?_, h2.trans ((Cert.InprojReferenceIdeal.At.res_q m' c).trans ?_), h3.trans ((Cert.InprojReferenceIdeal.At.res_k m' c).trans ?_),
      h4.trans ?_, h5.trans ?_, h6⟩
    · rw [e0, e1, e2]; rfl
    · rw [e0, e1, e2]; rfl
    · rw [e0, e1, e2, e3, e5, e6]; rfl
    · rw [e0, e1, e2, e4, e5, e6]; rfl
    · rw [e0, e1, e2]; rfl
    · rw [e0, e1, e2]; rfl

/-- The output projection's reference, which runs no kernel, leaves its arguments and every semaphore counter as they were. -/
theorem frame_outproj_reference (m : (ℓ : Loc Cert.OutprojReferenceIdeal.nD Cert.OutprojReferenceIdeal.τ Cert.OutprojReferenceIdeal.sig) → Buf (Elt Ideal) ℓ)
    (g : Dev Cert.OutprojReferenceIdeal.nD → PrngReg) :
    θ_run (Cert.OutprojReferenceIdeal.defs (F := Ideal)) (onTc (τ := Cert.OutprojReferenceIdeal.τ) (Cert.OutprojReferenceIdeal.main (F := Ideal))) ⟨m, fun _ => 0, g⟩ (fun r => (∀ c : Dev Cert.OutprojReferenceIdeal.nD,
      r.2.mem ((c.tc : Thread Cert.OutprojReferenceIdeal.nD Cert.OutprojReferenceIdeal.τ).loc Cert.OutprojReferenceIdeal.main_arg0) = m ((c.tc : Thread Cert.OutprojReferenceIdeal.nD Cert.OutprojReferenceIdeal.τ).loc Cert.OutprojReferenceIdeal.main_arg0)
      ∧ r.2.mem ((c.tc : Thread Cert.OutprojReferenceIdeal.nD Cert.OutprojReferenceIdeal.τ).loc Cert.OutprojReferenceIdeal.main_arg1) = m ((c.tc : Thread Cert.OutprojReferenceIdeal.nD Cert.OutprojReferenceIdeal.τ).loc Cert.OutprojReferenceIdeal.main_arg1)
      ∧ r.2.mem ((c.tc : Thread Cert.OutprojReferenceIdeal.nD Cert.OutprojReferenceIdeal.τ).loc Cert.OutprojReferenceIdeal.main_arg2) = m ((c.tc : Thread Cert.OutprojReferenceIdeal.nD Cert.OutprojReferenceIdeal.τ).loc Cert.OutprojReferenceIdeal.main_arg2)
      ∧ r.2.mem ((c.tc : Thread Cert.OutprojReferenceIdeal.nD Cert.OutprojReferenceIdeal.τ).loc Cert.OutprojReferenceIdeal.main_arg3) = m ((c.tc : Thread Cert.OutprojReferenceIdeal.nD Cert.OutprojReferenceIdeal.τ).loc Cert.OutprojReferenceIdeal.main_arg3)
      ∧ r.2.mem ((c.tc : Thread Cert.OutprojReferenceIdeal.nD Cert.OutprojReferenceIdeal.τ).loc Cert.OutprojReferenceIdeal.main_arg4) = m ((c.tc : Thread Cert.OutprojReferenceIdeal.nD Cert.OutprojReferenceIdeal.τ).loc Cert.OutprojReferenceIdeal.main_arg4)
      ∧ r.2.mem ((c.tc : Thread Cert.OutprojReferenceIdeal.nD Cert.OutprojReferenceIdeal.τ).loc Cert.OutprojReferenceIdeal.main_arg5) = m ((c.tc : Thread Cert.OutprojReferenceIdeal.nD Cert.OutprojReferenceIdeal.τ).loc Cert.OutprojReferenceIdeal.main_arg5)
      ∧ r.2.mem ((c.tc : Thread Cert.OutprojReferenceIdeal.nD Cert.OutprojReferenceIdeal.τ).loc Cert.OutprojReferenceIdeal.main_arg6) = m ((c.tc : Thread Cert.OutprojReferenceIdeal.nD Cert.OutprojReferenceIdeal.τ).loc Cert.OutprojReferenceIdeal.main_arg6))
      ∧ r.2.sem = fun _ => 0) :=
  (θ_run Cert.OutprojReferenceIdeal.defs _ _).mono (fun r h => ⟨fun c => (h c).2, sem_eq_zero_of_no_sems rfl r.2⟩) (Cert.OutprojReferenceIdeal.Value.run m g)

/-- The output projection's result and its reference's are one function of the arguments. -/
theorem algebraic_outproj : Cert.algebraic_OutprojIdeal_OutprojReferenceIdeal_pre_tame_gates (hOutprojIdeal := Cert.OutprojIdeal.Gen.facts)
    (hOutprojReferenceIdeal := Cert.OutprojReferenceIdeal.Gen.facts) (hPre_tame_gates := Cert.Pre_tame_gates.Gen.facts) := by
  intro m g m' g' hpre hm
  have hG (c : Dev Cert.OutprojIdeal.nD) := Cert.Pre_tame_gates.fn_one _ _ _ _ _ _ _ (congrFun (hpre c) _)
  refine ⟨fun c => Cert.OutprojIdeal.Arrays.goal m c, ?_, ?_⟩
  · exact (θ_run Cert.OutprojIdeal.defs _ _).mono (fun r h c => ⟨(h c).1.trans (Cert.OutprojIdeal.Arrays.arr_eq m c (hG c)), (h c).2⟩)
      (Cert.OutprojIdeal.Value.run_blocks m g)
  · refine (θ_run Cert.OutprojReferenceIdeal.defs _ _).mono (fun r h c => ⟨(h c).1.trans ?_, (h c).2⟩) (Cert.OutprojReferenceIdeal.Value.run m' g')
    obtain ⟨e0, e1, e2, e3, e4, e5, e6⟩ := hm c
    rw [Cert.OutprojReferenceIdeal.At.joined_eq]
    refine Eq.trans (b := Cert.OutprojReferenceIdeal.At.whole (m' ((c.tc : Thread Cert.OutprojReferenceIdeal.nD Cert.OutprojReferenceIdeal.τ).loc Cert.OutprojReferenceIdeal.main_arg0))
      (m' ((c.tc : Thread Cert.OutprojReferenceIdeal.nD Cert.OutprojReferenceIdeal.τ).loc Cert.OutprojReferenceIdeal.main_arg1))
      (m' ((c.tc : Thread Cert.OutprojReferenceIdeal.nD Cert.OutprojReferenceIdeal.τ).loc Cert.OutprojReferenceIdeal.main_arg2))
      (m' ((c.tc : Thread Cert.OutprojReferenceIdeal.nD Cert.OutprojReferenceIdeal.τ).loc Cert.OutprojReferenceIdeal.main_arg3))
      (m' ((c.tc : Thread Cert.OutprojReferenceIdeal.nD Cert.OutprojReferenceIdeal.τ).loc Cert.OutprojReferenceIdeal.main_arg4))
      (m' ((c.tc : Thread Cert.OutprojReferenceIdeal.nD Cert.OutprojReferenceIdeal.τ).loc Cert.OutprojReferenceIdeal.main_arg5))
      (m' ((c.tc : Thread Cert.OutprojReferenceIdeal.nD Cert.OutprojReferenceIdeal.τ).loc Cert.OutprojReferenceIdeal.main_arg6))) rfl ?_
    unfold Cert.OutprojIdeal.Arrays.goal
    rw [e0, e1, e2, e3, e4, e5, e6]
    rfl

theorem claim : Cert.Claim := ⟨Cert.Kernel.Gen.facts, Cert.KernelIdeal.Gen.facts, Cert.ReferenceIdeal.Gen.facts, Cert.Inproj.Gen.facts,
  Cert.InprojIdeal.Gen.facts, Cert.InprojReferenceIdeal.Gen.facts, Cert.Outproj.Gen.facts, Cert.OutprojIdeal.Gen.facts,
  Cert.OutprojReferenceIdeal.Gen.facts, Cert.Pre_tame.Gen.facts, Cert.Pre_tame_gates.Gen.facts,
  fun m g _ => Cert.Kernel.Run.frame m g, fun m g _ => Cert.KernelIdeal.Run.frame m g, fun m g _ => Cert.KernelIdeal.Run.frame m g,
  fun m g _ => frame_reference m g, fun m g _ => frame_reference m g,
  fun m g _ => Cert.Inproj.Gen.frame m g, fun m g _ => Cert.InprojIdeal.Gen.frame m g, fun m g _ => frame_inproj_reference m g,
  fun m g _ => Cert.Outproj.Gen.frame m g, fun m g _ => Cert.OutprojIdeal.Gen.frame m g, fun m g _ => Cert.OutprojIdeal.Gen.frame m g,
  fun m g _ => frame_outproj_reference m g, fun m g _ => frame_outproj_reference m g,
  trivial, algebraic, trivial, algebraic_inproj, trivial, algebraic_outproj⟩

end Cert.Proof
